-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x36CCCCCD#32 ((1 / 163840 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_2)) (v1 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_2) = v0 c
          ∧ r.2.mem ((c.tc : Thread Cert.KernelIdeal.nD Cert.KernelIdeal.τ).loc Cert.KernelIdeal.main_v6_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x16384x320 : Shape := ⟨3, ![2, 16384, 320]⟩
abbrev S320 : Shape := ⟨1, ![320]⟩
abbrev S_ : Shape := ⟨0, ![]⟩

class Facts : Prop where
  bcast_S_S2x16384x320 : S_.BroadcastsInDim S2x16384x320 (![] : Fin 0 → Fin S2x16384x320.rank)
  reducesTo_S2x16384x320_S_d0_1_2 : S2x16384x320.ReducesTo [0, 1, 2] S_
  h_S_ : 0 < S_.numel
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S_ .f32) (main_v15 : IVec S_ 1) (main_cst_5 : FVec F S_ .f32) : IVec S_ 1 :=
  let main_v16 : IVec S_ 1 := cmpf .olt main_arg4 main_cst_5
  let main_v17 : IVec S_ 1 := andi main_v15 main_v16
  main_v17

def fn {F : FTy → Type} [FloatOps F] (main_arg0 : FVec F S2x16384x320 .bf16) (main_arg1 : FVec F S320 .f32) (main_arg2 : FVec F S320 .f32) (main_arg3 : FVec F S2x16384x320 .fp8e5m2) (main_arg4 : FVec F S_ .f32) : IVec S_ 1 :=
  let main_v0 : FVec F S2x16384x320 .bf16 := Host.absf main_arg0
  let main_cst : FVec F S_ .bf16 := constant S_ .bf16 0x7F80#16
  let main_v1 : FVec F S2x16384x320 .bf16 := broadcastInDim S2x16384x320 ![] bcast_S_S2x16384x320 main_cst
  let main_v2 : IVec S2x16384x320 1 := cmpf .olt main_v0 main_v1
  let main_c : IVec S_ 1 := constantI S_ 1 1#1
  let main_v3 : IVec S_ 1 := (fun x v => Host.reduce IntOp.andi x v reducesTo_S2x16384x320_S_d0_1_2 h_S_) main_v2 main_c
  let main_v4 : FVec F S320 .f32 := Host.absf main_arg1
  let main_cst_0 : FVec F S_ .f32 := constant S_ .f32 0x7F800000#32
  let main_v5 : FVec F S320 .f32 := broadcastInDim S320 ![] bcast_S_S320 main_cst_0
  let main_v6 : IVec S320 1 := cmpf .olt main_v4 main_v5
  let main_c_1 : IVec S_ 1 := constantI S_ 1 1#1
  let main_v7 : IVec S_ 1 := (fun x v => Host.reduce IntOp.andi x v reducesTo_S320_S_d0 h_S_) main_v6 main_c_1
  let main_v8 : IVec S_ 1 := andi main_v3 main_v7
  let main_v9 : FVec F S320 .f32 := Host.absf main_arg2
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_c_3 : IVec S_ 1 := constantI S_ 1 1#1
  let main_v12 : IVec S_ 1 := (fun x v => Host.reduce IntOp.andi x v reducesTo_S320_S_d0 h_S_) main_v11 main_c_3
  let main_v13 : IVec S_ 1 := andi main_v8 main_v12
  let main_cst_4 : FVec F S_ .f32 := constant S_ .f32 0x00000000#32
  let main_v14 : IVec S_ 1 := cmpf .oge main_arg4 main_cst_4
  let main_v15 : IVec S_ 1 := andi main_v13 main_v14
  let main_cst_5 : FVec F S_ .f32 := constant S_ .f32 0x7F800000#32
  fn_part1 (F := F) main_arg4 main_v15 main_cst_5
-- ==== Kernel.lean ====
abbrev S2x16384x320 : Shape := ⟨3, ![2, 16384, 320]⟩
abbrev S320 : Shape := ⟨1, ![320]⟩
abbrev S_ : Shape := ⟨0, ![]⟩
abbrev S2x320x16384 : Shape := ⟨3, ![2, 320, 16384]⟩
abbrev S1x320 : Shape := ⟨2, ![1, 320]⟩
abbrev S1x1 : Shape := ⟨2, ![1, 1]⟩
abbrev S16x128 : Shape := ⟨2, ![16, 128]⟩
abbrev S2x160x16384 : Shape := ⟨3, ![2, 160, 16384]⟩
abbrev S4x160x16384 : Shape := ⟨3, ![4, 160, 16384]⟩
abbrev S320x128 : Shape := ⟨2, ![320, 128]⟩
abbrev S160x128 : Shape := ⟨2, ![160, 128]⟩
abbrev S32x128 : Shape := ⟨2, ![32, 128]⟩
abbrev S2 : Shape := ⟨1, ![2]⟩
abbrev S10 : Shape := ⟨1, ![10]⟩
abbrev S1 : Shape := ⟨1, ![1]⟩
abbrev S1x160x16384 : Shape := ⟨3, ![1, 160, 16384]⟩
abbrev S160x16384 : Shape := ⟨2, ![160, 16384]⟩
abbrev S1x128 : Shape := ⟨2, ![1, 128]⟩
abbrev S128x128 : Shape := ⟨2, ![128, 128]⟩
abbrev S1x64 : Shape := ⟨2, ![1, 64]⟩
abbrev S128x64 : Shape := ⟨2, ![128, 64]⟩
abbrev S64x128 : Shape := ⟨2, ![64, 128]⟩
abbrev S1x16x128 : Shape := ⟨3, ![1, 16, 128]⟩
abbrev S16 : Shape := ⟨1, ![16]⟩
abbrev S16x1 : Shape := ⟨2, ![16, 1]⟩
abbrev S1x1x1 : Shape := ⟨3, ![1, 1, 1]⟩
abbrev S1x32x128 : Shape := ⟨3, ![1, 32, 128]⟩
abbrev S160 : Shape := ⟨1, ![160]⟩
abbrev S160x1 : Shape := ⟨2, ![160, 1]⟩
abbrev S8x128 : Shape := ⟨2, ![8, 128]⟩
abbrev S1x32x16384 : Shape := ⟨3, ![1, 32, 16384]⟩
abbrev S32x16384 : Shape := ⟨2, ![32, 16384]⟩

abbrev nBuf : Space → Nat
  | .hbm => 16
  | .vmem => 21
  | .smem => 2
  | _ => 0

abbrev bufTy : (tb : Table) → Fin (tcTables nBuf tb) → BufTy
  | .hbm, ⟨0, _⟩ => ⟨S2x16384x320, .bf16⟩
  | .hbm, ⟨1, _⟩ => ⟨S320, .f32⟩
  | .hbm, ⟨2, _⟩ => ⟨S320, .f32⟩
  | .hbm, ⟨3, _⟩ => ⟨S2x16384x320, .fp8e5m2⟩
  | .hbm, ⟨4, _⟩ => ⟨S_, .f32⟩
  | .hbm, ⟨5, _⟩ => ⟨S2x320x16384, .bf16⟩
  | .hbm, ⟨6, _⟩ => ⟨S2x320x16384, .fp8e5m2⟩
  | .hbm, ⟨7, _⟩ => ⟨S1x320, .f32⟩
  | .hbm, ⟨8, _⟩ => ⟨S1x320, .f32⟩
  | .hbm, ⟨9, _⟩ => ⟨S1x1, .f32⟩
  | .hbm, ⟨10, _⟩ => ⟨S_, .bf16⟩
  | .hbm, ⟨11, _⟩ => ⟨S16x128, .bf16⟩
  | .hbm, ⟨12, _⟩ => ⟨S2x320x16384, .fp8e5m2⟩
  | .hbm, ⟨13, _⟩ => ⟨S1x1, .f32⟩
  | .hbm, ⟨14, _⟩ => ⟨S1x320, .f32⟩
  | .hbm, ⟨15, _⟩ => ⟨S1x320, .f32⟩
  | .local _ .vmem, ⟨0, _⟩ => ⟨S1x320, .f32⟩
  | .local _ .vmem, ⟨1, _⟩ => ⟨S1x320, .f32⟩
  | .local _ .vmem, ⟨2, _⟩ => ⟨S16x128, .bf16⟩
  | .local _ .vmem, ⟨3, _⟩ => ⟨S1x320, .f32⟩
  | .local _ .vmem, ⟨4, _⟩ => ⟨S1x320, .f32⟩
  | .local _ .vmem, ⟨5, _⟩ => ⟨S2x160x16384, .bf16⟩
  | .local _ .vmem, ⟨6, _⟩ => ⟨S2x160x16384, .fp8e5m2⟩
  | .local _ .vmem, ⟨7, _⟩ => ⟨S4x160x16384, .f32⟩
  | .local _ .vmem, ⟨8, _⟩ => ⟨S320x128, .f32⟩
  | .local _ .vmem, ⟨9, _⟩ => ⟨S320x128, .f32⟩
  | .local _ .vmem, ⟨10, _⟩ => ⟨S160x128, .f32⟩
  | .local _ .vmem, ⟨11, _⟩ => ⟨S160x128, .f32⟩
  | .local _ .vmem, ⟨12, _⟩ => ⟨S160x128, .f32⟩
  | .local _ .vmem, ⟨13, _⟩ => ⟨S160x128, .f32⟩
  | .local _ .vmem, ⟨14, _⟩ => ⟨S16x128, .f32⟩
  | .local _ .vmem, ⟨15, _⟩ => ⟨S160x128, .f32⟩
  | .local _ .vmem, ⟨16, _⟩ => ⟨S160x128, .f32⟩
  | .local _ .vmem, ⟨17, _⟩ => ⟨S160x128, .f32⟩
  | .local _ .vmem, ⟨18, _⟩ => ⟨S320x128, .f32⟩
  | .local _ .vmem, ⟨19, _⟩ => ⟨S320x128, .f32⟩
  | .local _ .vmem, ⟨20, _⟩ => ⟨S32x128, .f32⟩
  | .local _ .smem, ⟨0, _⟩ => ⟨S1x1, .f32⟩
  | .local _ .smem, ⟨1, _⟩ => ⟨S1x1, .f32⟩
  | _, _ => ⟨S2x16384x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_scratch14 : Ref sig .tc := ⟨.vmem, 19, rfl⟩
abbrev cc0_scratch15 : Ref sig .tc := ⟨.vmem, 20, rfl⟩
abbrev cc0_stg2_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_59 : BitVec 32 := 0#32
  let c10_i32 : BitVec 32 := 10#32
  let v86 : BitVec 32 := Scalar.addi c0_i32_59 c10_i32
  let c1_i32_60 : BitVec 32 := 1#32
  ⟨c0_i32_59, v86, c1_i32_60⟩
def k0_mult1 (k0_t1 : Fin k0_t1_loop.trips) : BitVec 32 :=
  let c0_i32_59 : BitVec 32 := 0#32
  let c1_i32_60 : BitVec 32 := 1#32
  let arg29 : BitVec 32 := Scf.iv c0_i32_59 c1_i32_60 k0_t1
  let c16_i32_1448 : BitVec 32 := 16#32
  let v1710 : BitVec 32 := Scalar.muli arg29 c16_i32_1448
  v1710
@[reducible] def k0_t2_loop : Scf.Loop 32 :=
  let c0_i32_1450 : BitVec 32 := 0#32
  let c8_i32_1451 : BitVec 32 := 8#32
  let v1713 : BitVec 32 := Scalar.addi c0_i32_1450 c8_i32_1451
  let c1_i32_1452 : BitVec 32 := 1#32
  ⟨c0_i32_1450, v1713, c1_i32_1452⟩
def k0_mult2 (k0_t2 : Fin k0_t2_loop.trips) : BitVec 32 :=
  let c0_i32_1450 : BitVec 32 := 0#32
  let c1_i32_1452 : BitVec 32 := 1#32
  let arg30 : BitVec 32 := Scf.iv c0_i32_1450 c1_i32_1452 k0_t2
  let c2048_i32 : BitVec 32 := 2048#32
  let v1723 : BitVec 32 := Scalar.muli arg30 c2048_i32
  v1723
def k0_off1 (k0_t1 : Fin k0_t1_loop.trips) (k0_t2 : Fin k0_t2_loop.trips) (c0_i32_1456 : BitVec 32) : Fin 3 → Nat :=
  let c0_1457 : Index := 0#32
  let c0_i32_59 : BitVec 32 := 0#32
  let c1_i32_60 : BitVec 32 := 1#32
  let arg29 : BitVec 32 := Scf.iv c0_i32_59 c1_i32_60 k0_t1
  let c16_i32_1448 : BitVec 32 := 16#32
  let v1710 : BitVec 32 := Scalar.muli arg29 c16_i32_1448
  let v1711 : BitVec 32 := v1710
  let v1726 : Index := Scalar.indexCast v1711
  let c0_i32_1450 : BitVec 32 := 0#32
  let c1_i32_1452 : BitVec 32 := 1#32
  let arg30 : BitVec 32 := Scf.iv c0_i32_1450 c1_i32_1452 k0_t2
  let c2048_i32 : BitVec 32 := 2048#32
  let v1723 : BitVec 32 := Scalar.muli arg30 c2048_i32
  let v1724 : BitVec 32 := v1723
  let v1725 : BitVec 32 := Scalar.addi v1724 c0_i32_1456
  let v1727 : Index := Scalar.indexCast v1725
  ![0, v1726.toNat, v1727.toNat]
def k0_off2 (k0_t1 : Fin k0_t1_loop.trips) : Fin 2 → Nat :=
  let c0_i32_59 : BitVec 32 := 0#32
  let c1_i32_60 : BitVec 32 := 1#32
  let arg29 : BitVec 32 := Scf.iv c0_i32_59 c1_i32_60 k0_t1
  let c16_i32_1448 : BitVec 32 := 16#32
  let v1710 : BitVec 32 := Scalar.muli arg29 c16_i32_1448
  let v1711 : BitVec 32 := v1710
  let v1715 : Index := Scalar.indexCast v1711
  let c0_1454 : Index := 0#32
  ![v1715.toNat, 0]
@[reducible] def k0_t3_loop : Scf.Loop 32 :=
  let c0_i32_1448 : BitVec 32 := 0#32
  let c10_i32_1449 : BitVec 32 := 10#32
  let v1710 : BitVec 32 := Scalar.addi c0_i32_1448 c10_i32_1449
  let c1_i32_1450 : BitVec 32 := 1#32
  ⟨c0_i32_1448, v1710, c1_i32_1450⟩
def k0_mult3 (k0_t3 : Fin k0_t3_loop.trips) : BitVec 32 :=
  let c0_i32_1448 : BitVec 32 := 0#32
  let c1_i32_1450 : BitVec 32 := 1#32
  let arg29 : BitVec 32 := Scf.iv c0_i32_1448 c1_i32_1450 k0_t3
  let c16_i32_1476 : BitVec 32 := 16#32
  let v1739 : BitVec 32 := Scalar.muli arg29 c16_i32_1476
  v1739
def k0_off3 (k0_t3 : Fin k0_t3_loop.trips) : Fin 2 → Nat :=
  let c0_i32_1448 : BitVec 32 := 0#32
  let c1_i32_1450 : BitVec 32 := 1#32
  let arg29 : BitVec 32 := Scf.iv c0_i32_1448 c1_i32_1450 k0_t3
  let c16_i32_1476 : BitVec 32 := 16#32
  let v1739 : BitVec 32 := Scalar.muli arg29 c16_i32_1476
  let v1740 : BitVec 32 := v1739
  let v1741 : Index := Scalar.indexCast v1740
  let c0_1477 : Index := 0#32
  ![v1741.toNat, 0]
@[reducible] def k0_t4_loop : Scf.Loop 32 :=
  let c0_i32_1479 : BitVec 32 := 0#32
  let c32_i32_1480 : BitVec 32 := 32#32
  let v1744 : BitVec 32 := Scalar.addi c0_i32_1479 c32_i32_1480
  let c1_i32_1481 : BitVec 32 := 1#32
  ⟨c0_i32_1479, v1744, c1_i32_1481⟩
def k0_mult4 (k0_t4 : Fin k0_t4_loop.trips) : BitVec 32 :=
  let c0_i32_1479 : BitVec 32 := 0#32
  let c1_i32_1481 : BitVec 32 := 1#32
  let arg30 : BitVec 32 := Scf.iv c0_i32_1479 c1_i32_1481 k0_t4
  let c512_i32 : BitVec 32 := 512#32
  let v1750 : BitVec 32 := Scalar.muli arg30 c512_i32
  v1750
def k0_off4 (k0_t3 : Fin k0_t3_loop.trips) (k0_t4 : Fin k0_t4_loop.trips) (c0_i32_1484 : BitVec 32) : Fin 3 → Nat :=
  let c0_1485 : Index := 0#32
  let c0_i32_1448 : BitVec 32 := 0#32
  let c1_i32_1450 : BitVec 32 := 1#32
  let arg29 : BitVec 32 := Scf.iv c0_i32_1448 c1_i32_1450 k0_t3
  let c16_i32_1476 : BitVec 32 := 16#32
  let v1739 : BitVec 32 := Scalar.muli arg29 c16_i32_1476
  let v1740 : BitVec 32 := v1739
  let v1753 : Index := Scalar.indexCast v1740
  let c0_i32_1479 : BitVec 32 := 0#32
  let c1_i32_1481 : BitVec 32 := 1#32
  let arg30 : BitVec 32 := Scf.iv c0_i32_1479 c1_i32_1481 k0_t4
  let c512_i32 : BitVec 32 := 512#32
  let v1750 : BitVec 32 := Scalar.muli arg30 c512_i32
  let v1751 : BitVec 32 := v1750
  let v1752 : BitVec 32 := Scalar.addi v1751 c0_i32_1484
  let v1754 : Index := Scalar.indexCast v1752
  ![0, v1753.toNat, v1754.toNat]
def k0_mult5 (k0_t4 : Fin k0_t4_loop.trips) : BitVec 32 :=
  let c0_i32_1479 : BitVec 32 := 0#32
  let c1_i32_1481 : BitVec 32 := 1#32
  let arg30 : BitVec 32 := Scf.iv c0_i32_1479 c1_i32_1481 k0_t4
  let c512_i32_1486 : BitVec 32 := 512#32
  let v1761 : BitVec 32 := Scalar.muli arg30 c512_i32_1486
  v1761
def k0_mult6 (k0_t4 : Fin k0_t4_loop.trips) : BitVec 32 :=
  let c0_i32_1479 : BitVec 32 := 0#32
  let c1_i32_1481 : BitVec 32 := 1#32
  let arg30 : BitVec 32 := Scf.iv c0_i32_1479 c1_i32_1481 k0_t4
  let c512_i32_1489 : BitVec 32 := 512#32
  let v1772 : BitVec 32 := Scalar.muli arg30 c512_i32_1489
  v1772
def k0_mult7 (k0_t4 : Fin k0_t4_loop.trips) : BitVec 32 :=
  let c0_i32_1479 : BitVec 32 := 0#32
  let c1_i32_1481 : BitVec 32 := 1#32
  let arg30 : BitVec 32 := Scf.iv c0_i32_1479 c1_i32_1481 k0_t4
  let c512_i32_1492 : BitVec 32 := 512#32
  let v1783 : BitVec 32 := Scalar.muli arg30 c512_i32_1492
  v1783
@[reducible] def k0_t5_loop : Scf.Loop 32 :=
  let c0_i32_168 : BitVec 32 := 0#32
  let c5_i32 : BitVec 32 := 5#32
  let v241 : BitVec 32 := Scalar.addi c0_i32_168 c5_i32
  let c1_i32_169 : BitVec 32 := 1#32
  ⟨c0_i32_168, v241, c1_i32_169⟩
def k0_mult8 (k0_t5 : Fin k0_t5_loop.trips) : BitVec 32 :=
  let c0_i32_168 : BitVec 32 := 0#32
  let c1_i32_169 : BitVec 32 := 1#32
  let arg29 : BitVec 32 := Scf.iv c0_i32_168 c1_i32_169 k0_t5
  let c32_i32_1448 : BitVec 32 := 32#32
  let v1710 : BitVec 32 := Scalar.muli arg29 c32_i32_1448
  v1710
def k0_off5 (k0_t5 : Fin k0_t5_loop.trips) : Fin 2 → Nat :=
  let c0_i32_168 : BitVec 32 := 0#32
  let c1_i32_169 : BitVec 32 := 1#32
  let arg29 : BitVec 32 := Scf.iv c0_i32_168 c1_i32_169 k0_t5
  let c32_i32_1448 : BitVec 32 := 32#32
  let v1710 : BitVec 32 := Scalar.muli arg29 c32_i32_1448
  let v1711 : BitVec 32 := v1710
  let v1712 : Index := Scalar.indexCast v1711
  let c0_1449 : Index := 0#32
  ![v1712.toNat, 0]
@[reducible] def k0_t6_loop : Scf.Loop 32 :=
  let c0_i32_1452 : BitVec 32 := 0#32
  let c16_i32_1453 : BitVec 32 := 16#32
  let v1717 : BitVec 32 := Scalar.addi c0_i32_1452 c16_i32_1453
  let c1_i32_1454 : BitVec 32 := 1#32
  ⟨c0_i32_1452, v1717, c1_i32_1454⟩
def k0_mult9 (k0_t6 : Fin k0_t6_loop.trips) : BitVec 32 :=
  let c0_i32_1452 : BitVec 32 := 0#32
  let c1_i32_1454 : BitVec 32 := 1#32
  let arg30 : BitVec 32 := Scf.iv c0_i32_1452 c1_i32_1454 k0_t6
  let c1024_i32 : BitVec 32 := 1024#32
  let v1727 : BitVec 32 := Scalar.muli arg30 c1024_i32
  v1727
def k0_off6 (k0_t5 : Fin k0_t5_loop.trips) (k0_t6 : Fin k0_t6_loop.trips) (c0_i32_1458 : BitVec 32) : Fin 3 → Nat :=
  let c0_1459 : Index := 0#32
  let c0_i32_168 : BitVec 32 := 0#32
  let c1_i32_169 : BitVec 32 := 1#32
  let arg29 : BitVec 32 := Scf.iv c0_i32_168 c1_i32_169 k0_t5
  let c32_i32_1448 : BitVec 32 := 32#32
  let v1710 : BitVec 32 := Scalar.muli arg29 c32_i32_1448
  let v1711 : BitVec 32 := v1710
  let v1730 : Index := Scalar.indexCast v1711
  let c0_i32_1452 : BitVec 32 := 0#32
  let c1_i32_1454 : BitVec 32 := 1#32
  let arg30 : BitVec 32 := Scf.iv c0_i32_1452 c1_i32_1454 k0_t6
  let c1024_i32 : BitVec 32 := 1024#32
  let v1727 : BitVec 32 := Scalar.muli arg30 c1024_i32
  let v1728 : BitVec 32 := v1727
  let v1729 : BitVec 32 := Scalar.addi v1728 c0_i32_1458
  let v1731 : Index := Scalar.indexCast v1729
  ![0, v1730.toNat, v1731.toNat]
def k0_off7 (k0_t5 : Fin k0_t5_loop.trips) (k0_t6 : Fin k0_t6_loop.trips) (c0_i32_1458 : BitVec 32) : Fin 3 → Nat :=
  let c0_1462 : Index := 0#32
  let c0_i32_168 : BitVec 32 := 0#32
  let c1_i32_169 : BitVec 32 := 1#32
  let arg29 : BitVec 32 := Scf.iv c0_i32_168 c1_i32_169 k0_t5
  let c32_i32_1448 : BitVec 32 := 32#32
  let v1710 : BitVec 32 := Scalar.muli arg29 c32_i32_1448
  let v1711 : BitVec 32 := v1710
  let v1749 : Index := Scalar.indexCast v1711
  let c0_i32_1452 : BitVec 32 := 0#32
  let c1_i32_1454 : BitVec 32 := 1#32
  let arg30 : BitVec 32 := Scf.iv c0_i32_1452 c1_i32_1454 k0_t6
  let c1024_i32 : BitVec 32 := 1024#32
  let v1727 : BitVec 32 := Scalar.muli arg30 c1024_i32
  let v1728 : BitVec 32 := v1727
  let v1729 : BitVec 32 := Scalar.addi v1728 c0_i32_1458
  let v1750 : Index := Scalar.indexCast v1729
  ![0, v1749.toNat, v1750.toNat]
@[reducible] def k0_t7_loop : Scf.Loop 32 :=
  let c0_i32_283 : BitVec 32 := 0#32
  let c5_i32_284 : BitVec 32 := 5#32
  let v397 : BitVec 32 := Scalar.addi c0_i32_283 c5_i32_284
  let c1_i32_285 : BitVec 32 := 1#32
  ⟨c0_i32_283, v397, c1_i32_285⟩
def k0_mult10 (k0_t7 : Fin k0_t7_loop.trips) : BitVec 32 :=
  let c0_i32_283 : BitVec 32 := 0#32
  let c1_i32_285 : BitVec 32 := 1#32
  let arg29 : BitVec 32 := Scf.iv c0_i32_283 c1_i32_285 k0_t7
  let c32_i32_1448 : BitVec 32 := 32#32
  let v1710 : BitVec 32 := Scalar.muli arg29 c32_i32_1448
  v1710
def k0_off8 (k0_t7 : Fin k0_t7_loop.trips) : Fin 2 → Nat :=
  let c0_i32_283 : BitVec 32 := 0#32
  let c1_i32_285 : BitVec 32 := 1#32
  let arg29 : BitVec 32 := Scf.iv c0_i32_283 c1_i32_285 k0_t7
  let c32_i32_1448 : BitVec 32 := 32#32
  let v1710 : BitVec 32 := Scalar.muli arg29 c32_i32_1448
  let v1711 : BitVec 32 := v1710
  let v1712 : Index := Scalar.indexCast v1711
  let c0_1449 : Index := 0#32
  ![v1712.toNat, 0]
@[reducible] def k0_t8_loop : Scf.Loop 32 :=
  let c0_i32_1454 : BitVec 32 := 0#32
  let c16_i32_1455 : BitVec 32 := 16#32
  let v1719 : BitVec 32 := Scalar.addi c0_i32_1454 c16_i32_1455
  let c1_i32_1456 : BitVec 32 := 1#32
  ⟨c0_i32_1454, v1719, c1_i32_1456⟩
def k0_mult11 (k0_t8 : Fin k0_t8_loop.trips) : BitVec 32 :=
  let c0_i32_1454 : BitVec 32 := 0#32
  let c1_i32_1456 : BitVec 32 := 1#32
  let arg30 : BitVec 32 := Scf.iv c0_i32_1454 c1_i32_1456 k0_t8
  let c1024_i32 : BitVec 32 := 1024#32
  let v1724 : BitVec 32 := Scalar.muli arg30 c1024_i32
  v1724
def k0_off9 (k0_t7 : Fin k0_t7_loop.trips) (k0_t8 : Fin k0_t8_loop.trips) (c0_i32_1460 : BitVec 32) : Fin 3 → Nat :=
  let c0_1461 : Index := 0#32
  let c0_i32_283 : BitVec 32 := 0#32
  let c1_i32_285 : BitVec 32 := 1#32
  let arg29 : BitVec 32 := Scf.iv c0_i32_283 c1_i32_285 k0_t7
  let c32_i32_1448 : BitVec 32 := 32#32
  let v1710 : BitVec 32 := Scalar.muli arg29 c32_i32_1448
  let v1711 : BitVec 32 := v1710
  let v1727 : Index := Scalar.indexCast v1711
  let c0_i32_1454 : BitVec 32 := 0#32
  let c1_i32_1456 : BitVec 32 := 1#32
  let arg30 : BitVec 32 := Scf.iv c0_i32_1454 c1_i32_1456 k0_t8
  let c1024_i32 : BitVec 32 := 1024#32
  let v1724 : BitVec 32 := Scalar.muli arg30 c1024_i32
  let v1725 : BitVec 32 := v1724
  let v1726 : BitVec 32 := Scalar.addi v1725 c0_i32_1460
  let v1728 : Index := Scalar.indexCast v1726
  ![0, v1727.toNat, v1728.toNat]
def k0_off10 (k0_t7 : Fin k0_t7_loop.trips) (k0_t8 : Fin k0_t8_loop.trips) (c0_i32_1460 : BitVec 32) : Fin 3 → Nat :=
  let c0_1462 : Index := 0#32
  let c0_i32_283 : BitVec 32 := 0#32
  let c1_i32_285 : BitVec 32 := 1#32
  let arg29 : BitVec 32 := Scf.iv c0_i32_283 c1_i32_285 k0_t7
  let c32_i32_1448 : BitVec 32 := 32#32
  let v1710 : BitVec 32 := Scalar.muli arg29 c32_i32_1448
  let v1711 : BitVec 32 := v1710
  let v1732 : Index := Scalar.indexCast v1711
  let c0_i32_1454 : BitVec 32 := 0#32
  let c1_i32_1456 : BitVec 32 := 1#32
  let arg30 : BitVec 32 := Scf.iv c0_i32_1454 c1_i32_1456 k0_t8
  let c1024_i32 : BitVec 32 := 1024#32
  let v1724 : BitVec 32 := Scalar.muli arg30 c1024_i32
  let v1725 : BitVec 32 := v1724
  let v1726 : BitVec 32 := Scalar.addi v1725 c0_i32_1460
  let v1733 : Index := Scalar.indexCast v1726
  ![0, v1732.toNat, v1733.toNat]
@[reducible] def k0_t9_loop : Scf.Loop 32 :=
  let c0_i32_310 : BitVec 32 := 0#32
  let c10_i32_311 : BitVec 32 := 10#32
  let v419 : BitVec 32 := Scalar.addi c0_i32_310 c10_i32_311
  let c1_i32_312 : BitVec 32 := 1#32
  ⟨c0_i32_310, v419, c1_i32_312⟩
def k0_mult12 (k0_t9 : Fin k0_t9_loop.trips) : BitVec 32 :=
  let c0_i32_310 : BitVec 32 := 0#32
  let c1_i32_312 : BitVec 32 := 1#32
  let arg29 : BitVec 32 := Scf.iv c0_i32_310 c1_i32_312 k0_t9
  let c16_i32_1448 : BitVec 32 := 16#32
  let v1710 : BitVec 32 := Scalar.muli arg29 c16_i32_1448
  v1710
@[reducible] def k0_t10_loop : Scf.Loop 32 :=
  let c0_i32_1450 : BitVec 32 := 0#32
  let c8_i32_1451 : BitVec 32 := 8#32
  let v1713 : BitVec 32 := Scalar.addi c0_i32_1450 c8_i32_1451
  let c1_i32_1452 : BitVec 32 := 1#32
  ⟨c0_i32_1450, v1713, c1_i32_1452⟩
def k0_mult13 (k0_t10 : Fin k0_t10_loop.trips) : BitVec 32 :=
  let c0_i32_1450 : BitVec 32 := 0#32
  let c1_i32_1452 : BitVec 32 := 1#32
  let arg30 : BitVec 32 := Scf.iv c0_i32_1450 c1_i32_1452 k0_t10
  let c2048_i32 : BitVec 32 := 2048#32
  let v1723 : BitVec 32 := Scalar.muli arg30 c2048_i32
  v1723
def k0_off11 (k0_t9 : Fin k0_t9_loop.trips) (k0_t10 : Fin k0_t10_loop.trips) (c0_i32_1456 : BitVec 32) : Fin 3 → Nat :=
  let c1_1457 : Index := 1#32
  let c0_i32_310 : BitVec 32 := 0#32
  let c1_i32_312 : BitVec 32 := 1#32
  let arg29 : BitVec 32 := Scf.iv c0_i32_310 c1_i32_312 k0_t9
  let c16_i32_1448 : BitVec 32 := 16#32
  let v1710 : BitVec 32 := Scalar.muli arg29 c16_i32_1448
  let v1711 : BitVec 32 := v1710
  let v1726 : Index := Scalar.indexCast v1711
  let c0_i32_1450 : BitVec 32 := 0#32
  let c1_i32_1452 : BitVec 32 := 1#32
  let arg30 : BitVec 32 := Scf.iv c0_i32_1450 c1_i32_1452 k0_t10
  let c2048_i32 : BitVec 32 := 2048#32
  let v1723 : BitVec 32 := Scalar.muli arg30 c2048_i32
  let v1724 : BitVec 32 := v1723
  let v1725 : BitVec 32 := Scalar.addi v1724 c0_i32_1456
  let v1727 : Index := Scalar.indexCast v1725
  ![1, v1726.toNat, v1727.toNat]
def k0_off12 (k0_t9 : Fin k0_t9_loop.trips) : Fin 2 → Nat :=
  let c0_i32_310 : BitVec 32 := 0#32
  let c1_i32_312 : BitVec 32 := 1#32
  let arg29 : BitVec 32 := Scf.iv c0_i32_310 c1_i32_312 k0_t9
  let c16_i32_1448 : BitVec 32 := 16#32
  let v1710 : BitVec 32 := Scalar.muli arg29 c16_i32_1448
  let v1711 : BitVec 32 := v1710
  let v1715 : Index := Scalar.indexCast v1711
  let c0_1454 : Index := 0#32
  ![v1715.toNat, 0]
@[reducible] def k0_t11_loop : Scf.Loop 32 :=
  let c0_i32_1448 : BitVec 32 := 0#32
  let c10_i32_1449 : BitVec 32 := 10#32
  let v1710 : BitVec 32 := Scalar.addi c0_i32_1448 c10_i32_1449
  let c1_i32_1450 : BitVec 32 := 1#32
  ⟨c0_i32_1448, v1710, c1_i32_1450⟩
def k0_mult14 (k0_t11 : Fin k0_t11_loop.trips) : BitVec 32 :=
  let c0_i32_1448 : BitVec 32 := 0#32
  let c1_i32_1450 : BitVec 32 := 1#32
  let arg29 : BitVec 32 := Scf.iv c0_i32_1448 c1_i32_1450 k0_t11
  let c16_i32_1476 : BitVec 32 := 16#32
  let v1739 : BitVec 32 := Scalar.muli arg29 c16_i32_1476
  v1739
def k0_off13 (k0_t11 : Fin k0_t11_loop.trips) : Fin 2 → Nat :=
  let c0_i32_1448 : BitVec 32 := 0#32
  let c1_i32_1450 : BitVec 32 := 1#32
  let arg29 : BitVec 32 := Scf.iv c0_i32_1448 c1_i32_1450 k0_t11
  let c16_i32_1476 : BitVec 32 := 16#32
  let v1739 : BitVec 32 := Scalar.muli arg29 c16_i32_1476
  let v1740 : BitVec 32 := v1739
  let v1741 : Index := Scalar.indexCast v1740
  let c0_1477 : Index := 0#32
  ![v1741.toNat, 0]
@[reducible] def k0_t12_loop : Scf.Loop 32 :=
  let c0_i32_1479 : BitVec 32 := 0#32
  let c32_i32_1480 : BitVec 32 := 32#32
  let v1744 : BitVec 32 := Scalar.addi c0_i32_1479 c32_i32_1480
  let c1_i32_1481 : BitVec 32 := 1#32
  ⟨c0_i32_1479, v1744, c1_i32_1481⟩
def k0_mult15 (k0_t12 : Fin k0_t12_loop.trips) : BitVec 32 :=
  let c0_i32_1479 : BitVec 32 := 0#32
  let c1_i32_1481 : BitVec 32 := 1#32
  let arg30 : BitVec 32 := Scf.iv c0_i32_1479 c1_i32_1481 k0_t12
  let c512_i32 : BitVec 32 := 512#32
  let v1750 : BitVec 32 := Scalar.muli arg30 c512_i32
  v1750
def k0_off14 (k0_t11 : Fin k0_t11_loop.trips) (k0_t12 : Fin k0_t12_loop.trips) (c0_i32_1484 : BitVec 32) : Fin 3 → Nat :=
  let c1_1485 : Index := 1#32
  let c0_i32_1448 : BitVec 32 := 0#32
  let c1_i32_1450 : BitVec 32 := 1#32
  let arg29 : BitVec 32 := Scf.iv c0_i32_1448 c1_i32_1450 k0_t11
  let c16_i32_1476 : BitVec 32 := 16#32
  let v1739 : BitVec 32 := Scalar.muli arg29 c16_i32_1476
  let v1740 : BitVec 32 := v1739
  let v1753 : Index := Scalar.indexCast v1740
  let c0_i32_1479 : BitVec 32 := 0#32
  let c1_i32_1481 : BitVec 32 := 1#32
  let arg30 : BitVec 32 := Scf.iv c0_i32_1479 c1_i32_1481 k0_t12
  let c512_i32 : BitVec 32 := 512#32
  let v1750 : BitVec 32 := Scalar.muli arg30 c512_i32
  let v1751 : BitVec 32 := v1750
  let v1752 : BitVec 32 := Scalar.addi v1751 c0_i32_1484
  let v1754 : Index := Scalar.indexCast v1752
  ![1, v1753.toNat, v1754.toNat]
def k0_mult16 (k0_t12 : Fin k0_t12_loop.trips) : BitVec 32 :=
  let c0_i32_1479 : BitVec 32 := 0#32
  let c1_i32_1481 : BitVec 32 := 1#32
  let arg30 : BitVec 32 := Scf.iv c0_i32_1479 c1_i32_1481 k0_t12
  let c512_i32_1486 : BitVec 32 := 512#32
  let v1761 : BitVec 32 := Scalar.muli arg30 c512_i32_1486
  v1761
def k0_mult17 (k0_t12 : Fin k0_t12_loop.trips) : BitVec 32 :=
  let c0_i32_1479 : BitVec 32 := 0#32
  let c1_i32_1481 : BitVec 32 := 1#32
  let arg30 : BitVec 32 := Scf.iv c0_i32_1479 c1_i32_1481 k0_t12
  let c512_i32_1489 : BitVec 32 := 512#32
  let v1772 : BitVec 32 := Scalar.muli arg30 c512_i32_1489
  v1772
def k0_mult18 (k0_t12 : Fin k0_t12_loop.trips) : BitVec 32 :=
  let c0_i32_1479 : BitVec 32 := 0#32
  let c1_i32_1481 : BitVec 32 := 1#32
  let arg30 : BitVec 32 := Scf.iv c0_i32_1479 c1_i32_1481 k0_t12
  let c512_i32_1492 : BitVec 32 := 512#32
  let v1783 : BitVec 32 := Scalar.muli arg30 c512_i32_1492
  v1783
@[reducible] def k0_t13_loop : Scf.Loop 32 :=
  let c0_i32_428 : BitVec 32 := 0#32
  let c5_i32_429 : BitVec 32 := 5#32
  let v574 : BitVec 32 := Scalar.addi c0_i32_428 c5_i32_429
  let c1_i32_430 : BitVec 32 := 1#32
  ⟨c0_i32_428, v574, c1_i32_430⟩
def k0_mult19 (k0_t13 : Fin k0_t13_loop.trips) : BitVec 32 :=
  let c0_i32_428 : BitVec 32 := 0#32
  let c1_i32_430 : BitVec 32 := 1#32
  let arg29 : BitVec 32 := Scf.iv c0_i32_428 c1_i32_430 k0_t13
  let c32_i32_1448 : BitVec 32 := 32#32
  let v1710 : BitVec 32 := Scalar.muli arg29 c32_i32_1448
  v1710
def k0_off15 (k0_t13 : Fin k0_t13_loop.trips) : Fin 2 → Nat :=
  let c0_i32_428 : BitVec 32 := 0#32
  let c1_i32_430 : BitVec 32 := 1#32
  let arg29 : BitVec 32 := Scf.iv c0_i32_428 c1_i32_430 k0_t13
  let c32_i32_1448 : BitVec 32 := 32#32
  let v1710 : BitVec 32 := Scalar.muli arg29 c32_i32_1448
  let v1711 : BitVec 32 := v1710
  let v1712 : Index := Scalar.indexCast v1711
  let c0_1449 : Index := 0#32
  ![v1712.toNat, 0]
@[reducible] def k0_t14_loop : Scf.Loop 32 :=
  let c0_i32_1452 : BitVec 32 := 0#32
  let c16_i32_1453 : BitVec 32 := 16#32
  let v1717 : BitVec 32 := Scalar.addi c0_i32_1452 c16_i32_1453
  let c1_i32_1454 : BitVec 32 := 1#32
  ⟨c0_i32_1452, v1717, c1_i32_1454⟩
def k0_mult20 (k0_t14 : Fin k0_t14_loop.trips) : BitVec 32 :=
  let c0_i32_1452 : BitVec 32 := 0#32
  let c1_i32_1454 : BitVec 32 := 1#32
  let arg30 : BitVec 32 := Scf.iv c0_i32_1452 c1_i32_1454 k0_t14
  let c1024_i32 : BitVec 32 := 1024#32
  let v1727 : BitVec 32 := Scalar.muli arg30 c1024_i32
  v1727
def k0_off16 (k0_t13 : Fin k0_t13_loop.trips) (k0_t14 : Fin k0_t14_loop.trips) (c0_i32_1458 : BitVec 32) : Fin 3 → Nat :=
  let c1_1459 : Index := 1#32
  let c0_i32_428 : BitVec 32 := 0#32
  let c1_i32_430 : BitVec 32 := 1#32
  let arg29 : BitVec 32 := Scf.iv c0_i32_428 c1_i32_430 k0_t13
  let c32_i32_1448 : BitVec 32 := 32#32
  let v1710 : BitVec 32 := Scalar.muli arg29 c32_i32_1448
  let v1711 : BitVec 32 := v1710
  let v1730 : Index := Scalar.indexCast v1711
  let c0_i32_1452 : BitVec 32 := 0#32
  let c1_i32_1454 : BitVec 32 := 1#32
  let arg30 : BitVec 32 := Scf.iv c0_i32_1452 c1_i32_1454 k0_t14
  let c1024_i32 : BitVec 32 := 1024#32
  let v1727 : BitVec 32 := Scalar.muli arg30 c1024_i32
  let v1728 : BitVec 32 := v1727
  let v1729 : BitVec 32 := Scalar.addi v1728 c0_i32_1458
  let v1731 : Index := Scalar.indexCast v1729
  ![1, v1730.toNat, v1731.toNat]
def k0_off17 (k0_t13 : Fin k0_t13_loop.trips) (k0_t14 : Fin k0_t14_loop.trips) (c0_i32_1458 : BitVec 32) : Fin 3 → Nat :=
  let c1_1462 : Index := 1#32
  let c0_i32_428 : BitVec 32 := 0#32
  let c1_i32_430 : BitVec 32 := 1#32
  let arg29 : BitVec 32 := Scf.iv c0_i32_428 c1_i32_430 k0_t13
  let c32_i32_1448 : BitVec 32 := 32#32
  let v1710 : BitVec 32 := Scalar.muli arg29 c32_i32_1448
  let v1711 : BitVec 32 := v1710
  let v1749 : Index := Scalar.indexCast v1711
  let c0_i32_1452 : BitVec 32 := 0#32
  let c1_i32_1454 : BitVec 32 := 1#32
  let arg30 : BitVec 32 := Scf.iv c0_i32_1452 c1_i32_1454 k0_t14
  let c1024_i32 : BitVec 32 := 1024#32
  let v1727 : BitVec 32 := Scalar.muli arg30 c1024_i32
  let v1728 : BitVec 32 := v1727
  let v1729 : BitVec 32 := Scalar.addi v1728 c0_i32_1458
  let v1750 : Index := Scalar.indexCast v1729
  ![1, v1749.toNat, v1750.toNat]
@[reducible] def k0_t15_loop : Scf.Loop 32 :=
  let c0_i32_544 : BitVec 32 := 0#32
  let c5_i32_545 : BitVec 32 := 5#32
  let v730 : BitVec 32 := Scalar.addi c0_i32_544 c5_i32_545
  let c1_i32_546 : BitVec 32 := 1#32
  ⟨c0_i32_544, v730, c1_i32_546⟩
def k0_mult21 (k0_t15 : Fin k0_t15_loop.trips) : BitVec 32 :=
  let c0_i32_544 : BitVec 32 := 0#32
  let c1_i32_546 : BitVec 32 := 1#32
  let arg29 : BitVec 32 := Scf.iv c0_i32_544 c1_i32_546 k0_t15
  let c32_i32_1448 : BitVec 32 := 32#32
  let v1710 : BitVec 32 := Scalar.muli arg29 c32_i32_1448
  v1710
def k0_off18 (k0_t15 : Fin k0_t15_loop.trips) : Fin 2 → Nat :=
  let c0_i32_544 : BitVec 32 := 0#32
  let c1_i32_546 : BitVec 32 := 1#32
  let arg29 : BitVec 32 := Scf.iv c0_i32_544 c1_i32_546 k0_t15
  let c32_i32_1448 : BitVec 32 := 32#32
  let v1710 : BitVec 32 := Scalar.muli arg29 c32_i32_1448
  let v1711 : BitVec 32 := v1710
  let v1712 : Index := Scalar.indexCast v1711
  let c0_1449 : Index := 0#32
  ![v1712.toNat, 0]
@[reducible] def k0_t16_loop : Scf.Loop 32 :=
  let c0_i32_1454 : BitVec 32 := 0#32
  let c16_i32_1455 : BitVec 32 := 16#32
  let v1719 : BitVec 32 := Scalar.addi c0_i32_1454 c16_i32_1455
  let c1_i32_1456 : BitVec 32 := 1#32
  ⟨c0_i32_1454, v1719, c1_i32_1456⟩
def k0_mult22 (k0_t16 : Fin k0_t16_loop.trips) : BitVec 32 :=
  let c0_i32_1454 : BitVec 32 := 0#32
  let c1_i32_1456 : BitVec 32 := 1#32
  let arg30 : BitVec 32 := Scf.iv c0_i32_1454 c1_i32_1456 k0_t16
  let c1024_i32 : BitVec 32 := 1024#32
  let v1724 : BitVec 32 := Scalar.muli arg30 c1024_i32
  v1724
def k0_off19 (k0_t15 : Fin k0_t15_loop.trips) (k0_t16 : Fin k0_t16_loop.trips) (c0_i32_1460 : BitVec 32) : Fin 3 → Nat :=
  let c1_1461 : Index := 1#32
  let c0_i32_544 : BitVec 32 := 0#32
  let c1_i32_546 : BitVec 32 := 1#32
  let arg29 : BitVec 32 := Scf.iv c0_i32_544 c1_i32_546 k0_t15
  let c32_i32_1448 : BitVec 32 := 32#32
  let v1710 : BitVec 32 := Scalar.muli arg29 c32_i32_1448
  let v1711 : BitVec 32 := v1710
  let v1727 : Index := Scalar.indexCast v1711
  let c0_i32_1454 : BitVec 32 := 0#32
  let c1_i32_1456 : BitVec 32 := 1#32
  let arg30 : BitVec 32 := Scf.iv c0_i32_1454 c1_i32_1456 k0_t16
  let c1024_i32 : BitVec 32 := 1024#32
  let v1724 : BitVec 32 := Scalar.muli arg30 c1024_i32
  let v1725 : BitVec 32 := v1724
  let v1726 : BitVec 32 := Scalar.addi v1725 c0_i32_1460
  let v1728 : Index := Scalar.indexCast v1726
  ![1, v1727.toNat, v1728.toNat]
def k0_off20 (k0_t15 : Fin k0_t15_loop.trips) (k0_t16 : Fin k0_t16_loop.trips) (c0_i32_1460 : BitVec 32) : Fin 3 → Nat :=
  let c1_1462 : Index := 1#32
  let c0_i32_544 : BitVec 32 := 0#32
  let c1_i32_546 : BitVec 32 := 1#32
  let arg29 : BitVec 32 := Scf.iv c0_i32_544 c1_i32_546 k0_t15
  let c32_i32_1448 : BitVec 32 := 32#32
  let v1710 : BitVec 32 := Scalar.muli arg29 c32_i32_1448
  let v1711 : BitVec 32 := v1710
  let v1732 : Index := Scalar.indexCast v1711
  let c0_i32_1454 : BitVec 32 := 0#32
  let c1_i32_1456 : BitVec 32 := 1#32
  let arg30 : BitVec 32 := Scf.iv c0_i32_1454 c1_i32_1456 k0_t16
  let c1024_i32 : BitVec 32 := 1024#32
  let v1724 : BitVec 32 := Scalar.muli arg30 c1024_i32
  let v1725 : BitVec 32 := v1724
  let v1726 : BitVec 32 := Scalar.addi v1725 c0_i32_1460
  let v1733 : Index := Scalar.indexCast v1726
  ![1, v1732.toNat, v1733.toNat]
@[reducible] def k0_t17_loop : Scf.Loop 32 :=
  let c0_i32_571 : BitVec 32 := 0#32
  let c10_i32_572 : BitVec 32 := 10#32
  let v752 : BitVec 32 := Scalar.addi c0_i32_571 c10_i32_572
  let c1_i32_573 : BitVec 32 := 1#32
  ⟨c0_i32_571, v752, c1_i32_573⟩
def k0_mult23 (k0_t17 : Fin k0_t17_loop.trips) : BitVec 32 :=
  let c0_i32_571 : BitVec 32 := 0#32
  let c1_i32_573 : BitVec 32 := 1#32
  let arg29 : BitVec 32 := Scf.iv c0_i32_571 c1_i32_573 k0_t17
  let c16_i32_1448 : BitVec 32 := 16#32
  let v1710 : BitVec 32 := Scalar.muli arg29 c16_i32_1448
  v1710
@[reducible] def k0_t18_loop : Scf.Loop 32 :=
  let c0_i32_1450 : BitVec 32 := 0#32
  let c8_i32_1451 : BitVec 32 := 8#32
  let v1713 : BitVec 32 := Scalar.addi c0_i32_1450 c8_i32_1451
  let c1_i32_1452 : BitVec 32 := 1#32
  ⟨c0_i32_1450, v1713, c1_i32_1452⟩
def k0_mult24 (k0_t18 : Fin k0_t18_loop.trips) : BitVec 32 :=
  let c0_i32_1450 : BitVec 32 := 0#32
  let c1_i32_1452 : BitVec 32 := 1#32
  let arg30 : BitVec 32 := Scf.iv c0_i32_1450 c1_i32_1452 k0_t18
  let c2048_i32 : BitVec 32 := 2048#32
  let v1723 : BitVec 32 := Scalar.muli arg30 c2048_i32
  v1723
def k0_off21 (k0_t17 : Fin k0_t17_loop.trips) (k0_t18 : Fin k0_t18_loop.trips) (c0_i32_1456 : BitVec 32) : Fin 3 → Nat :=
  let c0_1457 : Index := 0#32
  let c0_i32_571 : BitVec 32 := 0#32
  let c1_i32_573 : BitVec 32 := 1#32
  let arg29 : BitVec 32 := Scf.iv c0_i32_571 c1_i32_573 k0_t17
  let c16_i32_1448 : BitVec 32 := 16#32
  let v1710 : BitVec 32 := Scalar.muli arg29 c16_i32_1448
  let v1711 : BitVec 32 := v1710
  let v1726 : Index := Scalar.indexCast v1711
  let c0_i32_1450 : BitVec 32 := 0#32
  let c1_i32_1452 : BitVec 32 := 1#32
  let arg30 : BitVec 32 := Scf.iv c0_i32_1450 c1_i32_1452 k0_t18
  let c2048_i32 : BitVec 32 := 2048#32
  let v1723 : BitVec 32 := Scalar.muli arg30 c2048_i32
  let v1724 : BitVec 32 := v1723
  let v1725 : BitVec 32 := Scalar.addi v1724 c0_i32_1456
  let v1727 : Index := Scalar.indexCast v1725
  ![0, v1726.toNat, v1727.toNat]
def k0_off22 (k0_t17 : Fin k0_t17_loop.trips) : Fin 2 → Nat :=
  let c0_i32_571 : BitVec 32 := 0#32
  let c1_i32_573 : BitVec 32 := 1#32
  let arg29 : BitVec 32 := Scf.iv c0_i32_571 c1_i32_573 k0_t17
  let c16_i32_1448 : BitVec 32 := 16#32
  let v1710 : BitVec 32 := Scalar.muli arg29 c16_i32_1448
  let v1711 : BitVec 32 := v1710
  let v1715 : Index := Scalar.indexCast v1711
  let c0_1454 : Index := 0#32
  ![v1715.toNat, 0]
@[reducible] def k0_t19_loop : Scf.Loop 32 :=
  let c0_i32_1448 : BitVec 32 := 0#32
  let c10_i32_1449 : BitVec 32 := 10#32
  let v1710 : BitVec 32 := Scalar.addi c0_i32_1448 c10_i32_1449
  let c1_i32_1450 : BitVec 32 := 1#32
  ⟨c0_i32_1448, v1710, c1_i32_1450⟩
def k0_mult25 (k0_t19 : Fin k0_t19_loop.trips) : BitVec 32 :=
  let c0_i32_1448 : BitVec 32 := 0#32
  let c1_i32_1450 : BitVec 32 := 1#32
  let arg29 : BitVec 32 := Scf.iv c0_i32_1448 c1_i32_1450 k0_t19
  let c16_i32_1476 : BitVec 32 := 16#32
  let v1739 : BitVec 32 := Scalar.muli arg29 c16_i32_1476
  v1739
def k0_off23 (k0_t19 : Fin k0_t19_loop.trips) : Fin 2 → Nat :=
  let c0_i32_1448 : BitVec 32 := 0#32
  let c1_i32_1450 : BitVec 32 := 1#32
  let arg29 : BitVec 32 := Scf.iv c0_i32_1448 c1_i32_1450 k0_t19
  let c16_i32_1476 : BitVec 32 := 16#32
  let v1739 : BitVec 32 := Scalar.muli arg29 c16_i32_1476
  let v1740 : BitVec 32 := v1739
  let v1741 : Index := Scalar.indexCast v1740
  let c0_1477 : Index := 0#32
  ![v1741.toNat, 0]
@[reducible] def k0_t20_loop : Scf.Loop 32 :=
  let c0_i32_1479 : BitVec 32 := 0#32
  let c32_i32_1480 : BitVec 32 := 32#32
  let v1744 : BitVec 32 := Scalar.addi c0_i32_1479 c32_i32_1480
  let c1_i32_1481 : BitVec 32 := 1#32
  ⟨c0_i32_1479, v1744, c1_i32_1481⟩
def k0_mult26 (k0_t20 : Fin k0_t20_loop.trips) : BitVec 32 :=
  let c0_i32_1479 : BitVec 32 := 0#32
  let c1_i32_1481 : BitVec 32 := 1#32
  let arg30 : BitVec 32 := Scf.iv c0_i32_1479 c1_i32_1481 k0_t20
  let c512_i32 : BitVec 32 := 512#32
  let v1750 : BitVec 32 := Scalar.muli arg30 c512_i32
  v1750
def k0_off24 (k0_t19 : Fin k0_t19_loop.trips) (k0_t20 : Fin k0_t20_loop.trips) (c0_i32_1484 : BitVec 32) : Fin 3 → Nat :=
  let c0_1485 : Index := 0#32
  let c0_i32_1448 : BitVec 32 := 0#32
  let c1_i32_1450 : BitVec 32 := 1#32
  let arg29 : BitVec 32 := Scf.iv c0_i32_1448 c1_i32_1450 k0_t19
  let c16_i32_1476 : BitVec 32 := 16#32
  let v1739 : BitVec 32 := Scalar.muli arg29 c16_i32_1476
  let v1740 : BitVec 32 := v1739
  let v1753 : Index := Scalar.indexCast v1740
  let c0_i32_1479 : BitVec 32 := 0#32
  let c1_i32_1481 : BitVec 32 := 1#32
  let arg30 : BitVec 32 := Scf.iv c0_i32_1479 c1_i32_1481 k0_t20
  let c512_i32 : BitVec 32 := 512#32
  let v1750 : BitVec 32 := Scalar.muli arg30 c512_i32
  let v1751 : BitVec 32 := v1750
  let v1752 : BitVec 32 := Scalar.addi v1751 c0_i32_1484
  let v1754 : Index := Scalar.indexCast v1752
  ![0, v1753.toNat, v1754.toNat]
def k0_mult27 (k0_t20 : Fin k0_t20_loop.trips) : BitVec 32 :=
  let c0_i32_1479 : BitVec 32 := 0#32
  let c1_i32_1481 : BitVec 32 := 1#32
  let arg30 : BitVec 32 := Scf.iv c0_i32_1479 c1_i32_1481 k0_t20
  let c512_i32_1486 : BitVec 32 := 512#32
  let v1761 : BitVec 32 := Scalar.muli arg30 c512_i32_1486
  v1761
def k0_mult28 (k0_t20 : Fin k0_t20_loop.trips) : BitVec 32 :=
  let c0_i32_1479 : BitVec 32 := 0#32
  let c1_i32_1481 : BitVec 32 := 1#32
  let arg30 : BitVec 32 := Scf.iv c0_i32_1479 c1_i32_1481 k0_t20
  let c512_i32_1489 : BitVec 32 := 512#32
  let v1772 : BitVec 32 := Scalar.muli arg30 c512_i32_1489
  v1772
def k0_mult29 (k0_t20 : Fin k0_t20_loop.trips) : BitVec 32 :=
  let c0_i32_1479 : BitVec 32 := 0#32
  let c1_i32_1481 : BitVec 32 := 1#32
  let arg30 : BitVec 32 := Scf.iv c0_i32_1479 c1_i32_1481 k0_t20
  let c512_i32_1492 : BitVec 32 := 512#32
  let v1783 : BitVec 32 := Scalar.muli arg30 c512_i32_1492
  v1783
@[reducible] def k0_t21_loop : Scf.Loop 32 :=
  let c0_i32_690 : BitVec 32 := 0#32
  let c5_i32_691 : BitVec 32 := 5#32
  let v907 : BitVec 32 := Scalar.addi c0_i32_690 c5_i32_691
  let c1_i32_692 : BitVec 32 := 1#32
  ⟨c0_i32_690, v907, c1_i32_692⟩
def k0_mult30 (k0_t21 : Fin k0_t21_loop.trips) : BitVec 32 :=
  let c0_i32_690 : BitVec 32 := 0#32
  let c1_i32_692 : BitVec 32 := 1#32
  let arg29 : BitVec 32 := Scf.iv c0_i32_690 c1_i32_692 k0_t21
  let c32_i32_1448 : BitVec 32 := 32#32
  let v1710 : BitVec 32 := Scalar.muli arg29 c32_i32_1448
  v1710
def k0_off25 (k0_t21 : Fin k0_t21_loop.trips) : Fin 2 → Nat :=
  let c0_i32_690 : BitVec 32 := 0#32
  let c1_i32_692 : BitVec 32 := 1#32
  let arg29 : BitVec 32 := Scf.iv c0_i32_690 c1_i32_692 k0_t21
  let c32_i32_1448 : BitVec 32 := 32#32
  let v1710 : BitVec 32 := Scalar.muli arg29 c32_i32_1448
  let v1711 : BitVec 32 := v1710
  let v1712 : Index := Scalar.indexCast v1711
  let c0_1449 : Index := 0#32
  ![v1712.toNat, 0]
@[reducible] def k0_t22_loop : Scf.Loop 32 :=
  let c0_i32_1452 : BitVec 32 := 0#32
  let c16_i32_1453 : BitVec 32 := 16#32
  let v1717 : BitVec 32 := Scalar.addi c0_i32_1452 c16_i32_1453
  let c1_i32_1454 : BitVec 32 := 1#32
  ⟨c0_i32_1452, v1717, c1_i32_1454⟩
def k0_mult31 (k0_t22 : Fin k0_t22_loop.trips) : BitVec 32 :=
  let c0_i32_1452 : BitVec 32 := 0#32
  let c1_i32_1454 : BitVec 32 := 1#32
  let arg30 : BitVec 32 := Scf.iv c0_i32_1452 c1_i32_1454 k0_t22
  let c1024_i32 : BitVec 32 := 1024#32
  let v1727 : BitVec 32 := Scalar.muli arg30 c1024_i32
  v1727
def k0_off26 (k0_t21 : Fin k0_t21_loop.trips) (k0_t22 : Fin k0_t22_loop.trips) (c0_i32_1458 : BitVec 32) : Fin 3 → Nat :=
  let c0_1459 : Index := 0#32
  let c0_i32_690 : BitVec 32 := 0#32
  let c1_i32_692 : BitVec 32 := 1#32
  let arg29 : BitVec 32 := Scf.iv c0_i32_690 c1_i32_692 k0_t21
  let c32_i32_1448 : BitVec 32 := 32#32
  let v1710 : BitVec 32 := Scalar.muli arg29 c32_i32_1448
  let v1711 : BitVec 32 := v1710
  let v1730 : Index := Scalar.indexCast v1711
  let c0_i32_1452 : BitVec 32 := 0#32
  let c1_i32_1454 : BitVec 32 := 1#32
  let arg30 : BitVec 32 := Scf.iv c0_i32_1452 c1_i32_1454 k0_t22
  let c1024_i32 : BitVec 32 := 1024#32
  let v1727 : BitVec 32 := Scalar.muli arg30 c1024_i32
  let v1728 : BitVec 32 := v1727
  let v1729 : BitVec 32 := Scalar.addi v1728 c0_i32_1458
  let v1731 : Index := Scalar.indexCast v1729
  ![0, v1730.toNat, v1731.toNat]
def k0_off27 (k0_t21 : Fin k0_t21_loop.trips) (k0_t22 : Fin k0_t22_loop.trips) (c0_i32_1458 : BitVec 32) : Fin 3 → Nat :=
  let c2_1462 : Index := 2#32
  let c0_i32_690 : BitVec 32 := 0#32
  let c1_i32_692 : BitVec 32 := 1#32
  let arg29 : BitVec 32 := Scf.iv c0_i32_690 c1_i32_692 k0_t21
  let c32_i32_1448 : BitVec 32 := 32#32
  let v1710 : BitVec 32 := Scalar.muli arg29 c32_i32_1448
  let v1711 : BitVec 32 := v1710
  let v1749 : Index := Scalar.indexCast v1711
  let c0_i32_1452 : BitVec 32 := 0#32
  let c1_i32_1454 : BitVec 32 := 1#32
  let arg30 : BitVec 32 := Scf.iv c0_i32_1452 c1_i32_1454 k0_t22
  let c1024_i32 : BitVec 32 := 1024#32
  let v1727 : BitVec 32 := Scalar.muli arg30 c1024_i32
  let v1728 : BitVec 32 := v1727
  let v1729 : BitVec 32 := Scalar.addi v1728 c0_i32_1458
  let v1750 : Index := Scalar.indexCast v1729
  ![2, v1749.toNat, v1750.toNat]
@[reducible] def k0_t23_loop : Scf.Loop 32 :=
  let c0_i32_810 : BitVec 32 := 0#32
  let c5_i32_811 : BitVec 32 := 5#32
  let v1067 : BitVec 32 := Scalar.addi c0_i32_810 c5_i32_811
  let c1_i32_812 : BitVec 32 := 1#32
  ⟨c0_i32_810, v1067, c1_i32_812⟩
def k0_mult32 (k0_t23 : Fin k0_t23_loop.trips) : BitVec 32 :=
  let c0_i32_810 : BitVec 32 := 0#32
  let c1_i32_812 : BitVec 32 := 1#32
  let arg29 : BitVec 32 := Scf.iv c0_i32_810 c1_i32_812 k0_t23
  let c32_i32_1448 : BitVec 32 := 32#32
  let v1710 : BitVec 32 := Scalar.muli arg29 c32_i32_1448
  v1710
def k0_off28 (k0_t23 : Fin k0_t23_loop.trips) : Fin 2 → Nat :=
  let c0_i32_810 : BitVec 32 := 0#32
  let c1_i32_812 : BitVec 32 := 1#32
  let arg29 : BitVec 32 := Scf.iv c0_i32_810 c1_i32_812 k0_t23
  let c32_i32_1448 : BitVec 32 := 32#32
  let v1710 : BitVec 32 := Scalar.muli arg29 c32_i32_1448
  let v1711 : BitVec 32 := v1710
  let v1712 : Index := Scalar.indexCast v1711
  let c0_1449 : Index := 0#32
  ![v1712.toNat, 0]
@[reducible] def k0_t24_loop : Scf.Loop 32 :=
  let c0_i32_1454 : BitVec 32 := 0#32
  let c16_i32_1455 : BitVec 32 := 16#32
  let v1719 : BitVec 32 := Scalar.addi c0_i32_1454 c16_i32_1455
  let c1_i32_1456 : BitVec 32 := 1#32
  ⟨c0_i32_1454, v1719, c1_i32_1456⟩
def k0_mult33 (k0_t24 : Fin k0_t24_loop.trips) : BitVec 32 :=
  let c0_i32_1454 : BitVec 32 := 0#32
  let c1_i32_1456 : BitVec 32 := 1#32
  let arg30 : BitVec 32 := Scf.iv c0_i32_1454 c1_i32_1456 k0_t24
  let c1024_i32 : BitVec 32 := 1024#32
  let v1724 : BitVec 32 := Scalar.muli arg30 c1024_i32
  v1724
def k0_off29 (k0_t23 : Fin k0_t23_loop.trips) (k0_t24 : Fin k0_t24_loop.trips) (c0_i32_1460 : BitVec 32) : Fin 3 → Nat :=
  let c0_1461 : Index := 0#32
  let c0_i32_810 : BitVec 32 := 0#32
  let c1_i32_812 : BitVec 32 := 1#32
  let arg29 : BitVec 32 := Scf.iv c0_i32_810 c1_i32_812 k0_t23
  let c32_i32_1448 : BitVec 32 := 32#32
  let v1710 : BitVec 32 := Scalar.muli arg29 c32_i32_1448
  let v1711 : BitVec 32 := v1710
  let v1727 : Index := Scalar.indexCast v1711
  let c0_i32_1454 : BitVec 32 := 0#32
  let c1_i32_1456 : BitVec 32 := 1#32
  let arg30 : BitVec 32 := Scf.iv c0_i32_1454 c1_i32_1456 k0_t24
  let c1024_i32 : BitVec 32 := 1024#32
  let v1724 : BitVec 32 := Scalar.muli arg30 c1024_i32
  let v1725 : BitVec 32 := v1724
  let v1726 : BitVec 32 := Scalar.addi v1725 c0_i32_1460
  let v1728 : Index := Scalar.indexCast v1726
  ![0, v1727.toNat, v1728.toNat]
def k0_off30 (k0_t23 : Fin k0_t23_loop.trips) (k0_t24 : Fin k0_t24_loop.trips) (c0_i32_1460 : BitVec 32) : Fin 3 → Nat :=
  let c2_1462 : Index := 2#32
  let c0_i32_810 : BitVec 32 := 0#32
  let c1_i32_812 : BitVec 32 := 1#32
  let arg29 : BitVec 32 := Scf.iv c0_i32_810 c1_i32_812 k0_t23
  let c32_i32_1448 : BitVec 32 := 32#32
  let v1710 : BitVec 32 := Scalar.muli arg29 c32_i32_1448
  let v1711 : BitVec 32 := v1710
  let v1732 : Index := Scalar.indexCast v1711
  let c0_i32_1454 : BitVec 32 := 0#32
  let c1_i32_1456 : BitVec 32 := 1#32
  let arg30 : BitVec 32 := Scf.iv c0_i32_1454 c1_i32_1456 k0_t24
  let c1024_i32 : BitVec 32 := 1024#32
  let v1724 : BitVec 32 := Scalar.muli arg30 c1024_i32
  let v1725 : BitVec 32 := v1724
  let v1726 : BitVec 32 := Scalar.addi v1725 c0_i32_1460
  let v1733 : Index := Scalar.indexCast v1726
  ![2, v1732.toNat, v1733.toNat]
@[reducible] def k0_t25_loop : Scf.Loop 32 :=
  let c0_i32_823 : BitVec 32 := 0#32
  let c10_i32_824 : BitVec 32 := 10#32
  let v1077 : BitVec 32 := Scalar.addi c0_i32_823 c10_i32_824
  let c1_i32_825 : BitVec 32 := 1#32
  ⟨c0_i32_823, v1077, c1_i32_825⟩
def k0_mult34 (k0_t25 : Fin k0_t25_loop.trips) : BitVec 32 :=
  let c0_i32_823 : BitVec 32 := 0#32
  let c1_i32_825 : BitVec 32 := 1#32
  let arg29 : BitVec 32 := Scf.iv c0_i32_823 c1_i32_825 k0_t25
  let c16_i32_1448 : BitVec 32 := 16#32
  let v1710 : BitVec 32 := Scalar.muli arg29 c16_i32_1448
  v1710
@[reducible] def k0_t26_loop : Scf.Loop 32 :=
  let c0_i32_1450 : BitVec 32 := 0#32
  let c8_i32_1451 : BitVec 32 := 8#32
  let v1713 : BitVec 32 := Scalar.addi c0_i32_1450 c8_i32_1451
  let c1_i32_1452 : BitVec 32 := 1#32
  ⟨c0_i32_1450, v1713, c1_i32_1452⟩
def k0_mult35 (k0_t26 : Fin k0_t26_loop.trips) : BitVec 32 :=
  let c0_i32_1450 : BitVec 32 := 0#32
  let c1_i32_1452 : BitVec 32 := 1#32
  let arg30 : BitVec 32 := Scf.iv c0_i32_1450 c1_i32_1452 k0_t26
  let c2048_i32 : BitVec 32 := 2048#32
  let v1723 : BitVec 32 := Scalar.muli arg30 c2048_i32
  v1723
def k0_off31 (k0_t25 : Fin k0_t25_loop.trips) (k0_t26 : Fin k0_t26_loop.trips) (c0_i32_1456 : BitVec 32) : Fin 3 → Nat :=
  let c1_1457 : Index := 1#32
  let c0_i32_823 : BitVec 32 := 0#32
  let c1_i32_825 : BitVec 32 := 1#32
  let arg29 : BitVec 32 := Scf.iv c0_i32_823 c1_i32_825 k0_t25
  let c16_i32_1448 : BitVec 32 := 16#32
  let v1710 : BitVec 32 := Scalar.muli arg29 c16_i32_1448
  let v1711 : BitVec 32 := v1710
  let v1726 : Index := Scalar.indexCast v1711
  let c0_i32_1450 : BitVec 32 := 0#32
  let c1_i32_1452 : BitVec 32 := 1#32
  let arg30 : BitVec 32 := Scf.iv c0_i32_1450 c1_i32_1452 k0_t26
  let c2048_i32 : BitVec 32 := 2048#32
  let v1723 : BitVec 32 := Scalar.muli arg30 c2048_i32
  let v1724 : BitVec 32 := v1723
  let v1725 : BitVec 32 := Scalar.addi v1724 c0_i32_1456
  let v1727 : Index := Scalar.indexCast v1725
  ![1, v1726.toNat, v1727.toNat]
def k0_off32 (k0_t25 : Fin k0_t25_loop.trips) : Fin 2 → Nat :=
  let c0_i32_823 : BitVec 32 := 0#32
  let c1_i32_825 : BitVec 32 := 1#32
  let arg29 : BitVec 32 := Scf.iv c0_i32_823 c1_i32_825 k0_t25
  let c16_i32_1448 : BitVec 32 := 16#32
  let v1710 : BitVec 32 := Scalar.muli arg29 c16_i32_1448
  let v1711 : BitVec 32 := v1710
  let v1715 : Index := Scalar.indexCast v1711
  let c0_1454 : Index := 0#32
  ![v1715.toNat, 0]
@[reducible] def k0_t27_loop : Scf.Loop 32 :=
  let c0_i32_1448 : BitVec 32 := 0#32
  let c10_i32_1449 : BitVec 32 := 10#32
  let v1710 : BitVec 32 := Scalar.addi c0_i32_1448 c10_i32_1449
  let c1_i32_1450 : BitVec 32 := 1#32
  ⟨c0_i32_1448, v1710, c1_i32_1450⟩
def k0_mult36 (k0_t27 : Fin k0_t27_loop.trips) : BitVec 32 :=
  let c0_i32_1448 : BitVec 32 := 0#32
  let c1_i32_1450 : BitVec 32 := 1#32
  let arg29 : BitVec 32 := Scf.iv c0_i32_1448 c1_i32_1450 k0_t27
  let c16_i32_1476 : BitVec 32 := 16#32
  let v1739 : BitVec 32 := Scalar.muli arg29 c16_i32_1476
  v1739
def k0_off33 (k0_t27 : Fin k0_t27_loop.trips) : Fin 2 → Nat :=
  let c0_i32_1448 : BitVec 32 := 0#32
  let c1_i32_1450 : BitVec 32 := 1#32
  let arg29 : BitVec 32 := Scf.iv c0_i32_1448 c1_i32_1450 k0_t27
  let c16_i32_1476 : BitVec 32 := 16#32
  let v1739 : BitVec 32 := Scalar.muli arg29 c16_i32_1476
  let v1740 : BitVec 32 := v1739
  let v1741 : Index := Scalar.indexCast v1740
  let c0_1477 : Index := 0#32
  ![v1741.toNat, 0]
@[reducible] def k0_t28_loop : Scf.Loop 32 :=
  let c0_i32_1479 : BitVec 32 := 0#32
  let c32_i32_1480 : BitVec 32 := 32#32
  let v1744 : BitVec 32 := Scalar.addi c0_i32_1479 c32_i32_1480
  let c1_i32_1481 : BitVec 32 := 1#32
  ⟨c0_i32_1479, v1744, c1_i32_1481⟩
def k0_mult37 (k0_t28 : Fin k0_t28_loop.trips) : BitVec 32 :=
  let c0_i32_1479 : BitVec 32 := 0#32
  let c1_i32_1481 : BitVec 32 := 1#32
  let arg30 : BitVec 32 := Scf.iv c0_i32_1479 c1_i32_1481 k0_t28
  let c512_i32 : BitVec 32 := 512#32
  let v1750 : BitVec 32 := Scalar.muli arg30 c512_i32
  v1750
def k0_off34 (k0_t27 : Fin k0_t27_loop.trips) (k0_t28 : Fin k0_t28_loop.trips) (c0_i32_1484 : BitVec 32) : Fin 3 → Nat :=
  let c1_1485 : Index := 1#32
  let c0_i32_1448 : BitVec 32 := 0#32
  let c1_i32_1450 : BitVec 32 := 1#32
  let arg29 : BitVec 32 := Scf.iv c0_i32_1448 c1_i32_1450 k0_t27
  let c16_i32_1476 : BitVec 32 := 16#32
  let v1739 : BitVec 32 := Scalar.muli arg29 c16_i32_1476
  let v1740 : BitVec 32 := v1739
  let v1753 : Index := Scalar.indexCast v1740
  let c0_i32_1479 : BitVec 32 := 0#32
  let c1_i32_1481 : BitVec 32 := 1#32
  let arg30 : BitVec 32 := Scf.iv c0_i32_1479 c1_i32_1481 k0_t28
  let c512_i32 : BitVec 32 := 512#32
  let v1750 : BitVec 32 := Scalar.muli arg30 c512_i32
  let v1751 : BitVec 32 := v1750
  let v1752 : BitVec 32 := Scalar.addi v1751 c0_i32_1484
  let v1754 : Index := Scalar.indexCast v1752
  ![1, v1753.toNat, v1754.toNat]
def k0_mult38 (k0_t28 : Fin k0_t28_loop.trips) : BitVec 32 :=
  let c0_i32_1479 : BitVec 32 := 0#32
  let c1_i32_1481 : BitVec 32 := 1#32
  let arg30 : BitVec 32 := Scf.iv c0_i32_1479 c1_i32_1481 k0_t28
  let c512_i32_1486 : BitVec 32 := 512#32
  let v1761 : BitVec 32 := Scalar.muli arg30 c512_i32_1486
  v1761
def k0_mult39 (k0_t28 : Fin k0_t28_loop.trips) : BitVec 32 :=
  let c0_i32_1479 : BitVec 32 := 0#32
  let c1_i32_1481 : BitVec 32 := 1#32
  let arg30 : BitVec 32 := Scf.iv c0_i32_1479 c1_i32_1481 k0_t28
  let c512_i32_1489 : BitVec 32 := 512#32
  let v1772 : BitVec 32 := Scalar.muli arg30 c512_i32_1489
  v1772
def k0_mult40 (k0_t28 : Fin k0_t28_loop.trips) : BitVec 32 :=
  let c0_i32_1479 : BitVec 32 := 0#32
  let c1_i32_1481 : BitVec 32 := 1#32
  let arg30 : BitVec 32 := Scf.iv c0_i32_1479 c1_i32_1481 k0_t28
  let c512_i32_1492 : BitVec 32 := 512#32
  let v1783 : BitVec 32 := Scalar.muli arg30 c512_i32_1492
  v1783
@[reducible] def k0_t29_loop : Scf.Loop 32 :=
  let c0_i32_942 : BitVec 32 := 0#32
  let c5_i32_943 : BitVec 32 := 5#32
  let v1232 : BitVec 32 := Scalar.addi c0_i32_942 c5_i32_943
  let c1_i32_944 : BitVec 32 := 1#32
  ⟨c0_i32_942, v1232, c1_i32_944⟩
def k0_mult41 (k0_t29 : Fin k0_t29_loop.trips) : BitVec 32 :=
  let c0_i32_942 : BitVec 32 := 0#32
  let c1_i32_944 : BitVec 32 := 1#32
  let arg29 : BitVec 32 := Scf.iv c0_i32_942 c1_i32_944 k0_t29
  let c32_i32_1448 : BitVec 32 := 32#32
  let v1710 : BitVec 32 := Scalar.muli arg29 c32_i32_1448
  v1710
def k0_off35 (k0_t29 : Fin k0_t29_loop.trips) : Fin 2 → Nat :=
  let c0_i32_942 : BitVec 32 := 0#32
  let c1_i32_944 : BitVec 32 := 1#32
  let arg29 : BitVec 32 := Scf.iv c0_i32_942 c1_i32_944 k0_t29
  let c32_i32_1448 : BitVec 32 := 32#32
  let v1710 : BitVec 32 := Scalar.muli arg29 c32_i32_1448
  let v1711 : BitVec 32 := v1710
  let v1712 : Index := Scalar.indexCast v1711
  let c0_1449 : Index := 0#32
  ![v1712.toNat, 0]
@[reducible] def k0_t30_loop : Scf.Loop 32 :=
  let c0_i32_1452 : BitVec 32 := 0#32
  let c16_i32_1453 : BitVec 32 := 16#32
  let v1717 : BitVec 32 := Scalar.addi c0_i32_1452 c16_i32_1453
  let c1_i32_1454 : BitVec 32 := 1#32
  ⟨c0_i32_1452, v1717, c1_i32_1454⟩
def k0_mult42 (k0_t30 : Fin k0_t30_loop.trips) : BitVec 32 :=
  let c0_i32_1452 : BitVec 32 := 0#32
  let c1_i32_1454 : BitVec 32 := 1#32
  let arg30 : BitVec 32 := Scf.iv c0_i32_1452 c1_i32_1454 k0_t30
  let c1024_i32 : BitVec 32 := 1024#32
  let v1727 : BitVec 32 := Scalar.muli arg30 c1024_i32
  v1727
def k0_off36 (k0_t29 : Fin k0_t29_loop.trips) (k0_t30 : Fin k0_t30_loop.trips) (c0_i32_1458 : BitVec 32) : Fin 3 → Nat :=
  let c1_1459 : Index := 1#32
  let c0_i32_942 : BitVec 32 := 0#32
  let c1_i32_944 : BitVec 32 := 1#32
  let arg29 : BitVec 32 := Scf.iv c0_i32_942 c1_i32_944 k0_t29
  let c32_i32_1448 : BitVec 32 := 32#32
  let v1710 : BitVec 32 := Scalar.muli arg29 c32_i32_1448
  let v1711 : BitVec 32 := v1710
  let v1730 : Index := Scalar.indexCast v1711
  let c0_i32_1452 : BitVec 32 := 0#32
  let c1_i32_1454 : BitVec 32 := 1#32
  let arg30 : BitVec 32 := Scf.iv c0_i32_1452 c1_i32_1454 k0_t30
  let c1024_i32 : BitVec 32 := 1024#32
  let v1727 : BitVec 32 := Scalar.muli arg30 c1024_i32
  let v1728 : BitVec 32 := v1727
  let v1729 : BitVec 32 := Scalar.addi v1728 c0_i32_1458
  let v1731 : Index := Scalar.indexCast v1729
  ![1, v1730.toNat, v1731.toNat]
def k0_off37 (k0_t29 : Fin k0_t29_loop.trips) (k0_t30 : Fin k0_t30_loop.trips) (c0_i32_1458 : BitVec 32) : Fin 3 → Nat :=
  let c3_1462 : Index := 3#32
  let c0_i32_942 : BitVec 32 := 0#32
  let c1_i32_944 : BitVec 32 := 1#32
  let arg29 : BitVec 32 := Scf.iv c0_i32_942 c1_i32_944 k0_t29
  let c32_i32_1448 : BitVec 32 := 32#32
  let v1710 : BitVec 32 := Scalar.muli arg29 c32_i32_1448
  let v1711 : BitVec 32 := v1710
  let v1749 : Index := Scalar.indexCast v1711
  let c0_i32_1452 : BitVec 32 := 0#32
  let c1_i32_1454 : BitVec 32 := 1#32
  let arg30 : BitVec 32 := Scf.iv c0_i32_1452 c1_i32_1454 k0_t30
  let c1024_i32 : BitVec 32 := 1024#32
  let v1727 : BitVec 32 := Scalar.muli arg30 c1024_i32
  let v1728 : BitVec 32 := v1727
  let v1729 : BitVec 32 := Scalar.addi v1728 c0_i32_1458
  let v1750 : Index := Scalar.indexCast v1729
  ![3, v1749.toNat, v1750.toNat]
@[reducible] def k0_t31_loop : Scf.Loop 32 :=
  let c0_i32_1062 : BitVec 32 := 0#32
  let c5_i32_1063 : BitVec 32 := 5#32
  let v1392 : BitVec 32 := Scalar.addi c0_i32_1062 c5_i32_1063
  let c1_i32_1064 : BitVec 32 := 1#32
  ⟨c0_i32_1062, v1392, c1_i32_1064⟩
def k0_mult43 (k0_t31 : Fin k0_t31_loop.trips) : BitVec 32 :=
  let c0_i32_1062 : BitVec 32 := 0#32
  let c1_i32_1064 : BitVec 32 := 1#32
  let arg29 : BitVec 32 := Scf.iv c0_i32_1062 c1_i32_1064 k0_t31
  let c32_i32_1448 : BitVec 32 := 32#32
  let v1710 : BitVec 32 := Scalar.muli arg29 c32_i32_1448
  v1710
def k0_off38 (k0_t31 : Fin k0_t31_loop.trips) : Fin 2 → Nat :=
  let c0_i32_1062 : BitVec 32 := 0#32
  let c1_i32_1064 : BitVec 32 := 1#32
  let arg29 : BitVec 32 := Scf.iv c0_i32_1062 c1_i32_1064 k0_t31
  let c32_i32_1448 : BitVec 32 := 32#32
  let v1710 : BitVec 32 := Scalar.muli arg29 c32_i32_1448
  let v1711 : BitVec 32 := v1710
  let v1712 : Index := Scalar.indexCast v1711
  let c0_1449 : Index := 0#32
  ![v1712.toNat, 0]
@[reducible] def k0_t32_loop : Scf.Loop 32 :=
  let c0_i32_1454 : BitVec 32 := 0#32
  let c16_i32_1455 : BitVec 32 := 16#32
  let v1719 : BitVec 32 := Scalar.addi c0_i32_1454 c16_i32_1455
  let c1_i32_1456 : BitVec 32 := 1#32
  ⟨c0_i32_1454, v1719, c1_i32_1456⟩
def k0_mult44 (k0_t32 : Fin k0_t32_loop.trips) : BitVec 32 :=
  let c0_i32_1454 : BitVec 32 := 0#32
  let c1_i32_1456 : BitVec 32 := 1#32
  let arg30 : BitVec 32 := Scf.iv c0_i32_1454 c1_i32_1456 k0_t32
  let c1024_i32 : BitVec 32 := 1024#32
  let v1724 : BitVec 32 := Scalar.muli arg30 c1024_i32
  v1724
def k0_off39 (k0_t31 : Fin k0_t31_loop.trips) (k0_t32 : Fin k0_t32_loop.trips) (c0_i32_1460 : BitVec 32) : Fin 3 → Nat :=
  let c1_1461 : Index := 1#32
  let c0_i32_1062 : BitVec 32 := 0#32
  let c1_i32_1064 : BitVec 32 := 1#32
  let arg29 : BitVec 32 := Scf.iv c0_i32_1062 c1_i32_1064 k0_t31
  let c32_i32_1448 : BitVec 32 := 32#32
  let v1710 : BitVec 32 := Scalar.muli arg29 c32_i32_1448
  let v1711 : BitVec 32 := v1710
  let v1727 : Index := Scalar.indexCast v1711
  let c0_i32_1454 : BitVec 32 := 0#32
  let c1_i32_1456 : BitVec 32 := 1#32
  let arg30 : BitVec 32 := Scf.iv c0_i32_1454 c1_i32_1456 k0_t32
  let c1024_i32 : BitVec 32 := 1024#32
  let v1724 : BitVec 32 := Scalar.muli arg30 c1024_i32
  let v1725 : BitVec 32 := v1724
  let v1726 : BitVec 32 := Scalar.addi v1725 c0_i32_1460
  let v1728 : Index := Scalar.indexCast v1726
  ![1, v1727.toNat, v1728.toNat]
def k0_off40 (k0_t31 : Fin k0_t31_loop.trips) (k0_t32 : Fin k0_t32_loop.trips) (c0_i32_1460 : BitVec 32) : Fin 3 → Nat :=
  let c3_1462 : Index := 3#32
  let c0_i32_1062 : BitVec 32 := 0#32
  let c1_i32_1064 : BitVec 32 := 1#32
  let arg29 : BitVec 32 := Scf.iv c0_i32_1062 c1_i32_1064 k0_t31
  let c32_i32_1448 : BitVec 32 := 32#32
  let v1710 : BitVec 32 := Scalar.muli arg29 c32_i32_1448
  let v1711 : BitVec 32 := v1710
  let v1732 : Index := Scalar.indexCast v1711
  let c0_i32_1454 : BitVec 32 := 0#32
  let c1_i32_1456 : BitVec 32 := 1#32
  let arg30 : BitVec 32 := Scf.iv c0_i32_1454 c1_i32_1456 k0_t32
  let c1024_i32 : BitVec 32 := 1024#32
  let v1724 : BitVec 32 := Scalar.muli arg30 c1024_i32
  let v1725 : BitVec 32 := v1724
  let v1726 : BitVec 32 := Scalar.addi v1725 c0_i32_1460
  let v1733 : Index := Scalar.indexCast v1726
  ![3, v1732.toNat, v1733.toNat]
@[reducible] def k0_t33_loop : Scf.Loop 32 :=
  let c1_i32_1095 : BitVec 32 := 1#32
  let c255_i32 : BitVec 32 := 255#32
  let v1428 : BitVec 32 := Scalar.addi c1_i32_1095 c255_i32
  let c1_i32_1096 : BitVec 32 := 1#32
  ⟨c1_i32_1095, v1428, c1_i32_1096⟩
@[reducible] def k0_t34_loop : Scf.Loop 32 :=
  let c0_i32_1104 : BitVec 32 := 0#32
  let c16_i32 : BitVec 32 := 16#32
  let v1450 : BitVec 32 := Scalar.addi c0_i32_1104 c16_i32
  let c1_i32_1105 : BitVec 32 := 1#32
  ⟨c0_i32_1104, v1450, c1_i32_1105⟩
def k0_mult45 (k0_t34 : Fin k0_t34_loop.trips) : BitVec 32 :=
  let c0_i32_1104 : BitVec 32 := 0#32
  let c1_i32_1105 : BitVec 32 := 1#32
  let arg29 : BitVec 32 := Scf.iv c0_i32_1104 c1_i32_1105 k0_t34
  let c1024_i32 : BitVec 32 := 1024#32
  let v1710 : BitVec 32 := Scalar.muli arg29 c1024_i32
  v1710
def k0_off41 (k0_t34 : Fin k0_t34_loop.trips) (c0_i32_1448 : BitVec 32) : Fin 3 → Nat :=
  let c0_1449 : Index := 0#32
  let c0_1450 : Index := 0#32
  let c0_i32_1104 : BitVec 32 := 0#32
  let c1_i32_1105 : BitVec 32 := 1#32
  let arg29 : BitVec 32 := Scf.iv c0_i32_1104 c1_i32_1105 k0_t34
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![0, 0, v1713.toNat]
def k0_off42 (k0_t34 : Fin k0_t34_loop.trips) (c0_i32_1448 : BitVec 32) : Fin 3 → Nat :=
  let c0_1453 : Index := 0#32
  let c0_1454 : Index := 0#32
  let c0_i32_1104 : BitVec 32 := 0#32
  let c1_i32_1105 : BitVec 32 := 1#32
  let arg29 : BitVec 32 := Scf.iv c0_i32_1104 c1_i32_1105 k0_t34
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 0, v1722.toNat]
@[reducible] def k0_t35_loop : Scf.Loop 32 :=
  let c0_i32_1107 : BitVec 32 := 0#32
  let c16_i32_1108 : BitVec 32 := 16#32
  let v1451 : BitVec 32 := Scalar.addi c0_i32_1107 c16_i32_1108
  let c1_i32_1109 : BitVec 32 := 1#32
  ⟨c0_i32_1107, v1451, c1_i32_1109⟩
def k0_mult46 (k0_t35 : Fin k0_t35_loop.trips) : BitVec 32 :=
  let c0_i32_1107 : BitVec 32 := 0#32
  let c1_i32_1109 : BitVec 32 := 1#32
  let arg29 : BitVec 32 := Scf.iv c0_i32_1107 c1_i32_1109 k0_t35
  let c1024_i32 : BitVec 32 := 1024#32
  let v1710 : BitVec 32 := Scalar.muli arg29 c1024_i32
  v1710
def k0_off43 (k0_t35 : Fin k0_t35_loop.trips) (c0_i32_1448 : BitVec 32) : Fin 3 → Nat :=
  let c0_1449 : Index := 0#32
  let c32 : Index := 32#32
  let c0_i32_1107 : BitVec 32 := 0#32
  let c1_i32_1109 : BitVec 32 := 1#32
  let arg29 : BitVec 32 := Scf.iv c0_i32_1107 c1_i32_1109 k0_t35
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![0, 32, v1713.toNat]
def k0_off44 (k0_t35 : Fin k0_t35_loop.trips) (c0_i32_1448 : BitVec 32) : Fin 3 → Nat :=
  let c0_1452 : Index := 0#32
  let c32_1453 : Index := 32#32
  let c0_i32_1107 : BitVec 32 := 0#32
  let c1_i32_1109 : BitVec 32 := 1#32
  let arg29 : BitVec 32 := Scf.iv c0_i32_1107 c1_i32_1109 k0_t35
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 32, v1722.toNat]
@[reducible] def k0_t36_loop : Scf.Loop 32 :=
  let c0_i32_1118 : BitVec 32 := 0#32
  let c16_i32_1119 : BitVec 32 := 16#32
  let v1458 : BitVec 32 := Scalar.addi c0_i32_1118 c16_i32_1119
  let c1_i32_1120 : BitVec 32 := 1#32
  ⟨c0_i32_1118, v1458, c1_i32_1120⟩
def k0_mult47 (k0_t36 : Fin k0_t36_loop.trips) : BitVec 32 :=
  let c0_i32_1118 : BitVec 32 := 0#32
  let c1_i32_1120 : BitVec 32 := 1#32
  let arg29 : BitVec 32 := Scf.iv c0_i32_1118 c1_i32_1120 k0_t36
  let c1024_i32 : BitVec 32 := 1024#32
  let v1710 : BitVec 32 := Scalar.muli arg29 c1024_i32
  v1710
def k0_off45 (k0_t36 : Fin k0_t36_loop.trips) (c0_i32_1448 : BitVec 32) : Fin 3 → Nat :=
  let c0_1449 : Index := 0#32
  let c64 : Index := 64#32
  let c0_i32_1118 : BitVec 32 := 0#32
  let c1_i32_1120 : BitVec 32 := 1#32
  let arg29 : BitVec 32 := Scf.iv c0_i32_1118 c1_i32_1120 k0_t36
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![0, 64, v1713.toNat]
def k0_off46 (k0_t36 : Fin k0_t36_loop.trips) (c0_i32_1448 : BitVec 32) : Fin 3 → Nat :=
  let c0_1452 : Index := 0#32
  let c64_1453 : Index := 64#32
  let c0_i32_1118 : BitVec 32 := 0#32
  let c1_i32_1120 : BitVec 32 := 1#32
  let arg29 : BitVec 32 := Scf.iv c0_i32_1118 c1_i32_1120 k0_t36
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 64, v1722.toNat]
@[reducible] def k0_t37_loop : Scf.Loop 32 :=
  let c0_i32_1128 : BitVec 32 := 0#32
  let c16_i32_1129 : BitVec 32 := 16#32
  let v1465 : BitVec 32 := Scalar.addi c0_i32_1128 c16_i32_1129
  let c1_i32_1130 : BitVec 32 := 1#32
  ⟨c0_i32_1128, v1465, c1_i32_1130⟩
def k0_mult48 (k0_t37 : Fin k0_t37_loop.trips) : BitVec 32 :=
  let c0_i32_1128 : BitVec 32 := 0#32
  let c1_i32_1130 : BitVec 32 := 1#32
  let arg29 : BitVec 32 := Scf.iv c0_i32_1128 c1_i32_1130 k0_t37
  let c1024_i32 : BitVec 32 := 1024#32
  let v1710 : BitVec 32 := Scalar.muli arg29 c1024_i32
  v1710
def k0_off47 (k0_t37 : Fin k0_t37_loop.trips) (c0_i32_1448 : BitVec 32) : Fin 3 → Nat :=
  let c0_1449 : Index := 0#32
  let c96 : Index := 96#32
  let c0_i32_1128 : BitVec 32 := 0#32
  let c1_i32_1130 : BitVec 32 := 1#32
  let arg29 : BitVec 32 := Scf.iv c0_i32_1128 c1_i32_1130 k0_t37
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![0, 96, v1713.toNat]
def k0_off48 (k0_t37 : Fin k0_t37_loop.trips) (c0_i32_1448 : BitVec 32) : Fin 3 → Nat :=
  let c0_1452 : Index := 0#32
  let c96_1453 : Index := 96#32
  let c0_i32_1128 : BitVec 32 := 0#32
  let c1_i32_1130 : BitVec 32 := 1#32
  let arg29 : BitVec 32 := Scf.iv c0_i32_1128 c1_i32_1130 k0_t37
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 96, v1722.toNat]
@[reducible] def k0_t38_loop : Scf.Loop 32 :=
  let c0_i32_1137 : BitVec 32 := 0#32
  let c16_i32_1138 : BitVec 32 := 16#32
  let v1472 : BitVec 32 := Scalar.addi c0_i32_1137 c16_i32_1138
  let c1_i32_1139 : BitVec 32 := 1#32
  ⟨c0_i32_1137, v1472, c1_i32_1139⟩
def k0_mult49 (k0_t38 : Fin k0_t38_loop.trips) : BitVec 32 :=
  let c0_i32_1137 : BitVec 32 := 0#32
  let c1_i32_1139 : BitVec 32 := 1#32
  let arg29 : BitVec 32 := Scf.iv c0_i32_1137 c1_i32_1139 k0_t38
  let c1024_i32 : BitVec 32 := 1024#32
  let v1710 : BitVec 32 := Scalar.muli arg29 c1024_i32
  v1710
def k0_off49 (k0_t38 : Fin k0_t38_loop.trips) (c0_i32_1448 : BitVec 32) : Fin 3 → Nat :=
  let c0_1449 : Index := 0#32
  let c128_1450 : Index := 128#32
  let c0_i32_1137 : BitVec 32 := 0#32
  let c1_i32_1139 : BitVec 32 := 1#32
  let arg29 : BitVec 32 := Scf.iv c0_i32_1137 c1_i32_1139 k0_t38
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![0, 128, v1713.toNat]
def k0_off50 (k0_t38 : Fin k0_t38_loop.trips) (c0_i32_1448 : BitVec 32) : Fin 3 → Nat :=
  let c0_1453 : Index := 0#32
  let c128_1454 : Index := 128#32
  let c0_i32_1137 : BitVec 32 := 0#32
  let c1_i32_1139 : BitVec 32 := 1#32
  let arg29 : BitVec 32 := Scf.iv c0_i32_1137 c1_i32_1139 k0_t38
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 128, v1722.toNat]
@[reducible] def k0_t39_loop : Scf.Loop 32 :=
  let c0_i32_1146 : BitVec 32 := 0#32
  let c16_i32_1147 : BitVec 32 := 16#32
  let v1479 : BitVec 32 := Scalar.addi c0_i32_1146 c16_i32_1147
  let c1_i32_1148 : BitVec 32 := 1#32
  ⟨c0_i32_1146, v1479, c1_i32_1148⟩
def k0_mult50 (k0_t39 : Fin k0_t39_loop.trips) : BitVec 32 :=
  let c0_i32_1146 : BitVec 32 := 0#32
  let c1_i32_1148 : BitVec 32 := 1#32
  let arg29 : BitVec 32 := Scf.iv c0_i32_1146 c1_i32_1148 k0_t39
  let c1024_i32 : BitVec 32 := 1024#32
  let v1710 : BitVec 32 := Scalar.muli arg29 c1024_i32
  v1710
def k0_off51 (k0_t39 : Fin k0_t39_loop.trips) (c0_i32_1448 : BitVec 32) : Fin 3 → Nat :=
  let c1_1449 : Index := 1#32
  let c0_1450 : Index := 0#32
  let c0_i32_1146 : BitVec 32 := 0#32
  let c1_i32_1148 : BitVec 32 := 1#32
  let arg29 : BitVec 32 := Scf.iv c0_i32_1146 c1_i32_1148 k0_t39
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![1, 0, v1713.toNat]
def k0_off52 (k0_t39 : Fin k0_t39_loop.trips) (c0_i32_1448 : BitVec 32) : Fin 3 → Nat :=
  let c1_1453 : Index := 1#32
  let c0_1454 : Index := 0#32
  let c0_i32_1146 : BitVec 32 := 0#32
  let c1_i32_1148 : BitVec 32 := 1#32
  let arg29 : BitVec 32 := Scf.iv c0_i32_1146 c1_i32_1148 k0_t39
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 0, v1722.toNat]
@[reducible] def k0_t40_loop : Scf.Loop 32 :=
  let c0_i32_1155 : BitVec 32 := 0#32
  let c16_i32_1156 : BitVec 32 := 16#32
  let v1486 : BitVec 32 := Scalar.addi c0_i32_1155 c16_i32_1156
  let c1_i32_1157 : BitVec 32 := 1#32
  ⟨c0_i32_1155, v1486, c1_i32_1157⟩
def k0_mult51 (k0_t40 : Fin k0_t40_loop.trips) : BitVec 32 :=
  let c0_i32_1155 : BitVec 32 := 0#32
  let c1_i32_1157 : BitVec 32 := 1#32
  let arg29 : BitVec 32 := Scf.iv c0_i32_1155 c1_i32_1157 k0_t40
  let c1024_i32 : BitVec 32 := 1024#32
  let v1710 : BitVec 32 := Scalar.muli arg29 c1024_i32
  v1710
def k0_off53 (k0_t40 : Fin k0_t40_loop.trips) (c0_i32_1448 : BitVec 32) : Fin 3 → Nat :=
  let c1_1449 : Index := 1#32
  let c32 : Index := 32#32
  let c0_i32_1155 : BitVec 32 := 0#32
  let c1_i32_1157 : BitVec 32 := 1#32
  let arg29 : BitVec 32 := Scf.iv c0_i32_1155 c1_i32_1157 k0_t40
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![1, 32, v1713.toNat]
def k0_off54 (k0_t40 : Fin k0_t40_loop.trips) (c0_i32_1448 : BitVec 32) : Fin 3 → Nat :=
  let c1_1452 : Index := 1#32
  let c32_1453 : Index := 32#32
  let c0_i32_1155 : BitVec 32 := 0#32
  let c1_i32_1157 : BitVec 32 := 1#32
  let arg29 : BitVec 32 := Scf.iv c0_i32_1155 c1_i32_1157 k0_t40
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 32, v1722.toNat]
@[reducible] def k0_t41_loop : Scf.Loop 32 :=
  let c0_i32_1166 : BitVec 32 := 0#32
  let c16_i32_1167 : BitVec 32 := 16#32
  let v1493 : BitVec 32 := Scalar.addi c0_i32_1166 c16_i32_1167
  let c1_i32_1168 : BitVec 32 := 1#32
  ⟨c0_i32_1166, v1493, c1_i32_1168⟩
def k0_mult52 (k0_t41 : Fin k0_t41_loop.trips) : BitVec 32 :=
  let c0_i32_1166 : BitVec 32 := 0#32
  let c1_i32_1168 : BitVec 32 := 1#32
  let arg29 : BitVec 32 := Scf.iv c0_i32_1166 c1_i32_1168 k0_t41
  let c1024_i32 : BitVec 32 := 1024#32
  let v1710 : BitVec 32 := Scalar.muli arg29 c1024_i32
  v1710
def k0_off55 (k0_t41 : Fin k0_t41_loop.trips) (c0_i32_1448 : BitVec 32) : Fin 3 → Nat :=
  let c1_1449 : Index := 1#32
  let c64 : Index := 64#32
  let c0_i32_1166 : BitVec 32 := 0#32
  let c1_i32_1168 : BitVec 32 := 1#32
  let arg29 : BitVec 32 := Scf.iv c0_i32_1166 c1_i32_1168 k0_t41
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![1, 64, v1713.toNat]
def k0_off56 (k0_t41 : Fin k0_t41_loop.trips) (c0_i32_1448 : BitVec 32) : Fin 3 → Nat :=
  let c1_1452 : Index := 1#32
  let c64_1453 : Index := 64#32
  let c0_i32_1166 : BitVec 32 := 0#32
  let c1_i32_1168 : BitVec 32 := 1#32
  let arg29 : BitVec 32 := Scf.iv c0_i32_1166 c1_i32_1168 k0_t41
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 64, v1722.toNat]
@[reducible] def k0_t42_loop : Scf.Loop 32 :=
  let c0_i32_1175 : BitVec 32 := 0#32
  let c16_i32_1176 : BitVec 32 := 16#32
  let v1500 : BitVec 32 := Scalar.addi c0_i32_1175 c16_i32_1176
  let c1_i32_1177 : BitVec 32 := 1#32
  ⟨c0_i32_1175, v1500, c1_i32_1177⟩
def k0_mult53 (k0_t42 : Fin k0_t42_loop.trips) : BitVec 32 :=
  let c0_i32_1175 : BitVec 32 := 0#32
  let c1_i32_1177 : BitVec 32 := 1#32
  let arg29 : BitVec 32 := Scf.iv c0_i32_1175 c1_i32_1177 k0_t42
  let c1024_i32 : BitVec 32 := 1024#32
  let v1710 : BitVec 32 := Scalar.muli arg29 c1024_i32
  v1710
def k0_off57 (k0_t42 : Fin k0_t42_loop.trips) (c0_i32_1448 : BitVec 32) : Fin 3 → Nat :=
  let c1_1449 : Index := 1#32
  let c96 : Index := 96#32
  let c0_i32_1175 : BitVec 32 := 0#32
  let c1_i32_1177 : BitVec 32 := 1#32
  let arg29 : BitVec 32 := Scf.iv c0_i32_1175 c1_i32_1177 k0_t42
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![1, 96, v1713.toNat]
def k0_off58 (k0_t42 : Fin k0_t42_loop.trips) (c0_i32_1448 : BitVec 32) : Fin 3 → Nat :=
  let c1_1452 : Index := 1#32
  let c96_1453 : Index := 96#32
  let c0_i32_1175 : BitVec 32 := 0#32
  let c1_i32_1177 : BitVec 32 := 1#32
  let arg29 : BitVec 32 := Scf.iv c0_i32_1175 c1_i32_1177 k0_t42
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 96, v1722.toNat]
@[reducible] def k0_t43_loop : Scf.Loop 32 :=
  let c0_i32_1184 : BitVec 32 := 0#32
  let c16_i32_1185 : BitVec 32 := 16#32
  let v1507 : BitVec 32 := Scalar.addi c0_i32_1184 c16_i32_1185
  let c1_i32_1186 : BitVec 32 := 1#32
  ⟨c0_i32_1184, v1507, c1_i32_1186⟩
def k0_mult54 (k0_t43 : Fin k0_t43_loop.trips) : BitVec 32 :=
  let c0_i32_1184 : BitVec 32 := 0#32
  let c1_i32_1186 : BitVec 32 := 1#32
  let arg29 : BitVec 32 := Scf.iv c0_i32_1184 c1_i32_1186 k0_t43
  let c1024_i32 : BitVec 32 := 1024#32
  let v1710 : BitVec 32 := Scalar.muli arg29 c1024_i32
  v1710
def k0_off59 (k0_t43 : Fin k0_t43_loop.trips) (c0_i32_1448 : BitVec 32) : Fin 3 → Nat :=
  let c1_1449 : Index := 1#32
  let c128_1450 : Index := 128#32
  let c0_i32_1184 : BitVec 32 := 0#32
  let c1_i32_1186 : BitVec 32 := 1#32
  let arg29 : BitVec 32 := Scf.iv c0_i32_1184 c1_i32_1186 k0_t43
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![1, 128, v1713.toNat]
def k0_off60 (k0_t43 : Fin k0_t43_loop.trips) (c0_i32_1448 : BitVec 32) : Fin 3 → Nat :=
  let c1_1453 : Index := 1#32
  let c128_1454 : Index := 128#32
  let c0_i32_1184 : BitVec 32 := 0#32
  let c1_i32_1186 : BitVec 32 := 1#32
  let arg29 : BitVec 32 := Scf.iv c0_i32_1184 c1_i32_1186 k0_t43
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 128, v1722.toNat]
@[reducible] def k0_t44_loop : Scf.Loop 32 :=
  let c0_i32_1200 : BitVec 32 := 0#32
  let c16_i32_1201 : BitVec 32 := 16#32
  let v1520 : BitVec 32 := Scalar.addi c0_i32_1200 c16_i32_1201
  let c1_i32_1202 : BitVec 32 := 1#32
  ⟨c0_i32_1200, v1520, c1_i32_1202⟩
def k0_mult55 (k0_t44 : Fin k0_t44_loop.trips) : BitVec 32 :=
  let c0_i32_1200 : BitVec 32 := 0#32
  let c1_i32_1202 : BitVec 32 := 1#32
  let arg29 : BitVec 32 := Scf.iv c0_i32_1200 c1_i32_1202 k0_t44
  let c1024_i32 : BitVec 32 := 1024#32
  let v1710 : BitVec 32 := Scalar.muli arg29 c1024_i32
  v1710
def k0_off61 (k0_t44 : Fin k0_t44_loop.trips) (c0_i32_1448 : BitVec 32) : Fin 3 → Nat :=
  let c2_1449 : Index := 2#32
  let c0_1450 : Index := 0#32
  let c0_i32_1200 : BitVec 32 := 0#32
  let c1_i32_1202 : BitVec 32 := 1#32
  let arg29 : BitVec 32 := Scf.iv c0_i32_1200 c1_i32_1202 k0_t44
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![2, 0, v1713.toNat]
def k0_off62 (k0_t44 : Fin k0_t44_loop.trips) (c0_i32_1448 : BitVec 32) : Fin 3 → Nat :=
  let c0_1453 : Index := 0#32
  let c0_1454 : Index := 0#32
  let c0_i32_1200 : BitVec 32 := 0#32
  let c1_i32_1202 : BitVec 32 := 1#32
  let arg29 : BitVec 32 := Scf.iv c0_i32_1200 c1_i32_1202 k0_t44
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 0, v1722.toNat]
@[reducible] def k0_t45_loop : Scf.Loop 32 :=
  let c0_i32_1216 : BitVec 32 := 0#32
  let c16_i32_1217 : BitVec 32 := 16#32
  let v1533 : BitVec 32 := Scalar.addi c0_i32_1216 c16_i32_1217
  let c1_i32_1218 : BitVec 32 := 1#32
  ⟨c0_i32_1216, v1533, c1_i32_1218⟩
def k0_mult56 (k0_t45 : Fin k0_t45_loop.trips) : BitVec 32 :=
  let c0_i32_1216 : BitVec 32 := 0#32
  let c1_i32_1218 : BitVec 32 := 1#32
  let arg29 : BitVec 32 := Scf.iv c0_i32_1216 c1_i32_1218 k0_t45
  let c1024_i32 : BitVec 32 := 1024#32
  let v1710 : BitVec 32 := Scalar.muli arg29 c1024_i32
  v1710
def k0_off63 (k0_t45 : Fin k0_t45_loop.trips) (c0_i32_1448 : BitVec 32) : Fin 3 → Nat :=
  let c2_1449 : Index := 2#32
  let c32 : Index := 32#32
  let c0_i32_1216 : BitVec 32 := 0#32
  let c1_i32_1218 : BitVec 32 := 1#32
  let arg29 : BitVec 32 := Scf.iv c0_i32_1216 c1_i32_1218 k0_t45
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![2, 32, v1713.toNat]
def k0_off64 (k0_t45 : Fin k0_t45_loop.trips) (c0_i32_1448 : BitVec 32) : Fin 3 → Nat :=
  let c0_1452 : Index := 0#32
  let c32_1453 : Index := 32#32
  let c0_i32_1216 : BitVec 32 := 0#32
  let c1_i32_1218 : BitVec 32 := 1#32
  let arg29 : BitVec 32 := Scf.iv c0_i32_1216 c1_i32_1218 k0_t45
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 32, v1722.toNat]
@[reducible] def k0_t46_loop : Scf.Loop 32 :=
  let c0_i32_1234 : BitVec 32 := 0#32
  let c16_i32_1235 : BitVec 32 := 16#32
  let v1546 : BitVec 32 := Scalar.addi c0_i32_1234 c16_i32_1235
  let c1_i32_1236 : BitVec 32 := 1#32
  ⟨c0_i32_1234, v1546, c1_i32_1236⟩
def k0_mult57 (k0_t46 : Fin k0_t46_loop.trips) : BitVec 32 :=
  let c0_i32_1234 : BitVec 32 := 0#32
  let c1_i32_1236 : BitVec 32 := 1#32
  let arg29 : BitVec 32 := Scf.iv c0_i32_1234 c1_i32_1236 k0_t46
  let c1024_i32 : BitVec 32 := 1024#32
  let v1710 : BitVec 32 := Scalar.muli arg29 c1024_i32
  v1710
def k0_off65 (k0_t46 : Fin k0_t46_loop.trips) (c0_i32_1448 : BitVec 32) : Fin 3 → Nat :=
  let c2_1449 : Index := 2#32
  let c64 : Index := 64#32
  let c0_i32_1234 : BitVec 32 := 0#32
  let c1_i32_1236 : BitVec 32 := 1#32
  let arg29 : BitVec 32 := Scf.iv c0_i32_1234 c1_i32_1236 k0_t46
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![2, 64, v1713.toNat]
def k0_off66 (k0_t46 : Fin k0_t46_loop.trips) (c0_i32_1448 : BitVec 32) : Fin 3 → Nat :=
  let c0_1452 : Index := 0#32
  let c64_1453 : Index := 64#32
  let c0_i32_1234 : BitVec 32 := 0#32
  let c1_i32_1236 : BitVec 32 := 1#32
  let arg29 : BitVec 32 := Scf.iv c0_i32_1234 c1_i32_1236 k0_t46
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 64, v1722.toNat]
@[reducible] def k0_t47_loop : Scf.Loop 32 :=
  let c0_i32_1252 : BitVec 32 := 0#32
  let c16_i32_1253 : BitVec 32 := 16#32
  let v1559 : BitVec 32 := Scalar.addi c0_i32_1252 c16_i32_1253
  let c1_i32_1254 : BitVec 32 := 1#32
  ⟨c0_i32_1252, v1559, c1_i32_1254⟩
def k0_mult58 (k0_t47 : Fin k0_t47_loop.trips) : BitVec 32 :=
  let c0_i32_1252 : BitVec 32 := 0#32
  let c1_i32_1254 : BitVec 32 := 1#32
  let arg29 : BitVec 32 := Scf.iv c0_i32_1252 c1_i32_1254 k0_t47
  let c1024_i32 : BitVec 32 := 1024#32
  let v1710 : BitVec 32 := Scalar.muli arg29 c1024_i32
  v1710
def k0_off67 (k0_t47 : Fin k0_t47_loop.trips) (c0_i32_1448 : BitVec 32) : Fin 3 → Nat :=
  let c2_1449 : Index := 2#32
  let c96 : Index := 96#32
  let c0_i32_1252 : BitVec 32 := 0#32
  let c1_i32_1254 : BitVec 32 := 1#32
  let arg29 : BitVec 32 := Scf.iv c0_i32_1252 c1_i32_1254 k0_t47
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![2, 96, v1713.toNat]
def k0_off68 (k0_t47 : Fin k0_t47_loop.trips) (c0_i32_1448 : BitVec 32) : Fin 3 → Nat :=
  let c0_1452 : Index := 0#32
  let c96_1453 : Index := 96#32
  let c0_i32_1252 : BitVec 32 := 0#32
  let c1_i32_1254 : BitVec 32 := 1#32
  let arg29 : BitVec 32 := Scf.iv c0_i32_1252 c1_i32_1254 k0_t47
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 96, v1722.toNat]
@[reducible] def k0_t48_loop : Scf.Loop 32 :=
  let c0_i32_1270 : BitVec 32 := 0#32
  let c16_i32_1271 : BitVec 32 := 16#32
  let v1572 : BitVec 32 := Scalar.addi c0_i32_1270 c16_i32_1271
  let c1_i32_1272 : BitVec 32 := 1#32
  ⟨c0_i32_1270, v1572, c1_i32_1272⟩
def k0_mult59 (k0_t48 : Fin k0_t48_loop.trips) : BitVec 32 :=
  let c0_i32_1270 : BitVec 32 := 0#32
  let c1_i32_1272 : BitVec 32 := 1#32
  let arg29 : BitVec 32 := Scf.iv c0_i32_1270 c1_i32_1272 k0_t48
  let c1024_i32 : BitVec 32 := 1024#32
  let v1710 : BitVec 32 := Scalar.muli arg29 c1024_i32
  v1710
def k0_off69 (k0_t48 : Fin k0_t48_loop.trips) (c0_i32_1448 : BitVec 32) : Fin 3 → Nat :=
  let c2_1449 : Index := 2#32
  let c128_1450 : Index := 128#32
  let c0_i32_1270 : BitVec 32 := 0#32
  let c1_i32_1272 : BitVec 32 := 1#32
  let arg29 : BitVec 32 := Scf.iv c0_i32_1270 c1_i32_1272 k0_t48
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![2, 128, v1713.toNat]
def k0_off70 (k0_t48 : Fin k0_t48_loop.trips) (c0_i32_1448 : BitVec 32) : Fin 3 → Nat :=
  let c0_1453 : Index := 0#32
  let c128_1454 : Index := 128#32
  let c0_i32_1270 : BitVec 32 := 0#32
  let c1_i32_1272 : BitVec 32 := 1#32
  let arg29 : BitVec 32 := Scf.iv c0_i32_1270 c1_i32_1272 k0_t48
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![0, 128, v1722.toNat]
@[reducible] def k0_t49_loop : Scf.Loop 32 :=
  let c0_i32_1288 : BitVec 32 := 0#32
  let c16_i32_1289 : BitVec 32 := 16#32
  let v1585 : BitVec 32 := Scalar.addi c0_i32_1288 c16_i32_1289
  let c1_i32_1290 : BitVec 32 := 1#32
  ⟨c0_i32_1288, v1585, c1_i32_1290⟩
def k0_mult60 (k0_t49 : Fin k0_t49_loop.trips) : BitVec 32 :=
  let c0_i32_1288 : BitVec 32 := 0#32
  let c1_i32_1290 : BitVec 32 := 1#32
  let arg29 : BitVec 32 := Scf.iv c0_i32_1288 c1_i32_1290 k0_t49
  let c1024_i32 : BitVec 32 := 1024#32
  let v1710 : BitVec 32 := Scalar.muli arg29 c1024_i32
  v1710
def k0_off71 (k0_t49 : Fin k0_t49_loop.trips) (c0_i32_1448 : BitVec 32) : Fin 3 → Nat :=
  let c3_1449 : Index := 3#32
  let c0_1450 : Index := 0#32
  let c0_i32_1288 : BitVec 32 := 0#32
  let c1_i32_1290 : BitVec 32 := 1#32
  let arg29 : BitVec 32 := Scf.iv c0_i32_1288 c1_i32_1290 k0_t49
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![3, 0, v1713.toNat]
def k0_off72 (k0_t49 : Fin k0_t49_loop.trips) (c0_i32_1448 : BitVec 32) : Fin 3 → Nat :=
  let c1_1453 : Index := 1#32
  let c0_1454 : Index := 0#32
  let c0_i32_1288 : BitVec 32 := 0#32
  let c1_i32_1290 : BitVec 32 := 1#32
  let arg29 : BitVec 32 := Scf.iv c0_i32_1288 c1_i32_1290 k0_t49
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 0, v1722.toNat]
@[reducible] def k0_t50_loop : Scf.Loop 32 :=
  let c0_i32_1306 : BitVec 32 := 0#32
  let c16_i32_1307 : BitVec 32 := 16#32
  let v1598 : BitVec 32 := Scalar.addi c0_i32_1306 c16_i32_1307
  let c1_i32_1308 : BitVec 32 := 1#32
  ⟨c0_i32_1306, v1598, c1_i32_1308⟩
def k0_mult61 (k0_t50 : Fin k0_t50_loop.trips) : BitVec 32 :=
  let c0_i32_1306 : BitVec 32 := 0#32
  let c1_i32_1308 : BitVec 32 := 1#32
  let arg29 : BitVec 32 := Scf.iv c0_i32_1306 c1_i32_1308 k0_t50
  let c1024_i32 : BitVec 32 := 1024#32
  let v1710 : BitVec 32 := Scalar.muli arg29 c1024_i32
  v1710
def k0_off73 (k0_t50 : Fin k0_t50_loop.trips) (c0_i32_1448 : BitVec 32) : Fin 3 → Nat :=
  let c3_1449 : Index := 3#32
  let c32 : Index := 32#32
  let c0_i32_1306 : BitVec 32 := 0#32
  let c1_i32_1308 : BitVec 32 := 1#32
  let arg29 : BitVec 32 := Scf.iv c0_i32_1306 c1_i32_1308 k0_t50
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![3, 32, v1713.toNat]
def k0_off74 (k0_t50 : Fin k0_t50_loop.trips) (c0_i32_1448 : BitVec 32) : Fin 3 → Nat :=
  let c1_1452 : Index := 1#32
  let c32_1453 : Index := 32#32
  let c0_i32_1306 : BitVec 32 := 0#32
  let c1_i32_1308 : BitVec 32 := 1#32
  let arg29 : BitVec 32 := Scf.iv c0_i32_1306 c1_i32_1308 k0_t50
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 32, v1722.toNat]
@[reducible] def k0_t51_loop : Scf.Loop 32 :=
  let c0_i32_1324 : BitVec 32 := 0#32
  let c16_i32_1325 : BitVec 32 := 16#32
  let v1611 : BitVec 32 := Scalar.addi c0_i32_1324 c16_i32_1325
  let c1_i32_1326 : BitVec 32 := 1#32
  ⟨c0_i32_1324, v1611, c1_i32_1326⟩
def k0_mult62 (k0_t51 : Fin k0_t51_loop.trips) : BitVec 32 :=
  let c0_i32_1324 : BitVec 32 := 0#32
  let c1_i32_1326 : BitVec 32 := 1#32
  let arg29 : BitVec 32 := Scf.iv c0_i32_1324 c1_i32_1326 k0_t51
  let c1024_i32 : BitVec 32 := 1024#32
  let v1710 : BitVec 32 := Scalar.muli arg29 c1024_i32
  v1710
def k0_off75 (k0_t51 : Fin k0_t51_loop.trips) (c0_i32_1448 : BitVec 32) : Fin 3 → Nat :=
  let c3_1449 : Index := 3#32
  let c64 : Index := 64#32
  let c0_i32_1324 : BitVec 32 := 0#32
  let c1_i32_1326 : BitVec 32 := 1#32
  let arg29 : BitVec 32 := Scf.iv c0_i32_1324 c1_i32_1326 k0_t51
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![3, 64, v1713.toNat]
def k0_off76 (k0_t51 : Fin k0_t51_loop.trips) (c0_i32_1448 : BitVec 32) : Fin 3 → Nat :=
  let c1_1452 : Index := 1#32
  let c64_1453 : Index := 64#32
  let c0_i32_1324 : BitVec 32 := 0#32
  let c1_i32_1326 : BitVec 32 := 1#32
  let arg29 : BitVec 32 := Scf.iv c0_i32_1324 c1_i32_1326 k0_t51
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 64, v1722.toNat]
@[reducible] def k0_t52_loop : Scf.Loop 32 :=
  let c0_i32_1342 : BitVec 32 := 0#32
  let c16_i32_1343 : BitVec 32 := 16#32
  let v1624 : BitVec 32 := Scalar.addi c0_i32_1342 c16_i32_1343
  let c1_i32_1344 : BitVec 32 := 1#32
  ⟨c0_i32_1342, v1624, c1_i32_1344⟩
def k0_mult63 (k0_t52 : Fin k0_t52_loop.trips) : BitVec 32 :=
  let c0_i32_1342 : BitVec 32 := 0#32
  let c1_i32_1344 : BitVec 32 := 1#32
  let arg29 : BitVec 32 := Scf.iv c0_i32_1342 c1_i32_1344 k0_t52
  let c1024_i32 : BitVec 32 := 1024#32
  let v1710 : BitVec 32 := Scalar.muli arg29 c1024_i32
  v1710
def k0_off77 (k0_t52 : Fin k0_t52_loop.trips) (c0_i32_1448 : BitVec 32) : Fin 3 → Nat :=
  let c3_1449 : Index := 3#32
  let c96 : Index := 96#32
  let c0_i32_1342 : BitVec 32 := 0#32
  let c1_i32_1344 : BitVec 32 := 1#32
  let arg29 : BitVec 32 := Scf.iv c0_i32_1342 c1_i32_1344 k0_t52
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![3, 96, v1713.toNat]
def k0_off78 (k0_t52 : Fin k0_t52_loop.trips) (c0_i32_1448 : BitVec 32) : Fin 3 → Nat :=
  let c1_1452 : Index := 1#32
  let c96_1453 : Index := 96#32
  let c0_i32_1342 : BitVec 32 := 0#32
  let c1_i32_1344 : BitVec 32 := 1#32
  let arg29 : BitVec 32 := Scf.iv c0_i32_1342 c1_i32_1344 k0_t52
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 96, v1722.toNat]
@[reducible] def k0_t53_loop : Scf.Loop 32 :=
  let c0_i32_1360 : BitVec 32 := 0#32
  let c16_i32_1361 : BitVec 32 := 16#32
  let v1637 : BitVec 32 := Scalar.addi c0_i32_1360 c16_i32_1361
  let c1_i32_1362 : BitVec 32 := 1#32
  ⟨c0_i32_1360, v1637, c1_i32_1362⟩
def k0_mult64 (k0_t53 : Fin k0_t53_loop.trips) : BitVec 32 :=
  let c0_i32_1360 : BitVec 32 := 0#32
  let c1_i32_1362 : BitVec 32 := 1#32
  let arg29 : BitVec 32 := Scf.iv c0_i32_1360 c1_i32_1362 k0_t53
  let c1024_i32 : BitVec 32 := 1024#32
  let v1710 : BitVec 32 := Scalar.muli arg29 c1024_i32
  v1710
def k0_off79 (k0_t53 : Fin k0_t53_loop.trips) (c0_i32_1448 : BitVec 32) : Fin 3 → Nat :=
  let c3_1449 : Index := 3#32
  let c128_1450 : Index := 128#32
  let c0_i32_1360 : BitVec 32 := 0#32
  let c1_i32_1362 : BitVec 32 := 1#32
  let arg29 : BitVec 32 := Scf.iv c0_i32_1360 c1_i32_1362 k0_t53
  let c1024_i32 : BitVec 32 := 1024#32
  let v1710 : BitVec 32 := Scalar.muli arg29 c1024_i32
  let v1711 : BitVec 32 := v1710
  let v1712 : BitVec 32 := Scalar.addi v1711 c0_i32_1448
  let v1713 : Index := Scalar.indexCast v1712
  ![3, 128, v1713.toNat]
def k0_off80 (k0_t53 : Fin k0_t53_loop.trips) (c0_i32_1448 : BitVec 32) : Fin 3 → Nat :=
  let c1_1453 : Index := 1#32
  let c128_1454 : Index := 128#32
  let c0_i32_1360 : BitVec 32 := 0#32
  let c1_i32_1362 : BitVec 32 := 1#32
  let arg29 : BitVec 32 := Scf.iv c0_i32_1360 c1_i32_1362 k0_t53
  let c1024_i32 : BitVec 32 := 1024#32
  let v1710 : BitVec 32 := Scalar.muli arg29 c1024_i32
  let v1711 : BitVec 32 := v1710
  let v1712 : BitVec 32 := Scalar.addi v1711 c0_i32_1448
  let v1722 : Index := Scalar.indexCast v1712
  ![1, 128, v1722.toNat]
abbrev stage0_0 : Fin 1 → Memref sig .tc .vmem S1x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 163840 : ℝ) : EReal)
  | _ => none
-- ==== ReferenceIdeal.lean ====
abbrev S2x16384x320 : Shape := ⟨3, ![2, 16384, 320]⟩
abbrev S320 : Shape := ⟨1, ![320]⟩
abbrev S_ : Shape := ⟨0, ![]⟩
abbrev S1x1 : Shape := ⟨2, ![1, 1]⟩
abbrev S1x320 : Shape := ⟨2, ![1, 320]⟩
abbrev S2x16384x32x10 : Shape := ⟨4, ![2, 16384, 32, 10]⟩
abbrev S32x10 : Shape := ⟨2, ![32, 10]⟩
abbrev S2x32 : Shape := ⟨2, ![2, 32]⟩
abbrev S2x1x32x1 : Shape := ⟨4, ![2, 1, 32, 1]⟩
abbrev S1x1x32x10 : Shape := ⟨4, ![1, 1, 32, 10]⟩
abbrev S2x32x10 : Shape := ⟨3, ![2, 32, 10]⟩
abbrev S2x32x1 : Shape := ⟨3, ![2, 32, 1]⟩

abbrev nBuf : Space → Nat
  | .hbm => 8
  | .vmem => 7
  | .smem => 0
  | _ => 0

abbrev bufTy : (tb : Table) → Fin (tcTables nBuf tb) → BufTy
  | .hbm, ⟨0, _⟩ => ⟨S2x16384x320, .bf16⟩
  | .hbm, ⟨1, _⟩ => ⟨S320, .f32⟩
  | .hbm, ⟨2, _⟩ => ⟨S320, .f32⟩
  | .hbm, ⟨3, _⟩ => ⟨S2x16384x320, .fp8e5m2⟩
  | .hbm, ⟨4, _⟩ => ⟨S_, .f32⟩
  | .hbm, ⟨5, _⟩ => ⟨S1x1, .f32⟩
  | .hbm, ⟨6, _⟩ => ⟨S1x320, .f32⟩
  | .hbm, ⟨7, _⟩ => ⟨S1x320, .f32⟩
  | .local _ .vmem, ⟨0, _⟩ => ⟨S2x16384x320, .bf16⟩
  | .local _ .vmem, ⟨1, _⟩ => ⟨S320, .f32⟩
  | .local _ .vmem, ⟨2, _⟩ => ⟨S320, .f32⟩
  | .local _ .vmem, ⟨3, _⟩ => ⟨S2x16384x320, .fp8e5m2⟩
  | .local _ .vmem, ⟨4, _⟩ => ⟨S1x1, .f32⟩
  | .local _ .vmem, ⟨5, _⟩ => ⟨S1x320, .f32⟩
  | .local _ .vmem, ⟨6, _⟩ => ⟨S1x320, .f32⟩
  | _, _ => ⟨S2x16384x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x16384x320 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x320 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Instr.lean ====
/-
  One instruction at a time: what a load, a store, a loop, a started transfer and a wait do to a buffer of which a set of
  places is held at named contents (`Has`) or at any contents (`Any`).
-/
module

public import proofs.«01_k».proof.Proof.Gen.KernelIdeal.Frame
public import Idealize.ShloMosaic.Lib.Transfers
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The places `S` of the memref `m` are held whole, and hold `V`. -/
def Has (c : Dev nD) {sp : Space} {s : Shape} {e : EltTy} (m : Memref sig .tc sp s e) (S : Finset s.Idx) (V : s.Idx → Elt F e) : sProp 𝕄 :=
  iprop(∃ f, (m.view.loc (c : Thread nD τ) ↦[m.view.setOn S]{fullShare} f) ∗ ⌜∀ x ∈ S, m.view.read (Elt F) f x = V x⌝)

/-- The places `S` of the memref `m` are held whole, at anything. -/
def Any (c : Dev nD) {sp : Space} {s : Shape} {e : EltTy} (m : Memref sig .tc sp s e) (S : Finset s.Idx) : sProp 𝕄 :=
  iprop(∃ V, Has (F := F) c m S V)

/-- A program of the kernel's core, run to `Q`. -/
abbrev Run (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable (c : Dev nD) {α : Type}

theorem has_congr {sp : Space} {s : Shape} {e : EltTy} {m : Memref sig .tc sp s e} {S : Finset s.Idx} {V V' : s.Idx → Elt F e}
    (h : ∀ x ∈ S, V x = V' x) : Has c m S V ⊢ Has c m S V' := by
  unfold Has
  iintro ⟨%f, H, %hf⟩
  iexists f
  isplitl [H]; · iexact H
  ipureintro; intro x hx; rw [hf x hx, h x hx]

theorem any_of_has {sp : Space} {s : Shape} {e : EltTy} {m : Memref sig .tc sp s e} {S : Finset s.Idx} {V : s.Idx → Elt F e} :
    Has c m S V ⊢ Any c m S := by
  unfold Any
  iintro H
  iexists V; iexact H

theorem has_load {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {S : Finset s.Idx} {V : s.Idx → Elt F e} (hS : r.set ⊆ S) :
    Has c m S V ⊢ iprop((Has c m S V -∗ Run c (k fun y => V (r.idx y)) Q) -∗ Run c (.op (.load m r hl) k) Q) := by
  unfold Has
  iintro ⟨%f, H, %hf⟩ Hk
  iapply (wp_load Variants.none (c : Thread nD τ) none Set.univ (m := m) (r := r) (S := m.view.setOn S) (Finset.map_subset_map.mpr hS)) $$ H
  iintro H
  rw [show m.view.readAt (Elt F) r f = fun y => V (r.idx y) from funext fun y => by
    rw [View.readAt_apply]; exact hf _ (hS (r.idx_mem y))]
  iapply Hk
  iexists f
  isplitl [H]; · iexact H
  ipureintro; exact hf

theorem has_store {Q : α → sProp 𝕄} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {S : Finset s.Idx} {V : s.Idx → Elt F e} (V' : s.Idx → Elt F e) (hS : r.set ⊆ S)
    (hw : ∀ y, V' (r.emb y) = w y) (hV : ∀ x ∈ S, x ∉ r.set → V' x = V x) :
    Has c m S V ⊢ iprop((Has c m S V' -∗ Run c (k ⟨⟩) Q) -∗ Run c (.op (.store m r w Finset.univ hx hm) k) Q) := by
  unfold Has
  iintro ⟨%f, H, %hf⟩ Hk
  iapply (wp_store Variants.none (c : Thread nD τ) none Set.univ (m := m) (r := r) (w := w) (Mk := Finset.univ) (S := m.view.setOn S) (f := f)
    (by
      show (m.view.slice r).set ⊆ _
      rw [View.set_slice]; exact Finset.map_subset_map.mpr hS)) $$ H
  iintro H
  iapply Hk
  iexists _
  isplitl [H]; · iexact H
  ipureintro
  intro x hx
  by_cases h : x ∈ r.set
  · obtain ⟨y, rfl⟩ := r.exists_idx_of_mem h
    exact (View.read_slice_write_emb (v := m.view) r f w (Finset.mem_univ y)).trans (hw y).symm
  · refine (View.read_slice_write_of_not_mem (v := m.view) r f w Finset.univ (y := x) ?_).trans ((hf x hx).trans (hV x hx h).symm)
    intro h'
    obtain ⟨y, -, rfl⟩ := Finset.mem_map.mp h'
    exact h (r.idx_mem y)

theorem any_load {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {S : Finset s.Idx} (hS : r.set ⊆ S) :
    Any c m S ⊢ iprop((∀ v, Any c m S -∗ Run c (k v) Q) -∗ Run c (.op (.load m r hl) k) Q) := by
  unfold Any
  iintro ⟨%V, H⟩ Hk
  iapply (has_load c hS) $$ H
  iintro H
  iapply Hk
  iexists V; iexact H

theorem any_store {Q : α → sProp 𝕄} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {S : Finset s.Idx} (hS : r.set ⊆ S) :
    Any c m S ⊢ iprop((Any c m S -∗ Run c (k ⟨⟩) Q) -∗ Run c (.op (.store m r w Finset.univ hx hm) k) Q) := by
  classical
  unfold Any
  iintro ⟨%V, H⟩ Hk
  iapply (has_store c (fun x => if h : ∃ y, r.emb y = x then w h.choose else V x) hS
    (fun y => by
      have h : ∃ y', r.emb y' = r.emb y := ⟨y, rfl⟩
      rw [dif_pos h, r.emb.injective h.choose_spec])
    (fun x _ h => by
      rw [dif_neg]; rintro ⟨y, rfl⟩; exact h (r.idx_mem y))) $$ H
  iintro H
  iapply Hk
  iexists _; iexact H

/-! ## The same with everything held kept in one assertion -/

/-- From `H` the places `S` of `m` can be taken at anything, and put back at anything. -/
def Lends (c : Dev nD) {sp : Space} {s : Shape} {e : EltTy} (H : sProp 𝕄) (m : Memref sig .tc sp s e) (S : Finset s.Idx) : Prop :=
  H ⊢ iprop(Any (F := F) c m S ∗ (Any (F := F) c m S -∗ H))

theorem safe_load {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {S : Finset s.Idx} {H : sProp 𝕄} (hH : Lends c H m S) (hS : r.set ⊆ S)
    (h : ∀ v, H ⊢ Run c (k v) Q) : H ⊢ Run c (.op (.load m r hl) k) Q := by
  refine BIBase.Entails.trans (show H ⊢ _ from hH) ?_
  iintro ⟨HA, HB⟩
  iapply (any_load c hS) $$ HA
  iintro %v HA
  iapply (h v)
  iapply HB; iexact HA

theorem safe_store {Q : α → sProp 𝕄} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {S : Finset s.Idx} {H : sProp 𝕄} (hH : Lends c H m S) (hS : r.set ⊆ S)
    (h : H ⊢ Run c (k ⟨⟩) Q) : H ⊢ Run c (.op (.store m r w Finset.univ hx hm) k) Q := by
  refine BIBase.Entails.trans (show H ⊢ _ from hH) ?_
  iintro ⟨HA, HB⟩
  iapply (any_store c hS) $$ HA
  iintro HA
  iapply h
  iapply HB; iexact HA

theorem safe_for {Q : α → sProp 𝕄} {σ : Type} {L : Scf.Loop 32} {hok : L.OK} {init : σ} {body : Fin L.trips → σ → Prog (TpuEff nD τ sig (Elt F) Λ₀ .tc) σ}
    {k : σ → Prog (TpuEff nD τ sig (Elt F) Λ₀ .tc) α} {H : sProp 𝕄} (hb : ∀ t a, H ⊢ Run c (body t a) fun _ => H)
    (h : ∀ a, H ⊢ Run c (k a) Q) : H ⊢ Run c (Scf.Loop.for L hok init body >>= k) Q := by
  iintro H
  iapply (Scf.wp_for_bind frame _ Set.univ L.lb L.ub L.st hok init body (fun _ _ => H) hb) $$ H
  iintro %a H
  iapply (h a); iexact H

/-- A loop by an invariant on its trips. -/
theorem has_for {Q : α → sProp 𝕄} {σ : Type} {L : Scf.Loop 32} {hok : L.OK} {init : σ} {body : Fin L.trips → σ → Prog (TpuEff nD τ sig (Elt F) Λ₀ .tc) σ}
    {k : σ → Prog (TpuEff nD τ sig (Elt F) Λ₀ .tc) α} (I : ℕ → σ → sProp 𝕄) (hb : ∀ (t : Fin L.trips) a, I t.val a ⊢ Run c (body t a) (I (t.val + 1))) :
    I 0 init ⊢ iprop((∀ a, I L.trips a -∗ Run c (k a) Q) -∗ Run c (Scf.Loop.for L hok init body >>= k) Q) :=
  Scf.wp_for_bind frame _ Set.univ L.lb L.ub L.st hok init body I hb

end Cert.Proof.KernelIdeal

end
-- ==== Proof.Moves.lean ====
/-
  Transfers between two windows: one started takes both windows and the semaphore's count into its flight, and one waited for
  hands them back, the target holding what the source held. And a buffer held as two parts, taken apart and put together.
-/
module

public import proofs.«01_k».proof.Proof.Instr

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type}

/-- A transfer on its way, which delivers `D`. -/
abbrev Fl (d : DmaSem sig) (N : ℕ) (D : sProp 𝕄) : sProp 𝕄 :=
  Flight (countersEmb (U := Pipeline.UD sig nD τ)) (c : Thread nD τ) (.dma d) () N D

/-- A semaphore's count is zero. -/
abbrev Idle (d : DmaSem sig) : sProp 𝕄 := semVal ((c : Thread nD τ), (SemLoc.dma d : SemLoc sig)) 0

/-- Nothing is owed. -/
def Owes : sProp 𝕄 := iprop(∃ W : Waits sig Unit, owes (c : Thread nD τ) 0 W)

section
variable {cs cs' : Space} {sA sB s' : Shape} {e : EltTy} {A : Memref sig .tc cs sA e} {B : Memref sig .tc cs' sB e}
  {rA : Rect sA} {hA1 : ∀ a, rA.stride a = 1} {rB : Rect sB} {hB1 : ∀ a, rB.stride a = 1}
  {hA : rA.shape.Squeezes s'} {hB : rB.shape.Squeezes s'} {d : DmaSem sig}

theorem has_start {Q : α → sProp 𝕄} {h1 : ((A.slice rA hA1).squeeze s' hA).view.WordExact} {h2 : ((B.slice rB hB1).squeeze s' hB).view.WordExact}
    {h3 : DmaTarget.Typed cs (.dma d) (DmaTarget.here (nD := nD) (p := (c : Thread nD τ).2) ((B.slice rB hB1).squeeze s' hB))}
    {k : PUnit → Prog (TpuEff nD τ sig (Elt F) Λ₀ .tc) α} {VA : sA.Idx → Elt F e} (VB : sB.Idx → Elt F e)
    (h0 : 0 < s'.numel) (hVB : ∀ z : s'.Idx, VB (rB.emb (Shape.reshapeEquiv hB.numel_eq z)) = VA (rA.emb (Shape.reshapeEquiv hA.numel_eq z))) :
    iprop(Has c A rA.set VA ∗ Any c B rB.set ∗ Idle (F := F) c d)
      ⊢ iprop((Fl c d ((B.slice rB hB1).squeeze s' hB).view.dmaCredit (iprop(Has c A rA.set VA ∗ Has c B rB.set VB)) -∗ Run c (k ⟨⟩) Q)
        -∗ Run c (.op (.enqueueDma ((A.slice rA hA1).squeeze s' hA) (.here ((B.slice rB hB1).squeeze s' hB)) (.dma d) h1 h2 h3) k) Q) := by
  have eA : ((A.slice rA hA1).squeeze s' hA).view.set = A.view.setOn rA.set := by
    show ((A.view.slice rA).reshape s' hA.numel_eq).set = _
    rw [View.set_reshape, View.set_slice]; rfl
  have eB : ((B.slice rB hB1).squeeze s' hB).view.set = B.view.setOn rB.set := by
    show ((B.view.slice rB).reshape s' hB.numel_eq).set = _
    rw [View.set_reshape, View.set_slice]; rfl
  unfold Any Has
  iintro ⟨⟨%fs, Hs, %hs⟩, ⟨%V0, %fd, Hd, %hd⟩, Hv⟩ Hk
  iapply (wp_dmaLocal (countersEmb (U := Pipeline.UD sig nD τ)) Variants.none (c : Thread nD τ) none
    (src := (A.slice rA hA1).squeeze s' hA) (dst := (B.slice rB hB1).squeeze s' hB) (q := fullShare) (fs := fs) (fd := fd)
    (Sd := B.view.setOn rB.set) () _ rfl (View.dmaCredit_pos _ h0) (by rw [eB])) $$ [Hs Hd Hv]
  · isplitl [Hs]
    · rw [eA]; iexact Hs
    isplitl [Hd]
    · iexact Hd
    · iexact Hv
  iintro Hf
  iapply Hk
  iapply (Flight_mono (countersEmb (U := Pipeline.UD sig nD τ)) (c : Thread nD τ) ?_) $$ Hf
  rw [eA]
  iintro ⟨Hd, Hs⟩
  isplitl [Hs]
  · iexists fs
    isplitl [Hs]; · iexact Hs
    ipureintro; exact hs
  · iexists _
    isplitl [Hd]; · iexact Hd
    ipureintro
    intro x hx
    obtain ⟨y, rfl⟩ := rB.exists_idx_of_mem hx
    obtain ⟨z, rfl⟩ := (Shape.reshapeEquiv hB.numel_eq).surjective y
    have e1 : B.view.read (Elt F) _ (rB.emb (Shape.reshapeEquiv hB.numel_eq z)) = _ :=
      congrFun (View.read_write_univ (v := ((B.slice rB hB1).squeeze s' hB).view) fd
        (((A.slice rA hA1).squeeze s' hA).view.read (Elt F) fs)) z
    exact e1.trans ((hs _ (rA.idx_mem _)).trans (hVB z).symm)

/-- A transfer of values no one reads afterwards. -/
theorem any_start {Q : α → sProp 𝕄} {h1 : ((A.slice rA hA1).squeeze s' hA).view.WordExact} {h2 : ((B.slice rB hB1).squeeze s' hB).view.WordExact}
    {h3 : DmaTarget.Typed cs (.dma d) (DmaTarget.here (nD := nD) (p := (c : Thread nD τ).2) ((B.slice rB hB1).squeeze s' hB))}
    {k : PUnit → Prog (TpuEff nD τ sig (Elt F) Λ₀ .tc) α} (h0 : 0 < s'.numel) :
    iprop(Any c A rA.set ∗ Any c B rB.set ∗ Idle (F := F) c d)
      ⊢ iprop((Fl c d ((B.slice rB hB1).squeeze s' hB).view.dmaCredit (iprop(Any c A rA.set ∗ Any c B rB.set)) -∗ Run c (k ⟨⟩) Q)
        -∗ Run c (.op (.enqueueDma ((A.slice rA hA1).squeeze s' hA) (.here ((B.slice rB hB1).squeeze s' hB)) (.dma d) h1 h2 h3) k) Q) := by
  unfold Any
  iintro ⟨⟨%V, HA⟩, ⟨%V0, HB⟩, Hv⟩ Hk
  have e : ∀ z : s'.Idx, ∃ z', rB.emb (Shape.reshapeEquiv hB.numel_eq z') = rB.emb (Shape.reshapeEquiv hB.numel_eq z) := fun z => ⟨z, rfl⟩
  classical
  iapply (has_start c (hA1 := hA1) (hB1 := hB1) (hA := hA) (hB := hB) (VA := V) (fun x => if h : ∃ z' : s'.Idx, rB.emb (Shape.reshapeEquiv hB.numel_eq z') = x then V (rA.emb (Shape.reshapeEquiv hA.numel_eq h.choose))
      else V0 x) h0 (fun z => by
    rw [dif_pos (e z), (Shape.reshapeEquiv hB.numel_eq).injective (rB.emb.injective (e z).choose_spec)])) $$ [HA HB Hv]
  · isplitl [HA]; · iexact HA
    isplitl [HB]
    · unfold Any; iexists V0; iexact HB
    · iexact Hv
  iintro Hf
  iapply Hk
  iapply (Flight_mono (countersEmb (U := Pipeline.UD sig nD τ)) (c : Thread nD τ) ?_) $$ Hf
  iintro ⟨HA, HB⟩
  isplitl [HA]
  · iexists _; iexact HA
  · iexists _; iexact HB
end

theorem fl_wait {cs cs' : Space} {s s' : Shape} {e e' : EltTy} {d : DmaSem sig} {srcw : Memref sig .tc cs s' e'} {dstw : Memref sig .tc cs' s e}
    {h1 : srcw.view.WordExact} {h2 : dstw.view.WordExact} {Q : α → sProp 𝕄} {k : PUnit → Prog (TpuEff nD τ sig (Elt F) Λ₀ .tc) α} {D : sProp 𝕄} :
    iprop(Fl c d dstw.view.dmaCredit D ∗ Owes (F := F) c)
      ⊢ iprop((iprop(D ∗ Idle (F := F) c d ∗ Owes (F := F) c) -∗ Run c (k ⟨⟩) Q) -∗ Run c (.op (.waitDma2 d srcw dstw h1 h2) k) Q) := by
  unfold Owes
  iintro ⟨Hf, %W, HO⟩ Hk
  iapply (wp_waitLocal (countersEmb (U := Pipeline.UD sig nD τ)) Variants.none (c : Thread nD τ) none () rfl) $$ [Hf HO]
  · isplitl [Hf] <;> iassumption
  iintro ⟨HD, Hv, HO⟩
  iapply Hk
  isplitl [HD]; · iexact HD
  isplitl [Hv]; · iexact Hv
  iexists _; iexact HO

/-! ## A buffer held as two parts -/

section
variable {cs : Space} {s : Shape} {e : EltTy} {m : Memref sig .tc cs s e} {S T : Finset s.Idx}

theorem has_split {V : s.Idx → Elt F e} (h : T ⊆ S) : Has c m S V ⊢ iprop(Has c m T V ∗ Has c m (S \ T) V) := by
  unfold Has
  iintro ⟨%f, H, %hf⟩
  have e : m.view.setOn (S \ T) = m.view.setOn S \ m.view.setOn T := Finset.map_sdiff _ _
  ihave H := (pointsTo_split_subset (Finset.map_subset_map.mpr h : m.view.setOn T ⊆ m.view.setOn S)).1 $$ H
  icases H with ⟨H1, H2⟩
  isplitl [H1]
  · iexists f
    isplitl [H1]; · iexact H1
    ipureintro; exact fun x hx => hf x (h hx)
  · iexists f
    rw [e]
    isplitl [H2]; · iexact H2
    ipureintro; exact fun x hx => hf x (Finset.sdiff_subset hx)

theorem any_split (h : T ⊆ S) : Any (F := F) c m S ⊢ iprop(Any (F := F) c m T ∗ Any (F := F) c m (S \ T)) := by
  unfold Any
  iintro ⟨%V, H⟩
  ihave H := (has_split c h) $$ H
  icases H with ⟨H1, H2⟩
  isplitl [H1]
  · iexists V; iexact H1
  · iexists V; iexact H2

theorem has_union {V W : s.Idx → Elt F e} (h : Disjoint S T) : iprop(Has c m S V ∗ Has c m T W) ⊢ Has c m (S ∪ T) (T.piecewise W V) := by
  unfold Has
  iintro ⟨⟨%f, H1, %hf⟩, ⟨%g, H2, %hg⟩⟩
  ihave H := (pointsTo_join (ℓ := m.view.loc (c : Thread nD τ)) (I := m.view.setOn S) (J := m.view.setOn T) ((Finset.disjoint_map m.view.emb).mpr h)) $$ [H1 H2]
  · isplitl [H1] <;> iassumption
  rw [show m.view.setOn (S ∪ T) = m.view.setOn S ∪ m.view.setOn T from Finset.map_union _ _]
  iexists _
  isplitl [H]; · iexact H
  ipureintro
  intro x hx
  rw [View.read_apply]
  by_cases hT : x ∈ T
  · have h' : m.view.emb x ∈ m.view.setOn T := Finset.mem_map_of_mem _ hT
    simp only [Finset.piecewise, if_pos h', if_pos hT]
    exact hg x hT
  · have hS := (Finset.mem_union.mp hx).resolve_right hT
    have h' : m.view.emb x ∉ m.view.setOn T := fun h' => hT ((Finset.mem_map' _).mp h')
    simp only [Finset.piecewise, if_neg h', if_neg hT]
    exact hf x hS

theorem any_union (h : Disjoint S T) : iprop(Any (F := F) c m S ∗ Any (F := F) c m T) ⊢ Any (F := F) c m (S ∪ T) := by
  unfold Any
  iintro ⟨⟨%V, H1⟩, ⟨%W, H2⟩⟩
  iexists _
  iapply (has_union c h)
  isplitl [H1] <;> iassumption

theorem any_join (h : T ⊆ S) : iprop(Any (F := F) c m T ∗ Any (F := F) c m (S \ T)) ⊢ Any (F := F) c m S := by
  refine BIBase.Entails.trans (any_union c Finset.disjoint_sdiff) ?_
  rw [Finset.union_sdiff_of_subset h]

theorem has_join {V : s.Idx → Elt F e} (h : T ⊆ S) : iprop(Has c m T V ∗ Has c m (S \ T) V) ⊢ Has c m S V := by
  refine BIBase.Entails.trans (has_union c Finset.disjoint_sdiff) ?_
  rw [Finset.union_sdiff_of_subset h, Finset.piecewise_same]

end
end Cert.Proof.KernelIdeal
end
-- ==== Proof.Chain.lean ====
/-
  The kernel's one region as a flat chain of statements: the printed parts, whose edges are counts of statements, opened,
  so that the chain can be cut at the phases of the algorithm instead.
-/
module

public import proofs.«01_k».proof.Proof.Gen.KernelIdeal.Frame
public import proofs.«01_k».proof.Proof.Gen.KernelIdeal.Skeleton
public import Idealize.ShloMosaic.Lib.Tactic.OpenCalls
public import Idealize.ShloMosaic.Lib.Tactic.Stretches
public import Idealize.ShloMosaic.Lib.Tactic.OverArgs

@[expose] public section

noncomputable section

namespace Cert.Proof.KernelIdeal

open Cert.KernelIdeal Cert.KernelIdeal.Gen
open Idealize.ShloMosaic Idealize.ShloMosaic.TcCoe Idealize.ShloMosaic.Tactic

set_option maxHeartbeats 0
set_option maxRecDepth 100000
set_option open_calls.check false

open_calls chain := Cert.KernelIdeal.k0_part159 [Cert.KernelIdeal.k0_part101, Cert.KernelIdeal.k0_part102, Cert.KernelIdeal.k0_part103, Cert.KernelIdeal.k0_part104, Cert.KernelIdeal.k0_part105, Cert.KernelIdeal.k0_part106, Cert.KernelIdeal.k0_part107, Cert.KernelIdeal.k0_part108, Cert.KernelIdeal.k0_part109, Cert.KernelIdeal.k0_part110, Cert.KernelIdeal.k0_part111, Cert.KernelIdeal.k0_part112, Cert.KernelIdeal.k0_part113, Cert.KernelIdeal.k0_part114, Cert.KernelIdeal.k0_part115, Cert.KernelIdeal.k0_part116, Cert.KernelIdeal.k0_part117, Cert.KernelIdeal.k0_part118, Cert.KernelIdeal.k0_part119, Cert.KernelIdeal.k0_part120, Cert.KernelIdeal.k0_part121, Cert.KernelIdeal.k0_part122, Cert.KernelIdeal.k0_part123, Cert.KernelIdeal.k0_part124, Cert.KernelIdeal.k0_part125, Cert.KernelIdeal.k0_part126, Cert.KernelIdeal.k0_part127, Cert.KernelIdeal.k0_part128, Cert.KernelIdeal.k0_part129, Cert.KernelIdeal.k0_part130, Cert.KernelIdeal.k0_part131, Cert.KernelIdeal.k0_part132, Cert.KernelIdeal.k0_part133, Cert.KernelIdeal.k0_part134, Cert.KernelIdeal.k0_part135, Cert.KernelIdeal.k0_part136, Cert.KernelIdeal.k0_part137, Cert.KernelIdeal.k0_part138, Cert.KernelIdeal.k0_part139, Cert.KernelIdeal.k0_part140, Cert.KernelIdeal.k0_part141, Cert.KernelIdeal.k0_part142, Cert.KernelIdeal.k0_part143, Cert.KernelIdeal.k0_part144, Cert.KernelIdeal.k0_part145, Cert.KernelIdeal.k0_part146, Cert.KernelIdeal.k0_part147, Cert.KernelIdeal.k0_part148, Cert.KernelIdeal.k0_part149, Cert.KernelIdeal.k0_part150, Cert.KernelIdeal.k0_part151, Cert.KernelIdeal.k0_part152, Cert.KernelIdeal.k0_part153, Cert.KernelIdeal.k0_part154, Cert.KernelIdeal.k0_part155, Cert.KernelIdeal.k0_part156, Cert.KernelIdeal.k0_part157, Cert.KernelIdeal.k0_part158]

end Cert.Proof.KernelIdeal

end
-- ==== Proof.Cuts.lean ====
/-
  The kernel's one region cut at the phases of the algorithm: for each block of 160 channels its statistics, its sums of the
  gradient, and the part whose values no claim reads; before them the prologue, after them the two result rows and the codes.
-/
module

public import proofs.«01_k».proof.Proof.Chain

@[expose] public section

noncomputable section

namespace Cert.Proof.KernelIdeal

open Cert.KernelIdeal Cert.KernelIdeal.Gen
open Idealize.ShloMosaic Idealize.ShloMosaic.TcCoe Idealize.ShloMosaic.Tactic

set_option maxHeartbeats 0
set_option maxRecDepth 100000

cut_chain s := Cert.Proof.KernelIdeal.chain at 27, 93, 94, 116, 185, 188, 254, 255, 277, 346, 349, 415, 416, 440, 509, 510, 576, 577, 601, 670, 688

end Cert.Proof.KernelIdeal

end
-- ==== Proof.Phases.lean ====
/-
  The two phases of a block of 160 channels whose results the claims read, written once for all four blocks: the statistics
  of its 16 groups, and the sums of the gradient over a channel.
-/
module

public import proofs.«01_k».proof.Proof.Instr

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F] [Named F]

/-- A vector's buffer in VMEM. -/
abbrev Buf (s : Shape) (e : EltTy) := Memref sig .tc .vmem s e

/-- What a block of the kernel does not share with the other three: its loops, the places that they address, and the rows of
the whole result that are its own. -/
structure Blk where
  L1 : Scf.Loop 32
  L2 : Scf.Loop 32
  L3 : Scf.Loop 32
  L4 : Scf.Loop 32
  L5 : Scf.Loop 32
  L6 : Scf.Loop 32
  ok1 : L1.OK
  ok2 : L2.OK
  ok3 : L3.OK
  ok4 : L4.OK
  ok5 : L5.OK
  ok6 : L6.OK
  off1 : Fin L1.trips → Fin L2.trips → BitVec 32 → Fin 3 → Nat
  off2 : Fin L1.trips → Fin 2 → Nat
  off3 : Fin L3.trips → Fin 2 → Nat
  off4 : Fin L3.trips → Fin L4.trips → BitVec 32 → Fin 3 → Nat
  off5 : Fin L5.trips → Fin 2 → Nat
  off6 : Fin L5.trips → Fin L6.trips → BitVec 32 → Fin 3 → Nat
  off7 : Fin L5.trips → Fin L6.trips → BitVec 32 → Fin 3 → Nat
  rows : Fin 2 → Nat
  inb1 : ∀ t1 t2, ∀ (r : Fin 16) a, off1 t1 t2 (BitVec.ofNat 32 (128 * r.val)) a + S1x16x128.size a ≤ S2x160x16384.size a
  inb2 : ∀ t1 a, off2 t1 a + S16x128.size a ≤ S160x128.size a
  inb3 : ∀ t3 a, off3 t3 a + S16x128.size a ≤ S160x128.size a
  inb4 : ∀ t3 t4, ∀ (r : Fin 4) a, off4 t3 t4 (BitVec.ofNat 32 (128 * r.val)) a + S1x16x128.size a ≤ S2x160x16384.size a
  inb5 : ∀ t5 a, off5 t5 a + S32x128.size a ≤ S160x128.size a
  inb6 : ∀ t5 t6, ∀ (r : Fin 8) a, off6 t5 t6 (BitVec.ofNat 32 (128 * r.val)) a + S1x32x128.size a ≤ S2x160x16384.size a
  inb7 : ∀ t5 t6, ∀ (r : Fin 8) a, off7 t5 t6 (BitVec.ofNat 32 (128 * r.val)) a + S1x32x128.size a ≤ S4x160x16384.size a
  inbR : ∀ a, rows a + S160x128.size a ≤ S320x128.size a

/-- Programs of the kernel's core. -/
abbrev K (F : FTy → Type) (α : Type) := Prog (TpuEff nD τ sig (Elt F) Λ₀ .tc) α

variable {α : Type}

/-! ## Rectangles -/

theorem inb_all : ∀ a, (![0, 0] : Fin 2 → Nat) a + S160x128.size a ≤ S160x128.size a := by decide
theorem inb_all16 : ∀ a, (![0, 0] : Fin 2 → Nat) a + S16x128.size a ≤ S16x128.size a := by decide

/-- The whole of a buffer of 160 rows. -/
abbrev rAll : Rect S160x128 := Rect.unit (s := S160x128) ![0, 0] S160x128.size inb_all
/-- The whole of a buffer of 16 rows. -/
abbrev rAll16 : Rect S16x128 := Rect.unit (s := S16x128) ![0, 0] S16x128.size inb_all16

theorem inb_member : ∀ (j : Fin 10) (a : Fin 2), S16x128.size a = 0 ∨ (![j.val, 0] : Fin 2 → Nat) a + (![10, 1] : Fin 2 → Nat) a * (S16x128.size a - 1) < S160x128.size a := by decide

/-- Every group's channel number `j`. -/
abbrev rMember (j : Fin 10) : LoadRect S160x128 := ⟨![j.val, 0], S16x128.size, ![10, 1], inb_member j⟩
/-- Every group's channel number `j`. -/
abbrev rMemberS (j : Fin 10) : Rect S160x128 := ⟨rMember j, spos_10_1⟩

namespace Blk
variable (B : Blk)
abbrev r1 (t1 : Fin B.L1.trips) (t2 : Fin B.L2.trips) (r : Fin 16) : Rect S2x160x16384 :=
  Rect.unit (s := S2x160x16384) (B.off1 t1 t2 (BitVec.ofNat 32 (128 * r.val))) S1x16x128.size (B.inb1 t1 t2 r)
abbrev r2 (t1 : Fin B.L1.trips) : Rect S160x128 := Rect.unit (s := S160x128) (B.off2 t1) S16x128.size (B.inb2 t1)
abbrev r3 (t3 : Fin B.L3.trips) : Rect S160x128 := Rect.unit (s := S160x128) (B.off3 t3) S16x128.size (B.inb3 t3)
abbrev r4 (t3 : Fin B.L3.trips) (t4 : Fin B.L4.trips) (r : Fin 4) : Rect S2x160x16384 :=
  Rect.unit (s := S2x160x16384) (B.off4 t3 t4 (BitVec.ofNat 32 (128 * r.val))) S1x16x128.size (B.inb4 t3 t4 r)
abbrev r5 (t5 : Fin B.L5.trips) : Rect S160x128 := Rect.unit (s := S160x128) (B.off5 t5) S32x128.size (B.inb5 t5)
abbrev r6 (t5 : Fin B.L5.trips) (t6 : Fin B.L6.trips) (r : Fin 8) : Rect S2x160x16384 :=
  Rect.unit (s := S2x160x16384) (B.off6 t5 t6 (BitVec.ofNat 32 (128 * r.val))) S1x32x128.size (B.inb6 t5 t6 r)
abbrev r7 (t5 : Fin B.L5.trips) (t6 : Fin B.L6.trips) (r : Fin 8) : Rect S4x160x16384 :=
  Rect.unit (s := S4x160x16384) (B.off7 t5 t6 (BitVec.ofNat 32 (128 * r.val))) S1x32x128.size (B.inb7 t5 t6 r)
abbrev rR : Rect S320x128 := Rect.unit (s := S320x128) B.rows S160x128.size B.inbR
end Blk

/-! ## Values -/

abbrev V16 (F : FTy → Type) := FVec F S16x128 .f32
abbrev V32 (F : FTy → Type) := FVec F S32x128 .f32
abbrev V160 (F : FTy → Type) := FVec F S160x128 .f32

/-- A column of `x`, 16 channels high, in f32. -/
def col16 (v : Vec F S1x16x128 .bf16) : V16 F := extf .f32 (shapeCast S16x128 v shapeCasts_S1x16x128_S16x128) bitsLt_bf16_f32
/-- A column of `x`, 32 channels high, in f32. -/
def col32 (v : Vec F S1x32x128 .bf16) : V32 F := extf .f32 (shapeCast S32x128 v shapeCasts_S1x32x128_S32x128) bitsLt_bf16_f32
/-- A column of `dy`, 32 channels high, in f32. -/
def colDy (v : Vec F S1x32x128 .fp8e5m2) : V32 F := extf .f32 (shapeCast S32x128 v shapeCasts_S1x32x128_S32x128) bitsLt_fp8e5m2_f32

def zero16 : V16 F := broadcast S16x128 (Scalar.ofBits .f32 0x00000000#32)
def zero32 : V32 F := broadcast S32x128 (Scalar.ofBits .f32 0x00000000#32)

/-- The lanes' sum over the number of a group's elements, on every lane. -/
def meanOf (v : V16 F) : V16 F :=
  mulf (broadcastTo S16x128 (shapeCast S16x1 (shapeCast S16x1 (multiReduction .add [1] S16 v 0x00000000#32 reduces_S16x128_S16 (.inl rfl) rfl) shapeCasts_S16_S16x1) shapeCasts_S16x1_S16x1) broadcasts_S16x1_S16x128)
    (broadcast S16x128 (Named.named κ "inv_n" 0x36CCCCCD#32))

/-- The mean square less the square of the mean, or 0. -/
def quickVar (m q : V16 F) : V16 F := maximumf (subf q (mulf m m)) zero16

/-- Whether some group's squared mean is more than 16 times its variance. -/
def skewed (m v : V16 F) : BitVec 1 :=
  Scalar.cmpi .ne (Scalar.extui (Scalar.cmpf .ogt
    (extractAt ![0, 0, 0] (shapeCast S1x1x1 (multiReduction .maximumf [1, 2] S1
      (shapeCast S1x16x128 (select (cmpf .ogt (mulf m m) (mulf (broadcast S16x128 (Scalar.ofBits .f32 0x41800000#32)) v))
        (broadcast S16x128 (Scalar.ofBits .f32 0x3F800000#32)) zero16) shapeCasts_S16x128_S1x16x128)
      0xFF800000#32 reduces_S1x16x128_S1 (.inl rfl) rfl) shapeCasts_S1_S1x1x1) inpos_S1x1x1_p0_0_0)
    (FloatOps.ofBits (F := F) .f32 0x00000000#32))) 0#32

/-- One over the standard deviation. -/
def rstdOf (v : V16 F) : V16 F := rsqrt (addf v (broadcast S16x128 (Scalar.ofBits .f32 0x3727C5AC#32)))

/-- The slope of the inner derivative: SiLU's derivative at `h`, times `dy`. -/
def dhOf (a b x d : V32 F) : V32 F :=
  mulf (mulf (logistic (addf (mulf x a) b)) (subf (addf (broadcast S32x128 (Scalar.ofBits .f32 0x3F800000#32)) (addf (mulf x a) b)) (mulf (addf (mulf x a) b) (logistic (addf (mulf x a) b))))) d

/-- The lanes' sum times a scalar, on every lane. -/
def sumTimes (v : V160 F) (s : F .f32) : V160 F :=
  mulf (broadcastTo S160x128 (shapeCast S160x1 (shapeCast S160x1 (multiReduction .add [1] S160 v 0x00000000#32 reduces_S160x128_S160 (.inl rfl) rfl) shapeCasts_S160_S160x1) shapeCasts_S160x1_S160x1) broadcasts_S160x1_S160x128)
    (broadcast S160x128 s)

/-! ## The statistics -/

section
variable (B : Blk)

/-- A column loaded and taken in by the two running sums. -/
def statCols (m : Buf S2x160x16384 .bf16) (one : V16 F) (t1 : Fin B.L1.trips) (t2 : Fin B.L2.trips) :
    List (Fin 16) → V16 F → V16 F → (V16 F → V16 F → K F α) → K F α
  | [], s, q, k => k s q
  | r :: rs, s, q, k => .op (.load m (B.r1 t1 t2 r).toLoadRect (View.loadsAt_vmem h_S1x16x128)) fun (v : Vec F S1x16x128 .bf16) =>
      statCols m one t1 t2 rs (addf s (mulf (col16 v) one)) (addf q (mulf (col16 v) (col16 v))) k

def statInner (m : Buf S2x160x16384 .bf16) (one : V16 F) (t1 : Fin B.L1.trips) (t2 : Fin B.L2.trips) (acc : V16 F × V16 F) : K F (V16 F × V16 F) :=
  .op (.load m (B.r1 t1 t2 0).toLoadRect (View.loadsAt_vmem h_S1x16x128)) fun (v : Vec F S1x16x128 .bf16) =>
    statCols B m one t1 t2 [1, 2, 3, 4, 5, 6, 7, 8, 9, 10, 11, 12, 13, 14, 15] (mulf (col16 v) one) (mulf (col16 v) (col16 v)) fun s q =>
      .ret (addf acc.1 s, addf acc.2 q)

def statOuter (M10 : Buf S2x160x16384 .bf16) (M15 M16 : Buf S160x128 .f32) (one : V16 F) (t1 : Fin B.L1.trips) : K F Unit :=
  Scf.Loop.for B.L2 B.ok2 (zero16, zero16) (statInner B M10 one t1) >>= fun p =>
  .op (.load M15 (B.r2 t1).toLoadRect (View.loadsAt_vmem h_S16x128)) fun _ =>
  .op (.store M15 (B.r2 t1) (shapeCast S16x128 p.1 shapeCasts_S16x128_S16x128) Finset.univ (View.stores_vmem_bits_univ h_S16x128 rfl) (.inl rfl)) fun _ =>
  .op (.load M16 (B.r2 t1).toLoadRect (View.loadsAt_vmem h_S16x128)) fun _ =>
  .op (.store M16 (B.r2 t1) (shapeCast S16x128 p.2 shapeCasts_S16x128_S16x128) Finset.univ (View.stores_vmem_bits_univ h_S16x128 rfl) (.inl rfl)) fun _ =>
  .ret ⟨⟩
end

/-- The sum over a group's ten channels. -/
def groupGo (m : Buf S160x128 .f32) : List (Fin 10) → V16 F → (V16 F → K F α) → K F α
  | [], s, k => k s
  | j :: js, s, k => .op (.load m (rMember j) (View.loadsAt_vmem h_S16x128)) fun (v : V16 F) => groupGo m js (addf s v) k

def groupSum (m : Buf S160x128 .f32) (k : V16 F → K F α) : K F α :=
  .op (.load m (rMember 0) (View.loadsAt_vmem h_S16x128)) fun (v : V16 F) => groupGo m [1, 2, 3, 4, 5, 6, 7, 8, 9] v k

/-- A value of every group laid over the group's ten channels. -/
def spreadGo (m : Buf S160x128 .f32) (w : V16 F) : List (Fin 10) → K F α → K F α
  | [], k => k
  | j :: js, k => .op (.load m (rMember j) (View.loadsAt_vmem h_S16x128)) fun _ =>
      .op (.store m (rMemberS j) (shapeCast S16x128 w shapeCasts_S16x128_S16x128) Finset.univ (View.stores_vmem_bits_univ h_S16x128 rfl) (.inl rfl)) fun _ =>
      spreadGo m w js k

def spread (m : Buf S160x128 .f32) (w : V16 F) (k : V16 F → K F α) : K F α :=
  spreadGo m w [0, 1, 2, 3, 4, 5, 6, 7, 8] <|
  .op (.load m (rMember 9) (View.loadsAt_vmem h_S16x128)) fun (v : V16 F) =>
  .op (.store m (rMemberS 9) (shapeCast S16x128 w shapeCasts_S16x128_S16x128) Finset.univ (View.stores_vmem_bits_univ h_S16x128 rfl) (.inl rfl)) fun _ => k v

/-- A value of every group put in its buffer. -/
def put16 (m : Buf S16x128 .f32) (w : V16 F) (k : K F α) : K F α :=
  .op (.load m rAll16.toLoadRect (View.loadsAt_vmem h_S16x128)) fun _ =>
  .op (.store m rAll16 (shapeCast S16x128 w shapeCasts_S16x128_S16x128) Finset.univ (View.stores_vmem_bits_univ h_S16x128 rfl) (.inl rfl)) fun _ => k

section
variable (B : Blk)

def devCols (m : Buf S2x160x16384 .bf16) (mu : V16 F) (t3 : Fin B.L3.trips) (t4 : Fin B.L4.trips) :
    List (Fin 4) → V16 F → (V16 F → K F α) → K F α
  | [], s, k => k s
  | r :: rs, s, k => .op (.load m (B.r4 t3 t4 r).toLoadRect (View.loadsAt_vmem h_S1x16x128)) fun (v : Vec F S1x16x128 .bf16) =>
      devCols m mu t3 t4 rs (addf s (mulf (subf (col16 v) mu) (subf (col16 v) mu))) k

def devOuter (M10 : Buf S2x160x16384 .bf16) (M16 M17 : Buf S160x128 .f32) (t3 : Fin B.L3.trips) : K F Unit :=
  .op (.load M17 (B.r3 t3).toLoadRect (View.loadsAt_vmem h_S16x128)) fun (mu : V16 F) =>
  Scf.Loop.for B.L4 B.ok4 zero16 (fun t4 acc => devCols B M10 mu t3 t4 [0, 1, 2, 3] acc .ret) >>= fun p =>
  .op (.load M16 (B.r3 t3).toLoadRect (View.loadsAt_vmem h_S16x128)) fun _ =>
  .op (.store M16 (B.r3 t3) (shapeCast S16x128 p shapeCasts_S16x128_S16x128) Finset.univ (View.stores_vmem_bits_univ h_S16x128 rfl) (.inl rfl)) fun _ =>
  .ret ⟨⟩

/-- The first row of `x`'s statistics: means of the values and of the squares, spread of the mean, the variance by the quick
formula or, where some group is skewed, as the mean square deviation, and one over the standard deviation spread. -/
def stats (M5 : Buf S16x128 .bf16) (M10 : Buf S2x160x16384 .bf16) (M15 M16 M17 M18 : Buf S160x128 .f32) (M19 : Buf S16x128 .f32)
    (k : V16 F → V16 F → K F α) : K F α :=
  .op (.load M5 rAll16.toLoadRect (View.loadsAt_vmem h_S16x128)) fun (u : Vec F S16x128 .bf16) =>
  Scf.Loop.for B.L1 B.ok1 ⟨⟩ (fun t1 _ => statOuter B M10 M15 M16 (extf .f32 (shapeCast S16x128 u shapeCasts_S16x128_S16x128) bitsLt_bf16_f32) t1) >>= fun _ =>
  groupSum M15 fun s => groupSum M16 fun q =>
  spreadGo M17 (meanOf s) [0, 1, 2, 3, 4, 5, 6, 7, 8, 9] <|
  put16 M19 (quickVar (meanOf s) (meanOf q)) <|
  let rest : K F α :=
    .op (.load M19 rAll16.toLoadRect (View.loadsAt_vmem h_S16x128)) fun (v : V16 F) => spread M18 (rstdOf v) fun w => k v w
  if skewed (meanOf s) (quickVar (meanOf s) (meanOf q)) = 1#1 then
    Scf.Loop.for B.L3 B.ok3 ⟨⟩ (fun t3 _ => devOuter B M10 M16 M17 t3) >>= fun _ =>
    groupSum M16 fun d => put16 M19 (meanOf d) rest
  else rest

/-! ## The gradient's sums -/

def gradCols (M10 : Buf S2x160x16384 .bf16) (M11 : Buf S2x160x16384 .fp8e5m2) (M12 : Buf S4x160x16384 .f32) (a b : V32 F)
    (t5 : Fin B.L5.trips) (t6 : Fin B.L6.trips) : List (Fin 8) → V32 F → V32 F → (V32 F → V32 F → K F α) → K F α
  | [], s, q, k => k s q
  | r :: rs, s, q, k =>
      .op (.load M10 (B.r6 t5 t6 r).toLoadRect (View.loadsAt_vmem h_S1x32x128)) fun (x : Vec F S1x32x128 .bf16) =>
      .op (.load M11 (B.r6 t5 t6 r).toLoadRect (View.loadsAt_vmem h_S1x32x128)) fun (d : Vec F S1x32x128 .fp8e5m2) =>
      .op (.load M12 (B.r7 t5 t6 r).toLoadRect (View.loadsAt_vmem h_S1x32x128)) fun _ =>
      .op (.store M12 (B.r7 t5 t6 r) (shapeCast S1x32x128 (dhOf a b (col32 x) (colDy d)) shapeCasts_S32x128_S1x32x128) Finset.univ (View.stores_vmem_bits_univ h_S1x32x128 rfl) (.inl rfl)) fun _ =>
      gradCols M10 M11 M12 a b t5 t6 rs (addf s (dhOf a b (col32 x) (colDy d))) (addf q (mulf (dhOf a b (col32 x) (colDy d)) (col32 x))) k

def gradOuter (M10 : Buf S2x160x16384 .bf16) (M11 : Buf S2x160x16384 .fp8e5m2) (M12 : Buf S4x160x16384 .f32) (M15 M16 M20 M21 : Buf S160x128 .f32)
    (t5 : Fin B.L5.trips) : K F Unit :=
  .op (.load M20 (B.r5 t5).toLoadRect (View.loadsAt_vmem h_S32x128)) fun (a : V32 F) =>
  .op (.load M21 (B.r5 t5).toLoadRect (View.loadsAt_vmem h_S32x128)) fun (b : V32 F) =>
  Scf.Loop.for B.L6 B.ok6 (zero32, zero32) (fun t6 acc => gradCols B M10 M11 M12 a b t5 t6 [0, 1, 2, 3, 4, 5, 6, 7] acc.1 acc.2 fun s q => .ret (s, q)) >>= fun p =>
  .op (.load M15 (B.r5 t5).toLoadRect (View.loadsAt_vmem h_S32x128)) fun _ =>
  .op (.store M15 (B.r5 t5) (shapeCast S32x128 p.1 shapeCasts_S32x128_S32x128) Finset.univ (View.stores_vmem_bits_univ h_S32x128 rfl) (.inl rfl)) fun _ =>
  .op (.load M16 (B.r5 t5).toLoadRect (View.loadsAt_vmem h_S32x128)) fun _ =>
  .op (.store M16 (B.r5 t5) (shapeCast S32x128 p.2 shapeCasts_S32x128_S32x128) Finset.univ (View.stores_vmem_bits_univ h_S32x128 rfl) (.inl rfl)) fun _ =>
  .ret ⟨⟩

/-- A value of every channel of the block put in a buffer of the block. -/
def put160 (m : Buf S160x128 .f32) (w : V160 F) (k : K F α) : K F α :=
  .op (.load m rAll.toLoadRect (View.loadsAt_vmem h_S160x128)) fun _ =>
  .op (.store m rAll (shapeCast S160x128 w shapeCasts_S160x128_S160x128) Finset.univ (View.stores_vmem_bits_univ h_S160x128 rfl) (.inl rfl)) fun _ => k

/-- A block's share of a result row: put where the block comes first to its rows, added where it comes second. -/
def putRows (second : Bool) (m : Buf S320x128 .f32) (w : V160 F) (k : K F α) : K F α :=
  match second with
  | false =>
    .op (.load m B.rR.toLoadRect (View.loadsAt_vmem h_S160x128)) fun _ =>
    .op (.store m B.rR (shapeCast S160x128 w shapeCasts_S160x128_S160x128) Finset.univ (View.stores_vmem_bits_univ h_S160x128 rfl) (.inl rfl)) fun _ => k
  | true =>
    .op (.load m B.rR.toLoadRect (View.loadsAt_vmem h_S160x128)) fun (v : V160 F) =>
    .op (.load m B.rR.toLoadRect (View.loadsAt_vmem h_S160x128)) fun _ =>
    .op (.store m B.rR (shapeCast S160x128 (addf v w) shapeCasts_S160x128_S160x128) Finset.univ (View.stores_vmem_bits_univ h_S160x128 rfl) (.inl rfl)) fun _ => k

def grad (second : Bool) (M10 : Buf S2x160x16384 .bf16) (M11 : Buf S2x160x16384 .fp8e5m2) (M12 : Buf S4x160x16384 .f32)
    (M13 M14 : Buf S320x128 .f32) (M15 M16 M17 M18 M20 M21 : Buf S160x128 .f32) (M23 M24 : Buf S320x128 .f32) (v0 : F .f32)
    (k : V160 F → V160 F → V160 F → K F α) : K F α :=
  .op (.load M18 rAll.toLoadRect (View.loadsAt_vmem h_S160x128)) fun (rs : V160 F) =>
  .op (.load M13 B.rR.toLoadRect (View.loadsAt_vmem h_S160x128)) fun (ga : V160 F) =>
  put160 M20 (mulf rs ga) <|
  .op (.load M14 B.rR.toLoadRect (View.loadsAt_vmem h_S160x128)) fun (be : V160 F) =>
  .op (.load M17 rAll.toLoadRect (View.loadsAt_vmem h_S160x128)) fun (mu : V160 F) =>
  put160 M21 (subf be (mulf mu (mulf rs ga))) <|
  Scf.Loop.for B.L5 B.ok5 ⟨⟩ (fun t5 _ => gradOuter B M10 M11 M12 M15 M16 M20 M21 t5) >>= fun _ =>
  .op (.load M18 rAll.toLoadRect (View.loadsAt_vmem h_S160x128)) fun (v242 : V160 F) =>
  .op (.load M17 rAll.toLoadRect (View.loadsAt_vmem h_S160x128)) fun (v243 : V160 F) =>
  .op (.load M13 B.rR.toLoadRect (View.loadsAt_vmem h_S160x128)) fun (v244 : V160 F) =>
  .op (.load M15 rAll.toLoadRect (View.loadsAt_vmem h_S160x128)) fun (S : V160 F) =>
  .op (.load M16 rAll.toLoadRect (View.loadsAt_vmem h_S160x128)) fun (P : V160 F) =>
  putRows B second M24 (sumTimes S v0) <|
  putRows B second M23 (mulf v242 (subf (sumTimes P v0) (mulf v243 (sumTimes S v0)))) <|
  put160 M15 (mulf (sumTimes S v0) v244) <|
  put160 M16 (mulf (mulf v242 (subf (sumTimes P v0) (mulf v243 (sumTimes S v0)))) v244) <|
  k v242 v243 v244
end

end Cert.Proof.KernelIdeal

end
-- ==== Proof.Bridge.lean ====
/-
  The stretches of the kernel's region that are the phases of its four blocks.
-/
module

public import proofs.«01_k».proof.Proof.Cuts
public import proofs.«01_k».proof.Proof.Phases

@[expose] public section

noncomputable section

namespace Cert.Proof.KernelIdeal

open Cert.KernelIdeal Cert.KernelIdeal.Gen
open Idealize.ShloMosaic Idealize.ShloMosaic.TcCoe Idealize.ShloMosaic.Tactic
open Idealize.SL.Sem

variable {F : FTy → Type} [FloatOps F] [Named F]

/-- Block 0. -/
def blk0 : Blk := ⟨k0_t1_loop, k0_t2_loop, k0_t3_loop, k0_t4_loop, k0_t5_loop, k0_t6_loop, k0_t1_ok, k0_t2_ok, k0_t3_ok, k0_t4_ok, k0_t5_ok, k0_t6_ok, k0_off1, k0_off2, k0_off3, k0_off4, k0_off5, k0_off6, k0_off7, ![0, 0], k0_off1_inb, k0_off2_inb, k0_off3_inb, k0_off4_inb, k0_off5_inb, k0_off6_inb, k0_off7_inb, (by decide)⟩

/-- Block 1. -/
def blk1 : Blk := ⟨k0_t9_loop, k0_t10_loop, k0_t11_loop, k0_t12_loop, k0_t13_loop, k0_t14_loop, k0_t9_ok, k0_t10_ok, k0_t11_ok, k0_t12_ok, k0_t13_ok, k0_t14_ok, k0_off11, k0_off12, k0_off13, k0_off14, k0_off15, k0_off16, k0_off17, ![160, 0], k0_off11_inb, k0_off12_inb, k0_off13_inb, k0_off14_inb, k0_off15_inb, k0_off16_inb, k0_off17_inb, (by decide)⟩

/-- Block 2. -/
def blk2 : Blk := ⟨k0_t17_loop, k0_t18_loop, k0_t19_loop, k0_t20_loop, k0_t21_loop, k0_t22_loop, k0_t17_ok, k0_t18_ok, k0_t19_ok, k0_t20_ok, k0_t21_ok, k0_t22_ok, k0_off21, k0_off22, k0_off23, k0_off24, k0_off25, k0_off26, k0_off27, ![0, 0], k0_off21_inb, k0_off22_inb, k0_off23_inb, k0_off24_inb, k0_off25_inb, k0_off26_inb, k0_off27_inb, (by decide)⟩

/-- Block 3. -/
def blk3 : Blk := ⟨k0_t25_loop, k0_t26_loop, k0_t27_loop, k0_t28_loop, k0_t29_loop, k0_t30_loop, k0_t25_ok, k0_t26_ok, k0_t27_ok, k0_t28_ok, k0_t29_ok, k0_t30_ok, k0_off31, k0_off32, k0_off33, k0_off34, k0_off35, k0_off36, k0_off37, ![160, 0], k0_off31_inb, k0_off32_inb, k0_off33_inb, k0_off34_inb, k0_off35_inb, k0_off36_inb, k0_off37_inb, (by decide)⟩

variable
  (arg0 : Memref sig .tc .hbm S2x320x16384 .bf16) (harg0 : arg0.IsWhole) (arg1 : Memref sig .tc .hbm S2x320x16384 .fp8e5m2) (harg1 : arg1.IsWhole) (arg2 : Memref sig .tc .vmem S1x320 .f32) (harg2 : arg2.IsWhole) (arg3 : Memref sig .tc .vmem S1x320 .f32) (harg3 : arg3.IsWhole) (arg4 : Memref sig .tc .smem S1x1 .f32) (harg4 : arg4.IsWhole) (arg5 : Memref sig .tc .vmem S16x128 .bf16) (harg5 : arg5.IsWhole) (arg6 : Memref sig .tc .hbm S2x320x16384 .fp8e5m2) (harg6 : arg6.IsWhole) (arg7 : Memref sig .tc .smem S1x1 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S2x160x16384 .bf16) (harg10 : arg10.IsWhole) (arg11 : Memref sig .tc .vmem S2x160x16384 .fp8e5m2) (harg11 : arg11.IsWhole) (arg12 : Memref sig .tc .vmem S4x160x16384 .f32) (harg12 : arg12.IsWhole) (arg13 : Memref sig .tc .vmem S320x128 .f32) (harg13 : arg13.IsWhole) (arg14 : Memref sig .tc .vmem S320x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S160x128 .f32) (harg18 : arg18.IsWhole) (arg19 : Memref sig .tc .vmem S16x128 .f32) (harg19 : arg19.IsWhole) (arg20 : Memref sig .tc .vmem S160x128 .f32) (harg20 : arg20.IsWhole) (arg21 : Memref sig .tc .vmem S160x128 .f32) (harg21 : arg21.IsWhole) (arg22 : Memref sig .tc .vmem S160x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S32x128 .f32) (harg25 : arg25.IsWhole) (arg26 : DmaSems sig S2) (arg27 : DmaSems sig S2) (arg28 : DmaSems sig S10)
  {α : Type}

set_option maxRecDepth 100000
set_option maxHeartbeats 0

theorem stats0_eq (v57 : Vec F S1x128 .f32) (k : V16 F → V16 F → K F α) :
    s2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v57 k = stats blk0 arg5 arg10 arg15 arg16 arg17 arg18 arg19 k := by sl_kernel_rfl

theorem grad0_eq (v0 : F .f32) (v188 v219 : V16 F) (k : V160 F → V160 F → V160 F → K F α) :
    s4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v0 v188 v219 k = grad blk0 false arg10 arg11 arg12 arg13 arg14 arg15 arg16 arg17 arg18 arg20 arg21 arg23 arg24 v0 k := by sl_kernel_rfl

theorem stats1_eq (k : K F α) :
    s7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 k = stats blk1 arg5 arg10 arg15 arg16 arg17 arg18 arg19 (fun _ _ => k) := by sl_kernel_rfl

theorem stats2_eq (k : K F α) :
    s12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 k = stats blk2 arg5 arg10 arg15 arg16 arg17 arg18 arg19 (fun _ _ => k) := by sl_kernel_rfl

theorem stats3_eq (k : K F α) :
    s17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 k = stats blk3 arg5 arg10 arg15 arg16 arg17 arg18 arg19 (fun _ _ => k) := by sl_kernel_rfl

theorem grad1_eq (v0 : F .f32) (k : V160 F → V160 F → V160 F → K F α) :
    s9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v0 k = grad blk1 false arg10 arg11 arg12 arg13 arg14 arg15 arg16 arg17 arg18 arg20 arg21 arg23 arg24 v0 k := by sl_kernel_rfl

theorem grad2_eq (v0 : F .f32) (k : V160 F → V160 F → V160 F → K F α) :
    s14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v0 k = grad blk2 true arg10 arg11 arg12 arg13 arg14 arg15 arg16 arg17 arg18 arg20 arg21 arg23 arg24 v0 k := by sl_kernel_rfl

theorem grad3_eq (v0 : F .f32) (k : V160 F → V160 F → V160 F → K F α) :
    s19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v0 k = grad blk3 true arg10 arg11 arg12 arg13 arg14 arg15 arg16 arg17 arg18 arg20 arg21 arg23 arg24 v0 k := by sl_kernel_rfl

end Cert.Proof.KernelIdeal

end
-- ==== Proof.Values.lean ====
/-
  What the kernel leaves in its buffers, in the order of its own operations: the statistics of a group and the sums of the
  gradient over a channel, as functions of a block's rows of `x` and `dy`.
-/
module

public import proofs.«01_k».proof.Proof.Phases
public import Idealize.ShloMosaic.Lib.Pipeline.Value

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F] [Named F]

/-- An element of `x` in f32. -/
def xf (xb : ℕ → ℕ → F .bf16) (row col : ℕ) : F .f32 := FloatOps.extf .f32 bitsLt_bf16_f32 (xb row col)
/-- An element of `dy` in f32. -/
def df (db : ℕ → ℕ → F .fp8e5m2) (row col : ℕ) : F .f32 := FloatOps.extf .f32 bitsLt_fp8e5m2_f32 (db row col)

def f0 : F .f32 := Scalar.ofBits .f32 0x00000000#32

/-- Terms added one after the other to a first. -/
def addUp {n : ℕ} (f : ℕ → F .f32) (rs : List (Fin n)) (s : F .f32) : F .f32 := rs.foldl (fun s r => FloatOps.addf s (f r.val)) s

/-- The sum of a lane's columns as the statistics take it, after `n` of 8 steps of 16 columns. -/
def sum8 (f : ℕ → F .f32) (lane n : ℕ) : F .f32 :=
  (List.range n).foldl (fun acc t => FloatOps.addf acc
    (addUp (n := 16) (fun r => f (2048 * t + 128 * r + lane)) [1, 2, 3, 4, 5, 6, 7, 8, 9, 10, 11, 12, 13, 14, 15] (f (2048 * t + 128 * 0 + lane)))) f0

/-- The same for the mean square deviation, after `n` of 32 steps of 4 columns. -/
def sum32 (f : ℕ → F .f32) (lane n : ℕ) : F .f32 :=
  (List.range n).foldl (fun acc t => addUp (n := 4) (fun r => f (512 * t + 128 * r + lane)) [0, 1, 2, 3] acc) f0

/-- The same for the gradient, after `n` of 16 steps of 8 columns. -/
def sum16 (f : ℕ → F .f32) (lane n : ℕ) : F .f32 :=
  (List.range n).foldl (fun acc t => addUp (n := 8) (fun r => f (1024 * t + 128 * r + lane)) [0, 1, 2, 3, 4, 5, 6, 7] acc) f0

theorem sum8_succ (f : ℕ → F .f32) (lane n : ℕ) : sum8 f lane (n + 1) = FloatOps.addf (sum8 f lane n)
    (addUp (n := 16) (fun r => f (2048 * n + 128 * r + lane)) [1, 2, 3, 4, 5, 6, 7, 8, 9, 10, 11, 12, 13, 14, 15] (f (2048 * n + 128 * 0 + lane))) := by
  simp [sum8, List.range_succ]

theorem sum32_succ (f : ℕ → F .f32) (lane n : ℕ) : sum32 f lane (n + 1) =
    addUp (n := 4) (fun r => f (512 * n + 128 * r + lane)) [0, 1, 2, 3] (sum32 f lane n) := by
  simp [sum32, List.range_succ]

theorem sum16_succ (f : ℕ → F .f32) (lane n : ℕ) : sum16 f lane (n + 1) =
    addUp (n := 8) (fun r => f (1024 * n + 128 * r + lane)) [0, 1, 2, 3, 4, 5, 6, 7] (sum16 f lane n) := by
  simp [sum16, List.range_succ]

/-- The index of row `g` and lane `l`. -/
def ix16 (g l : ℕ) : S16x128.Idx := fun a => ⟨(![g % 16, l % 128] : Fin 2 → ℕ) a, by
  revert a; exact Fin.forall_fin_two.2 ⟨Nat.mod_lt _ (by decide), Nat.mod_lt _ (by decide)⟩⟩

theorem ix16_eq (y : S16x128.Idx) : ix16 (y 0).val (y 1).val = y :=
  Shape.idx_ext₂ (n := S16x128.size) (Nat.mod_eq_of_lt (y 0).isLt) (Nat.mod_eq_of_lt (y 1).isLt)

/-- A buffer's contents from a function of row and lane. -/
abbrev cells {n m : ℕ} (f : ℕ → ℕ → F .f32) : (⟨2, ![n, m]⟩ : Shape).Idx → F .f32 := fun i => f (i 0).val (i 1).val

/-- The sum over a group's ten channels. -/
def grp (f : ℕ → ℕ → F .f32) : V16 F := fun y =>
  addUp (n := 10) (fun j => f (j + 10 * (y 0).val) (y 1).val) [1, 2, 3, 4, 5, 6, 7, 8, 9] (f (0 + 10 * (y 0).val) (y 1).val)

/-- A group's value at each of its channels. -/
def spreadOf (w : V16 F) (row lane : ℕ) : F .f32 := w (ix16 (row / 10) lane)

/-- A block's mean of each group; `u` is the constant one that each element is multiplied by. -/
def meanV (u : F .f32) (xb : ℕ → ℕ → F .bf16) : V16 F :=
  meanOf (grp fun row lane => sum8 (fun col => FloatOps.mulf (xf xb row col) u) lane 8)
def sqV (xb : ℕ → ℕ → F .bf16) : V16 F :=
  meanOf (grp fun row lane => sum8 (fun col => FloatOps.mulf (xf xb row col) (xf xb row col)) lane 8)
def devV (u : F .f32) (xb : ℕ → ℕ → F .bf16) : V16 F :=
  meanOf (grp fun row lane => sum32 (fun col => FloatOps.mulf (FloatOps.subf (xf xb row col) (spreadOf (meanV u xb) row lane))
    (FloatOps.subf (xf xb row col) (spreadOf (meanV u xb) row lane))) lane 32)
def varV (u : F .f32) (xb : ℕ → ℕ → F .bf16) : V16 F :=
  if skewed (meanV u xb) (quickVar (meanV u xb) (sqV xb)) = 1#1 then devV u xb else quickVar (meanV u xb) (sqV xb)

/-- A block's mean and inverse deviation at a channel. -/
def muV (u : F .f32) (xb : ℕ → ℕ → F .bf16) : ℕ → ℕ → F .f32 := spreadOf (meanV u xb)
def rsV (u : F .f32) (xb : ℕ → ℕ → F .bf16) : ℕ → ℕ → F .f32 := spreadOf (rstdOf (varV u xb))

/-- The affine map of the block: slope and intercept at a channel, from the scale and shift of its channels. -/
def slopeV (mu rs ga be : ℕ → ℕ → F .f32) (row lane : ℕ) : F .f32 := FloatOps.mulf (rs row lane) (ga row lane)
def shiftV (mu rs ga be : ℕ → ℕ → F .f32) (row lane : ℕ) : F .f32 :=
  FloatOps.subf (be row lane) (FloatOps.mulf (mu row lane) (slopeV mu rs ga be row lane))

def one1 : F .f32 := Scalar.ofBits .f32 0x3F800000#32

/-- The derivative of SiLU at `x a + b`, times `d`. -/
def dh1 (a b x d : F .f32) : F .f32 :=
  FloatOps.mulf (FloatOps.mulf (FloatOps.logistic (FloatOps.addf (FloatOps.mulf x a) b))
    (FloatOps.subf (FloatOps.addf one1 (FloatOps.addf (FloatOps.mulf x a) b)) (FloatOps.mulf (FloatOps.addf (FloatOps.mulf x a) b) (FloatOps.logistic (FloatOps.addf (FloatOps.mulf x a) b))))) d

/-- The gradient before the normalisation at a row and column. -/
def dhV (a b : ℕ → ℕ → F .f32) (xb : ℕ → ℕ → F .bf16) (db : ℕ → ℕ → F .fp8e5m2) (row lane col : ℕ) : F .f32 :=
  dh1 (a row lane) (b row lane) (xf xb row col) (df db row col)

def sumV (a b : ℕ → ℕ → F .f32) (xb : ℕ → ℕ → F .bf16) (db : ℕ → ℕ → F .fp8e5m2) (row lane : ℕ) : F .f32 :=
  sum16 (fun col => dhV a b xb db row lane col) lane 16
def sumXV (a b : ℕ → ℕ → F .f32) (xb : ℕ → ℕ → F .bf16) (db : ℕ → ℕ → F .fp8e5m2) (row lane : ℕ) : F .f32 :=
  sum16 (fun col => FloatOps.mulf (dhV a b xb db row lane col) (xf xb row col)) lane 16

/-- A block's share of `dbeta` and of `dgamma`. -/
def betaV (mu rs ga be : ℕ → ℕ → F .f32) (xb : ℕ → ℕ → F .bf16) (db : ℕ → ℕ → F .fp8e5m2) (v0 : F .f32) : V160 F :=
  sumTimes (cells (sumV (slopeV mu rs ga be) (shiftV mu rs ga be) xb db)) v0
def gammaV (mu rs ga be : ℕ → ℕ → F .f32) (xb : ℕ → ℕ → F .bf16) (db : ℕ → ℕ → F .fp8e5m2) (v0 : F .f32) : V160 F :=
  mulf (cells rs) (subf (sumTimes (cells (sumXV (slopeV mu rs ga be) (shiftV mu rs ga be) xb db)) v0) (mulf (cells mu) (betaV mu rs ga be xb db v0)))

end Cert.Proof.KernelIdeal

end
-- ==== Proof.StatSpec.lean ====
/-
  The statistics of a block: from the block's rows of `x` in their slot, the phase leaves each group's mean and inverse
  deviation at each of its channels.
-/
module

public import proofs.«01_k».proof.Proof.Values

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The places of a slot of two. -/
def slotS (sl : ℕ) : Finset S2x160x16384.Idx := Finset.univ.filter fun i => (i 0).val = sl

theorem mem_slotS {sl : ℕ} {i : S2x160x16384.Idx} : i ∈ slotS sl ↔ (i 0).val = sl := by simp [slotS]

/-- What the numbers of a block's loops and places are: `sl` the slot of its rows of `x` and `dy`, `ha` the half of the rows
of the results, `b` the block. -/
structure Blk.Good (B : Blk) (sl ha b : ℕ) : Prop where
  n1 : B.L1.trips = 10
  n2 : B.L2.trips = 8
  n3 : B.L3.trips = 10
  n4 : B.L4.trips = 32
  n5 : B.L5.trips = 5
  n6 : B.L6.trips = 16
  e1 : ∀ t1 t2, ∀ r : Fin 16, B.off1 t1 t2 (BitVec.ofNat 32 (128 * r.val)) = ![sl, 16 * t1.val, 2048 * t2.val + 128 * r.val]
  e2 : ∀ t1, B.off2 t1 = ![16 * t1.val, 0]
  e3 : ∀ t3, B.off3 t3 = ![16 * t3.val, 0]
  e4 : ∀ t3 t4, ∀ r : Fin 4, B.off4 t3 t4 (BitVec.ofNat 32 (128 * r.val)) = ![sl, 16 * t3.val, 512 * t4.val + 128 * r.val]
  e5 : ∀ t5, B.off5 t5 = ![32 * t5.val, 0]
  e6 : ∀ t5 t6, ∀ r : Fin 8, B.off6 t5 t6 (BitVec.ofNat 32 (128 * r.val)) = ![sl, 32 * t5.val, 1024 * t6.val + 128 * r.val]
  e7 : ∀ t5 t6, ∀ r : Fin 8, B.off7 t5 t6 (BitVec.ofNat 32 (128 * r.val)) = ![b, 32 * t5.val, 1024 * t6.val + 128 * r.val]
  eR : B.rows = ![160 * ha, 0]

variable (c : Dev nD) {α : Type}

/-! ## Reads -/

/-- A column 16 rows high, read from a slot. -/
theorem col16_read {off : Fin 3 → ℕ} {inb : ∀ a, off a + S1x16x128.size a ≤ S2x160x16384.size a} {sl R C : ℕ} (ho : off = ![sl, R, C])
    {V : S2x160x16384.Idx → F .bf16} {xb : ℕ → ℕ → F .bf16} (hV : ∀ i ∈ slotS sl, V i = xb (i 1).val (i 2).val) :
    col16 (fun y => V ((Rect.unit (s := S2x160x16384) off S1x16x128.size inb).toLoadRect.idx y)) = fun y => xf xb (R + (y 0).val) (C + (y 1).val) := by
  subst ho
  funext y
  show FloatOps.extf .f32 _ (shapeCast S16x128 _ _ y) = _
  erw [shapeCast_dropUnit_apply S16x128.size]
  unfold xf
  rw [hV _ (mem_slotS.mpr (show sl + 1 * 0 = sl by omega))]
  show FloatOps.extf .f32 _ (xb (R + 1 * (y 0).val) (C + 1 * (y 1).val)) = _
  rw [Nat.one_mul, Nat.one_mul]

theorem sub_slot {off : Fin 3 → ℕ} {sz : Fin 3 → ℕ} {inb : ∀ a, off a + sz a ≤ S2x160x16384.size a} {sl R C : ℕ} (ho : off = ![sl, R, C]) (h1 : sz 0 = 1) :
    (Rect.unit (s := S2x160x16384) off sz inb).toLoadRect.set ⊆ slotS sl := by
  subst ho
  intro i hi
  have := (Rect.mem_set_unit.mp hi) 0
  simp [h1] at this
  exact mem_slotS.mpr (by omega)

/-- A column 16 rows high loaded from a slot. -/
theorem load_col16 {off : Fin 3 → ℕ} {inb : ∀ a, off a + S1x16x128.size a ≤ S2x160x16384.size a} {sl R C : ℕ} (ho : off = ![sl, R, C])
    {M : Buf S2x160x16384 .bf16} {V : S2x160x16384.Idx → F .bf16} {xb : ℕ → ℕ → F .bf16} (hV : ∀ i ∈ slotS sl, V i = xb (i 1).val (i 2).val)
    {Q : α → sProp 𝕄} {hl} {k : Vec F S1x16x128 .bf16 → K F α} :
    Has c M (slotS sl) V ⊢ iprop((∀ v : Vec F S1x16x128 .bf16, ⌜col16 v = fun y => xf xb (R + (y 0).val) (C + (y 1).val)⌝ -∗ Has c M (slotS sl) V -∗ Run c (k v) Q) -∗
      Run c (.op (.load M (Rect.unit (s := S2x160x16384) off S1x16x128.size inb).toLoadRect hl) k) Q) := by
  iintro H Hk
  iapply (has_load c (sub_slot ho rfl)) $$ H
  iintro H
  iapply Hk
  · ipureintro; exact col16_read ho hV
  · iexact H

/-! ## The sums -/

section
variable {B : Blk} {sl ha b : ℕ} (G : B.Good sl ha b)
include G

theorem statCols_spec {M10 : Buf S2x160x16384 .bf16} {V10 : S2x160x16384.Idx → F .bf16} {xb : ℕ → ℕ → F .bf16}
    (hV : ∀ i ∈ slotS sl, V10 i = xb (i 1).val (i 2).val) (u : F .f32) (t1 : Fin B.L1.trips) (t2 : Fin B.L2.trips) {Q : α → sProp 𝕄} :
    ∀ (rs : List (Fin 16)) (f g : ℕ → ℕ → F .f32) (k : V16 F → V16 F → K F α),
    Has c M10 (slotS sl) V10 ⊢ iprop((Has c M10 (slotS sl) V10 -∗ Run c (k
        (fun y => addUp (fun r => FloatOps.mulf (xf xb (16 * t1.val + (y 0).val) (2048 * t2.val + 128 * r + (y 1).val)) u) rs (f (y 0).val (y 1).val))
        (fun y => addUp (fun r => FloatOps.mulf (xf xb (16 * t1.val + (y 0).val) (2048 * t2.val + 128 * r + (y 1).val)) (xf xb (16 * t1.val + (y 0).val) (2048 * t2.val + 128 * r + (y 1).val))) rs (g (y 0).val (y 1).val))) Q) -∗
      Run c (statCols B M10 (fun _ => u) t1 t2 rs (cells f) (cells g) k) Q)
  | [], f, g, k => by
    unfold statCols
    iintro H Hk
    iapply Hk; iexact H
  | r :: rs, f, g, k => by
    unfold statCols
    iintro H Hk
    iapply (load_col16 c (G.e1 t1 t2 r) hV) $$ H
    iintro %v %hv H
    rw [hv]
    iapply (statCols_spec hV u t1 t2 rs
      (fun y0 y1 => FloatOps.addf (f y0 y1) (FloatOps.mulf (xf xb (16 * t1.val + y0) (2048 * t2.val + 128 * r.val + y1)) u))
      (fun y0 y1 => FloatOps.addf (g y0 y1) (FloatOps.mulf (xf xb (16 * t1.val + y0) (2048 * t2.val + 128 * r.val + y1)) (xf xb (16 * t1.val + y0) (2048 * t2.val + 128 * r.val + y1)))) k) $$ H
    iexact Hk

/-- The two running sums of 16 rows after `n` steps. -/
def statAcc (u : F .f32) (xb : ℕ → ℕ → F .bf16) (t1 n : ℕ) : V16 F × V16 F :=
  (fun y => sum8 (fun col => FloatOps.mulf (xf xb (16 * t1 + (y 0).val) col) u) (y 1).val n,
   fun y => sum8 (fun col => FloatOps.mulf (xf xb (16 * t1 + (y 0).val) col) (xf xb (16 * t1 + (y 0).val) col)) (y 1).val n)

omit G in
theorem rows_store {n : ℕ} {off : Fin 2 → ℕ} {h : ℕ} {inb : ∀ a, off a + (![h, 128] : Fin 2 → ℕ) a ≤ S160x128.size a} (ho : off = ![h * n, 0])
    (V : S160x128.Idx → F .f32) (f : ℕ → ℕ → F .f32) (hV : ∀ i : S160x128.Idx, (i 0).val < h * n → V i = f (i 0).val (i 1).val) :
    (∀ x ∈ (Finset.univ : Finset S160x128.Idx), x ∉ (Rect.unit (s := S160x128) off ![h, 128] inb).set →
      (fun i : S160x128.Idx => if (i 0).val < h * (n + 1) then f (i 0).val (i 1).val else V i) x = V x) ∧
    ∀ y, (fun i : S160x128.Idx => if (i 0).val < h * (n + 1) then f (i 0).val (i 1).val else V i) ((Rect.unit (s := S160x128) off ![h, 128] inb).emb y) = f (h * n + (y 0).val) (y 1).val := by
  subst ho
  constructor
  · intro x _ hx
    show (if _ then _ else _) = _
    split
    · rename_i hlt
      by_cases h2 : (x 0).val < h * n
      · exact (hV x h2).symm
      · exact absurd (Rect.mem_set_unit.mpr (Fin.forall_fin_two.2 ⟨by
          show h * n ≤ _ ∧ _ < h * n + h
          rw [Nat.mul_succ] at hlt; omega, by
          show 0 ≤ _ ∧ _ < 0 + 128
          have := (x 1).isLt
          have e : S160x128.size 1 = 128 := rfl
          omega⟩)) hx
    · rfl
  · intro y
    show (if _ then _ else _) = _
    have hy : (y 0).val < h := (y 0).isLt
    have e0 : (((Rect.unit (s := S160x128) ![h * n, 0] ![h, 128] inb).emb y) 0).val = h * n + (y 0).val := by
      simp [Rect.emb_apply]
    have e1 : (((Rect.unit (s := S160x128) ![h * n, 0] ![h, 128] inb).emb y) 1).val = (y 1).val := by
      simp [Rect.emb_apply]
    rw [if_pos (by rw [e0, Nat.mul_succ]; omega), e0, e1]

/-- A buffer of which the first `h n` rows hold `f`. -/
def Upto (c : Dev nD) (m : Buf S160x128 .f32) (f : ℕ → ℕ → F .f32) (n : ℕ) : sProp 𝕄 :=
  iprop(∃ V, Has c m Finset.univ V ∗ ⌜∀ i : S160x128.Idx, (i 0).val < n → V i = f (i 0).val (i 1).val⌝)

omit G in
theorem upto_of_any {m : Buf S160x128 .f32} {f : ℕ → ℕ → F .f32} : Any c m Finset.univ ⊢ Upto c m f 0 := by
  unfold Any Upto
  iintro ⟨%V, H⟩
  iexists V
  isplitl [H]; · iexact H
  ipureintro; intro i h; omega

omit G in
theorem any_of_upto {m : Buf S160x128 .f32} {f : ℕ → ℕ → F .f32} {n : ℕ} : Upto c m f n ⊢ Any c m Finset.univ := by
  unfold Any Upto
  iintro ⟨%V, H, %_⟩
  iexists V; iexact H

omit G in
theorem has_of_upto {m : Buf S160x128 .f32} {f : ℕ → ℕ → F .f32} : Upto c m f 160 ⊢ Has c m Finset.univ (cells f) := by
  unfold Upto
  iintro ⟨%V, H, %hV⟩
  iapply (has_congr c (fun i _ => hV i (i 0).isLt)) $$ H

omit G in
/-- The next `h` rows stored after a load that is not read. -/
theorem upto_put {Q : α → sProp 𝕄} {m : Buf S160x128 .f32} {f : ℕ → ℕ → F .f32} {n h : ℕ} {off : Fin 2 → ℕ}
    {inb : ∀ a, off a + (![h, 128] : Fin 2 → ℕ) a ≤ S160x128.size a} (ho : off = ![h * n, 0]) {hl hx hm}
    {w : (⟨2, ![h, 128]⟩ : Shape).Idx → F .f32} {hc : (⟨2, ![h, 128]⟩ : Shape).ShapeCasts ⟨2, ![h, 128]⟩}
    (hw : ∀ y, w y = f (h * n + (y 0).val) (y 1).val) {k : K F α} :
    Upto c m f (h * n) ⊢ iprop((Upto c m f (h * (n + 1)) -∗ Run c k Q) -∗
      Run c (.op (.load m (Rect.unit (s := S160x128) off ![h, 128] inb).toLoadRect hl) fun _ =>
        .op (.store m (Rect.unit (s := S160x128) off ![h, 128] inb) (shapeCast ⟨2, ![h, 128]⟩ w hc) Finset.univ hx hm) fun _ => k) Q) := by
  unfold Upto
  iintro ⟨%V, H, %hV⟩ Hk
  iapply (has_load c (Finset.subset_univ _)) $$ H
  iintro H
  obtain ⟨h1, h2⟩ := rows_store (inb := inb) ho V f hV
  iapply (has_store c _ (Finset.subset_univ _) (fun y => by rw [shapeCast_self, hw y]; exact h2 y) h1) $$ H
  iintro H
  iapply Hk
  iexists _
  isplitl [H]; · iexact H
  ipureintro
  intro i hi
  exact if_pos hi

theorem statInner_spec {M10 : Buf S2x160x16384 .bf16} {V10 : S2x160x16384.Idx → F .bf16} {xb : ℕ → ℕ → F .bf16}
    (hV : ∀ i ∈ slotS sl, V10 i = xb (i 1).val (i 2).val) (u : F .f32) (t1 : Fin B.L1.trips) (t2 : Fin B.L2.trips) :
    Has c M10 (slotS sl) V10 ⊢ Run c (statInner B M10 (fun _ => u) t1 t2 (statAcc u xb t1.val t2.val))
      (fun p => iprop(Has c M10 (slotS sl) V10 ∗ ⌜p = statAcc u xb t1.val (t2.val + 1)⌝)) := by
  unfold statInner
  iintro H
  iapply (load_col16 c (G.e1 t1 t2 0) hV) $$ H
  iintro %v %hv H
  rw [hv]
  iapply (statCols_spec c G hV u t1 t2 [1, 2, 3, 4, 5, 6, 7, 8, 9, 10, 11, 12, 13, 14, 15]
    (fun y0 y1 => FloatOps.mulf (xf xb (16 * t1.val + y0) (2048 * t2.val + 128 * 0 + y1)) u)
    (fun y0 y1 => FloatOps.mulf (xf xb (16 * t1.val + y0) (2048 * t2.val + 128 * 0 + y1)) (xf xb (16 * t1.val + y0) (2048 * t2.val + 128 * 0 + y1)))) $$ H
  iintro H
  iapply (le_wp_ret _ _)
  isplitl [H]; · iexact H
  ipureintro
  unfold statAcc
  refine Prod.ext (funext fun y => ?_) (funext fun y => ?_)
  · exact (sum8_succ (fun col => FloatOps.mulf (xf xb (16 * t1.val + (y 0).val) col) u) _ _).symm
  · exact (sum8_succ (fun col => FloatOps.mulf (xf xb (16 * t1.val + (y 0).val) col) (xf xb (16 * t1.val + (y 0).val) col)) _ _).symm

theorem statOuter_spec {M10 : Buf S2x160x16384 .bf16} {M15 M16 : Buf S160x128 .f32} {V10 : S2x160x16384.Idx → F .bf16} {xb : ℕ → ℕ → F .bf16}
    (hV : ∀ i ∈ slotS sl, V10 i = xb (i 1).val (i 2).val) (u : F .f32) (t1 : Fin B.L1.trips) :
    iprop(Has c M10 (slotS sl) V10 ∗
      Upto c M15 (fun row lane => sum8 (fun col => FloatOps.mulf (xf xb row col) u) lane 8) (16 * t1.val) ∗
      Upto c M16 (fun row lane => sum8 (fun col => FloatOps.mulf (xf xb row col) (xf xb row col)) lane 8) (16 * t1.val)) ⊢
    Run c (statOuter B M10 M15 M16 (fun _ => u) t1) (fun _ => iprop(Has c M10 (slotS sl) V10 ∗
      Upto c M15 (fun row lane => sum8 (fun col => FloatOps.mulf (xf xb row col) u) lane 8) (16 * (t1.val + 1)) ∗
      Upto c M16 (fun row lane => sum8 (fun col => FloatOps.mulf (xf xb row col) (xf xb row col)) lane 8) (16 * (t1.val + 1)))) := by
  unfold statOuter
  iintro ⟨H10, H15, H16⟩
  iapply (has_for c (fun n p => iprop(Has c M10 (slotS sl) V10 ∗ ⌜p = statAcc u xb t1.val n⌝)) (fun t2 acc => by
    iintro ⟨H, %hp⟩
    subst hp
    iapply (statInner_spec c G hV u t1 t2) $$ H)) $$ [H10]
  · isplitl [H10]; · iexact H10
    ipureintro; rfl
  iintro %p ⟨H10, %hp⟩
  rw [G.n2] at hp
  iapply (upto_put c (h := 16) (G.e2 t1) (fun y => by rw [hp]; rfl)) $$ H15
  iintro H15
  iapply (upto_put c (h := 16) (G.e2 t1) (fun y => by rw [hp]; rfl)) $$ H16
  iintro H16
  iapply (le_wp_ret _ _)
  isplitl [H10]; · iexact H10
  isplitl [H15]; · iexact H15
  iexact H16

end

end Cert.Proof.KernelIdeal

end
-- ==== Proof.Finish.lean ====
/-
  The part of a block whose values no claim reads: the coefficients of the gradient of the inputs and that gradient, which are
  shown to run.
-/
module

public import proofs.«01_k».proof.Proof.Bridge
public import proofs.«01_k».proof.Proof.StatSpec

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The loops of the part of a block whose values no claim reads, and where they read and write. -/
structure Tail where
  L7 : Scf.Loop 32
  L8 : Scf.Loop 32
  ok7 : L7.OK
  ok8 : L8.OK
  off8 : Fin L7.trips → Fin 2 → Nat
  off9 : Fin L7.trips → Fin L8.trips → BitVec 32 → Fin 3 → Nat
  off10 : Fin L7.trips → Fin L8.trips → BitVec 32 → Fin 3 → Nat
  inb8 : ∀ t7 a, off8 t7 a + S32x128.size a ≤ S160x128.size a
  inb9 : ∀ t7 t8, ∀ (r : Fin 8) a, off9 t7 t8 (BitVec.ofNat 32 (128 * r.val)) a + S1x32x128.size a ≤ S2x160x16384.size a
  inb10 : ∀ t7 t8, ∀ (r : Fin 8) a, off10 t7 t8 (BitVec.ofNat 32 (128 * r.val)) a + S1x32x128.size a ≤ S4x160x16384.size a

theorem inb_all32 : ∀ a, (![0, 0] : Fin 2 → Nat) a + S32x128.size a ≤ S32x128.size a := by decide
/-- The whole of a buffer of 32 rows. -/
abbrev rAll32 : Rect S32x128 := Rect.unit (s := S32x128) ![0, 0] S32x128.size inb_all32

namespace Tail
variable (T : Tail)
abbrev r8 (t7 : Fin T.L7.trips) : Rect S160x128 := Rect.unit (s := S160x128) (T.off8 t7) S32x128.size (T.inb8 t7)
abbrev r9 (t7 : Fin T.L7.trips) (t8 : Fin T.L8.trips) (r : Fin 8) : Rect S2x160x16384 :=
  Rect.unit (s := S2x160x16384) (T.off9 t7 t8 (BitVec.ofNat 32 (128 * r.val))) S1x32x128.size (T.inb9 t7 t8 r)
abbrev r10 (t7 : Fin T.L7.trips) (t8 : Fin T.L8.trips) (r : Fin 8) : Rect S4x160x16384 :=
  Rect.unit (s := S4x160x16384) (T.off10 t7 t8 (BitVec.ofNat 32 (128 * r.val))) S1x32x128.size (T.inb10 t7 t8 r)
/-- Its reads of `x` stay in slot `sl`. -/
def Good (sl : ℕ) : Prop := ∀ t7 t8 r, (T.r9 t7 t8 r).toLoadRect.set ⊆ slotS sl
end Tail

variable {α : Type}

/-- A column of 32 channels of the gradient of the inputs. -/
def dxOf (a b w : V32 F) (x : Vec F S1x32x128 .bf16) (p : Vec F S1x32x128 .f32) : V32 F :=
  subf (mulf a (shapeCast S32x128 p shapeCasts_S1x32x128_S32x128)) (addf (mulf w (col32 x)) b)

/-- A sum over a group's channels and places, divided by how many there are. -/
def shareOf (v : V16 F) : V16 F := mulf v (broadcast S16x128 (Named.named κ "inv_n" 0x36CCCCCD#32))

section
variable (T : Tail)

def finCols (M10 : Buf S2x160x16384 .bf16) (M12 : Buf S4x160x16384 .f32) (a b w : V32 F) (t7 : Fin T.L7.trips) (t8 : Fin T.L8.trips) :
    List (Fin 8) → V32 F → K F (V32 F)
  | [], s => .ret s
  | r :: rs, s =>
      .op (.load M10 (T.r9 t7 t8 r).toLoadRect (View.loadsAt_vmem h_S1x32x128)) fun (x : Vec F S1x32x128 .bf16) =>
      .op (.load M12 (T.r10 t7 t8 r).toLoadRect (View.loadsAt_vmem h_S1x32x128)) fun (p : Vec F S1x32x128 .f32) =>
      .op (.load M12 (T.r10 t7 t8 r).toLoadRect (View.loadsAt_vmem h_S1x32x128)) fun _ =>
      .op (.store M12 (T.r10 t7 t8 r) (shapeCast S1x32x128 (dxOf a b w x p) shapeCasts_S32x128_S1x32x128) Finset.univ (View.stores_vmem_bits_univ h_S1x32x128 rfl) (.inl rfl)) fun _ =>
      finCols M10 M12 a b w t7 t8 rs (maximumf s (absf (dxOf a b w x p)))

def finOuter (M10 : Buf S2x160x16384 .bf16) (M12 : Buf S4x160x16384 .f32) (M20 M21 M22 : Buf S160x128 .f32) (M25 : Buf S32x128 .f32)
    (t7 : Fin T.L7.trips) : K F Unit :=
  .op (.load M20 (T.r8 t7).toLoadRect (View.loadsAt_vmem h_S32x128)) fun (a : V32 F) =>
  .op (.load M21 (T.r8 t7).toLoadRect (View.loadsAt_vmem h_S32x128)) fun (b : V32 F) =>
  .op (.load M22 (T.r8 t7).toLoadRect (View.loadsAt_vmem h_S32x128)) fun (w : V32 F) =>
  .op (.load M25 rAll32.toLoadRect (View.loadsAt_vmem h_S32x128)) fun (s : V32 F) =>
  Scf.Loop.for T.L8 T.ok8 s (fun t8 acc => finCols T M10 M12 a b w t7 t8 [0, 1, 2, 3, 4, 5, 6, 7] acc) >>= fun p =>
  .op (.load M25 rAll32.toLoadRect (View.loadsAt_vmem h_S32x128)) fun _ =>
  .op (.store M25 rAll32 (shapeCast S32x128 p shapeCasts_S32x128_S32x128) Finset.univ (View.stores_vmem_bits_univ h_S32x128 rfl) (.inl rfl)) fun _ =>
  .ret ⟨⟩

/-- The coefficients of the gradient of the inputs, and that gradient in place of what its part of the buffer held. -/
def fin (M10 : Buf S2x160x16384 .bf16) (M12 : Buf S4x160x16384 .f32) (M15 M16 M20 M21 M22 : Buf S160x128 .f32) (M25 : Buf S32x128 .f32)
    (v0 : F .f32) (rs mu ga : V160 F) (k : K F α) : K F α :=
  groupSum M15 fun s => groupSum M16 fun q =>
  spreadGo M21 (shareOf s) [0, 1, 2, 3, 4, 5, 6, 7, 8, 9] <|
  spreadGo M22 (shareOf q) [0, 1, 2, 3, 4, 5, 6, 7, 8, 9] <|
  put160 M20 (mulf (mulf rs ga) (broadcast S160x128 v0)) <|
  .op (.load M22 rAll.toLoadRect (View.loadsAt_vmem h_S160x128)) fun (w : V160 F) =>
  put160 M22 (mulf (mulf rs rs) w) <|
  .op (.load M21 rAll.toLoadRect (View.loadsAt_vmem h_S160x128)) fun (b : V160 F) =>
  put160 M21 (subf (mulf rs b) (mulf mu (mulf (mulf rs rs) w))) <|
  Scf.Loop.for T.L7 T.ok7 ⟨⟩ (fun t7 _ => finOuter T M10 M12 M20 M21 M22 M25 t7) >>= fun _ => k
end

/-! ## It is safe -/

section
variable (c : Dev nD)

theorem groupGo_safe {H : sProp 𝕄} {Q : α → sProp 𝕄} {m : Buf S160x128 .f32} (hm : Lends c H m Finset.univ) {k : V16 F → K F α} (hk : ∀ v, H ⊢ Run c (k v) Q) :
    ∀ (js : List (Fin 10)) (s : V16 F), H ⊢ Run c (groupGo m js s k) Q
  | [], s => hk s
  | j :: js, s => safe_load c hm (Finset.subset_univ _) fun v => groupGo_safe hm hk js _

theorem groupSum_safe {H : sProp 𝕄} {Q : α → sProp 𝕄} {m : Buf S160x128 .f32} (hm : Lends c H m Finset.univ) {k : V16 F → K F α} (hk : ∀ v, H ⊢ Run c (k v) Q) :
    H ⊢ Run c (groupSum m k) Q :=
  safe_load c hm (Finset.subset_univ _) fun _ => groupGo_safe c hm hk _ _

theorem spreadGo_safe {H : sProp 𝕄} {Q : α → sProp 𝕄} {m : Buf S160x128 .f32} (hm : Lends c H m Finset.univ) {w : V16 F} {k : K F α} (hk : H ⊢ Run c k Q) :
    ∀ js : List (Fin 10), H ⊢ Run c (spreadGo m w js k) Q
  | [] => hk
  | j :: js => safe_load c hm (Finset.subset_univ _) fun _ => safe_store c hm (Finset.subset_univ _) (spreadGo_safe hm hk js)

theorem put160_safe {H : sProp 𝕄} {Q : α → sProp 𝕄} {m : Buf S160x128 .f32} (hm : Lends c H m Finset.univ) {w : V160 F} {k : K F α} (hk : H ⊢ Run c k Q) : H ⊢ Run c (put160 m w k) Q :=
  safe_load c hm (Finset.subset_univ _) fun _ => safe_store c hm (Finset.subset_univ _) hk

theorem safe_ret {β : Type} {H : sProp 𝕄} (a : β) : H ⊢ Run c (.ret a) fun _ => H := by
  iintro H
  iapply (le_wp_ret _ _); iexact H

variable {T : Tail} {sl : ℕ}
  {M10 : Buf S2x160x16384 .bf16} {M12 : Buf S4x160x16384 .f32} {M15 M16 M20 M21 M22 : Buf S160x128 .f32} {M25 : Buf S32x128 .f32}

theorem finCols_safe {H : sProp 𝕄} (G : T.Good sl) (h10 : Lends c H M10 (slotS sl)) (h12 : Lends c H M12 Finset.univ)
    (a b w : V32 F) (t7 : Fin T.L7.trips) (t8 : Fin T.L8.trips) :
    ∀ (rs : List (Fin 8)) (s : V32 F), H ⊢ Run c (finCols T M10 M12 a b w t7 t8 rs s) fun _ => H
  | [], s => safe_ret c s
  | r :: rs, s => safe_load c h10 (G t7 t8 r) fun _ => safe_load c h12 (Finset.subset_univ _) fun _ => safe_load c h12 (Finset.subset_univ _) fun _ =>
      safe_store c h12 (Finset.subset_univ _) (finCols_safe G h10 h12 a b w t7 t8 rs _)

theorem finOuter_safe {H : sProp 𝕄} (G : T.Good sl) (h10 : Lends c H M10 (slotS sl)) (h12 : Lends c H M12 Finset.univ) (h20 : Lends c H M20 Finset.univ) (h21 : Lends c H M21 Finset.univ) (h22 : Lends c H M22 Finset.univ) (h25 : Lends c H M25 Finset.univ)
    (t7 : Fin T.L7.trips) : H ⊢ Run c (finOuter (F := F) T M10 M12 M20 M21 M22 M25 t7) fun _ => H := by
  refine safe_load c h20 (Finset.subset_univ _) fun a => safe_load c h21 (Finset.subset_univ _) fun b => safe_load c h22 (Finset.subset_univ _) fun w =>
    safe_load c h25 (Finset.subset_univ _) fun _ => safe_for c (fun t8 s => finCols_safe c G h10 h12 a b w t7 t8 _ s) fun _ =>
    safe_load c h25 (Finset.subset_univ _) fun _ => safe_store c h25 (Finset.subset_univ _) (safe_ret c _)

theorem fin_safe {Q : α → sProp 𝕄} {H : sProp 𝕄} (G : T.Good sl) (h10 : Lends c H M10 (slotS sl)) (h12 : Lends c H M12 Finset.univ) (h15 : Lends c H M15 Finset.univ) (h16 : Lends c H M16 Finset.univ) (h20 : Lends c H M20 Finset.univ) (h21 : Lends c H M21 Finset.univ) (h22 : Lends c H M22 Finset.univ) (h25 : Lends c H M25 Finset.univ)
    {v0 : F .f32} {rs mu ga : V160 F} {k : K F α} (hk : H ⊢ Run c k Q) :
    H ⊢ Run c (fin T M10 M12 M15 M16 M20 M21 M22 M25 v0 rs mu ga k) Q :=
  groupSum_safe c h15 fun _ => groupSum_safe c h16 fun _ => spreadGo_safe c h21 (spreadGo_safe c h22 (put160_safe c h20
    (safe_load c h22 (Finset.subset_univ _) fun _ => put160_safe c h22 (safe_load c h21 (Finset.subset_univ _) fun _ => put160_safe c h21
      (safe_for c (fun t7 _ => finOuter_safe c G h10 h12 h20 h21 h22 h25 t7) fun _ => hk)))) _) _
end

/-! ## The stretches that are it -/

/-- The end of block 0. -/
def tail0 : Tail := ⟨k0_t7_loop, k0_t8_loop, k0_t7_ok, k0_t8_ok, k0_off8, k0_off9, k0_off10, k0_off8_inb, k0_off9_inb, k0_off10_inb⟩

/-- The end of block 1. -/
def tail1 : Tail := ⟨k0_t15_loop, k0_t16_loop, k0_t15_ok, k0_t16_ok, k0_off18, k0_off19, k0_off20, k0_off18_inb, k0_off19_inb, k0_off20_inb⟩

/-- The end of block 2. -/
def tail2 : Tail := ⟨k0_t23_loop, k0_t24_loop, k0_t23_ok, k0_t24_ok, k0_off28, k0_off29, k0_off30, k0_off28_inb, k0_off29_inb, k0_off30_inb⟩

/-- The end of block 3. -/
def tail3 : Tail := ⟨k0_t31_loop, k0_t32_loop, k0_t31_ok, k0_t32_ok, k0_off38, k0_off39, k0_off40, k0_off38_inb, k0_off39_inb, k0_off40_inb⟩

theorem tail0_good : tail0.Good 0 := fun t7 t8 r => sub_slot (k0_off9_eq t7 t8 r) rfl

theorem tail1_good : tail1.Good 1 := fun t7 t8 r => sub_slot (k0_off19_eq t7 t8 r) rfl

theorem tail2_good : tail2.Good 0 := fun t7 t8 r => sub_slot (k0_off29_eq t7 t8 r) rfl

theorem tail3_good : tail3.Good 1 := fun t7 t8 r => sub_slot (k0_off39_eq t7 t8 r) rfl

variable
  (arg0 : Memref sig .tc .hbm S2x320x16384 .bf16) (harg0 : arg0.IsWhole) (arg1 : Memref sig .tc .hbm S2x320x16384 .fp8e5m2) (harg1 : arg1.IsWhole) (arg2 : Memref sig .tc .vmem S1x320 .f32) (harg2 : arg2.IsWhole) (arg3 : Memref sig .tc .vmem S1x320 .f32) (harg3 : arg3.IsWhole) (arg4 : Memref sig .tc .smem S1x1 .f32) (harg4 : arg4.IsWhole) (arg5 : Memref sig .tc .vmem S16x128 .bf16) (harg5 : arg5.IsWhole) (arg6 : Memref sig .tc .hbm S2x320x16384 .fp8e5m2) (harg6 : arg6.IsWhole) (arg7 : Memref sig .tc .smem S1x1 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S2x160x16384 .bf16) (harg10 : arg10.IsWhole) (arg11 : Memref sig .tc .vmem S2x160x16384 .fp8e5m2) (harg11 : arg11.IsWhole) (arg12 : Memref sig .tc .vmem S4x160x16384 .f32) (harg12 : arg12.IsWhole) (arg13 : Memref sig .tc .vmem S320x128 .f32) (harg13 : arg13.IsWhole) (arg14 : Memref sig .tc .vmem S320x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S160x128 .f32) (harg18 : arg18.IsWhole) (arg19 : Memref sig .tc .vmem S16x128 .f32) (harg19 : arg19.IsWhole) (arg20 : Memref sig .tc .vmem S160x128 .f32) (harg20 : arg20.IsWhole) (arg21 : Memref sig .tc .vmem S160x128 .f32) (harg21 : arg21.IsWhole) (arg22 : Memref sig .tc .vmem S160x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S32x128 .f32) (harg25 : arg25.IsWhole) (arg26 : DmaSems sig S2) (arg27 : DmaSems sig S2) (arg28 : DmaSems sig S10)

theorem fin0_eq (v0 : F .f32) (rs mu ga : V160 F) (k : K F α) :
    s5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v0 rs mu ga k = fin tail0 arg10 arg12 arg15 arg16 arg20 arg21 arg22 arg25 v0 rs mu ga k := by sl_kernel_rfl

theorem fin1_eq (v0 : F .f32) (rs mu ga : V160 F) (k : K F α) :
    s10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v0 rs mu ga k = fin tail1 arg10 arg12 arg15 arg16 arg20 arg21 arg22 arg25 v0 rs mu ga k := by sl_kernel_rfl

theorem fin2_eq (v0 : F .f32) (rs mu ga : V160 F) (k : K F α) :
    s15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v0 rs mu ga k = fin tail2 arg10 arg12 arg15 arg16 arg20 arg21 arg22 arg25 v0 rs mu ga k := by sl_kernel_rfl

theorem fin3_eq (v0 : F .f32) (rs mu ga : V160 F) (k : K F α) :
    s20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v0 rs mu ga k = fin tail3 arg10 arg12 arg15 arg16 arg20 arg21 arg22 arg25 v0 rs mu ga k := by sl_kernel_rfl

end Cert.Proof.KernelIdeal

end
-- ==== Proof.Codes.lean ====
/-
  The last phase: the gradient of the inputs is divided by its scale, rounded to codes and sent to the result, 32 rows at a time.
  No claim reads a code, so what is shown is that every access stays in a part that is held. Ten parts of one buffer are filled and
  sent in turn, each waited for before it is filled again; `Slot` says which of the two a part is, and the whole phase
  is a list of steps that keeps it.
-/
module

public import proofs.«01_k».proof.Proof.Moves
public import proofs.«01_k».proof.Proof.Finish

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The loop that makes the codes of 32 rows: `slot` and `sub` say which of the ten parts it fills. -/
structure Cod where
  L : Scf.Loop 32
  ok : L.OK
  slot : ℕ
  sub : ℕ
  off12 : Fin L.trips → BitVec 32 → Fin 3 → ℕ
  off11 : Fin L.trips → BitVec 32 → Fin 3 → ℕ
  inb12 : ∀ t, ∀ (r : Fin 8) a, off12 t (BitVec.ofNat 32 (128 * r.val)) a + S1x32x128.size a ≤ S4x160x16384.size a
  inb11 : ∀ t, ∀ (r : Fin 8) a, off11 t (BitVec.ofNat 32 (128 * r.val)) a + S1x32x128.size a ≤ S2x160x16384.size a
  packed : ∀ t, ∀ r : Fin 8, (Rect.unit (s := S2x160x16384) (off11 t (BitVec.ofNat 32 (128 * r.val))) S1x32x128.size (inb11 t r)).PackedRows (EltTy.packing .fp8e5m2)
  at11 : ∀ t, ∀ r : Fin 8, off11 t (BitVec.ofNat 32 (128 * r.val)) = ![slot, 32 * sub, 1024 * t.val + 128 * r.val]

namespace Cod
variable (C : Cod)
abbrev r12 (t : Fin C.L.trips) (r : Fin 8) : Rect S4x160x16384 :=
  Rect.unit (s := S4x160x16384) (C.off12 t (BitVec.ofNat 32 (128 * r.val))) S1x32x128.size (C.inb12 t r)
abbrev r11 (t : Fin C.L.trips) (r : Fin 8) : Rect S2x160x16384 :=
  Rect.unit (s := S2x160x16384) (C.off11 t (BitVec.ofNat 32 (128 * r.val))) S1x32x128.size (C.inb11 t r)
end Cod

/-- The twenty loops. -/
def cod : Fin 20 → Cod := ![
  ⟨k0_t34_loop, k0_t34_ok, 0, 0, k0_off41, k0_off42, k0_off41_inb, k0_off42_inb, k0_off42_packedfp8e5m2, k0_off42_eq⟩,
  ⟨k0_t35_loop, k0_t35_ok, 0, 1, k0_off43, k0_off44, k0_off43_inb, k0_off44_inb, k0_off44_packedfp8e5m2, k0_off44_eq⟩,
  ⟨k0_t36_loop, k0_t36_ok, 0, 2, k0_off45, k0_off46, k0_off45_inb, k0_off46_inb, k0_off46_packedfp8e5m2, k0_off46_eq⟩,
  ⟨k0_t37_loop, k0_t37_ok, 0, 3, k0_off47, k0_off48, k0_off47_inb, k0_off48_inb, k0_off48_packedfp8e5m2, k0_off48_eq⟩,
  ⟨k0_t38_loop, k0_t38_ok, 0, 4, k0_off49, k0_off50, k0_off49_inb, k0_off50_inb, k0_off50_packedfp8e5m2, k0_off50_eq⟩,
  ⟨k0_t39_loop, k0_t39_ok, 1, 0, k0_off51, k0_off52, k0_off51_inb, k0_off52_inb, k0_off52_packedfp8e5m2, k0_off52_eq⟩,
  ⟨k0_t40_loop, k0_t40_ok, 1, 1, k0_off53, k0_off54, k0_off53_inb, k0_off54_inb, k0_off54_packedfp8e5m2, k0_off54_eq⟩,
  ⟨k0_t41_loop, k0_t41_ok, 1, 2, k0_off55, k0_off56, k0_off55_inb, k0_off56_inb, k0_off56_packedfp8e5m2, k0_off56_eq⟩,
  ⟨k0_t42_loop, k0_t42_ok, 1, 3, k0_off57, k0_off58, k0_off57_inb, k0_off58_inb, k0_off58_packedfp8e5m2, k0_off58_eq⟩,
  ⟨k0_t43_loop, k0_t43_ok, 1, 4, k0_off59, k0_off60, k0_off59_inb, k0_off60_inb, k0_off60_packedfp8e5m2, k0_off60_eq⟩,
  ⟨k0_t44_loop, k0_t44_ok, 0, 0, k0_off61, k0_off62, k0_off61_inb, k0_off62_inb, k0_off62_packedfp8e5m2, k0_off62_eq⟩,
  ⟨k0_t45_loop, k0_t45_ok, 0, 1, k0_off63, k0_off64, k0_off63_inb, k0_off64_inb, k0_off64_packedfp8e5m2, k0_off64_eq⟩,
  ⟨k0_t46_loop, k0_t46_ok, 0, 2, k0_off65, k0_off66, k0_off65_inb, k0_off66_inb, k0_off66_packedfp8e5m2, k0_off66_eq⟩,
  ⟨k0_t47_loop, k0_t47_ok, 0, 3, k0_off67, k0_off68, k0_off67_inb, k0_off68_inb, k0_off68_packedfp8e5m2, k0_off68_eq⟩,
  ⟨k0_t48_loop, k0_t48_ok, 0, 4, k0_off69, k0_off70, k0_off69_inb, k0_off70_inb, k0_off70_packedfp8e5m2, k0_off70_eq⟩,
  ⟨k0_t49_loop, k0_t49_ok, 1, 0, k0_off71, k0_off72, k0_off71_inb, k0_off72_inb, k0_off72_packedfp8e5m2, k0_off72_eq⟩,
  ⟨k0_t50_loop, k0_t50_ok, 1, 1, k0_off73, k0_off74, k0_off73_inb, k0_off74_inb, k0_off74_packedfp8e5m2, k0_off74_eq⟩,
  ⟨k0_t51_loop, k0_t51_ok, 1, 2, k0_off75, k0_off76, k0_off75_inb, k0_off76_inb, k0_off76_packedfp8e5m2, k0_off76_eq⟩,
  ⟨k0_t52_loop, k0_t52_ok, 1, 3, k0_off77, k0_off78, k0_off77_inb, k0_off78_inb, k0_off78_packedfp8e5m2, k0_off78_eq⟩,
  ⟨k0_t53_loop, k0_t53_ok, 1, 4, k0_off79, k0_off80, k0_off79_inb, k0_off80_inb, k0_off80_packedfp8e5m2, k0_off80_eq⟩]

/-! ## The parts -/

/-- The part a loop fills. -/
def partOf (j : Fin 20) : Fin 10 := ⟨j.val % 10, Nat.mod_lt _ (by decide)⟩
/-- The places of part `k`. -/
def win (k : Fin 10) : Finset S2x160x16384.Idx := Finset.univ.filter fun i => (i 0).val = k.val / 5 ∧ (i 1).val / 32 = k.val % 5
/-- The places of the result that part `k` is ever sent to. -/
def outs (k : Fin 10) : Finset S2x320x16384.Idx := Finset.univ.filter fun i => (i 1).val / 32 = k.val

theorem mem_win {k : Fin 10} {i : S2x160x16384.Idx} : i ∈ win k ↔ (i 0).val = k.val / 5 ∧ (i 1).val / 32 = k.val % 5 := by simp [win]
theorem mem_outs {k : Fin 10} {i : S2x320x16384.Idx} : i ∈ outs k ↔ (i 1).val / 32 = k.val := by simp [outs]

theorem cod_part : ∀ j : Fin 20, (cod j).slot = (partOf j).val / 5 ∧ (cod j).sub = (partOf j).val % 5 := by decide +kernel

theorem cod_in (j : Fin 20) (t : Fin (cod j).L.trips) (r : Fin 8) : ((cod j).r11 t r).toLoadRect.set ⊆ win (partOf j) := by
  intro i hi
  have h0 := (Rect.mem_set_unit.mp hi) 0
  have h1 := (Rect.mem_set_unit.mp hi) 1
  rw [(cod j).at11 t r] at h0 h1
  obtain ⟨e0, e1⟩ := cod_part j
  have a0 : (cod j).slot ≤ (i 0).val ∧ (i 0).val < (cod j).slot + 1 := h0
  have a1 : 32 * (cod j).sub ≤ (i 1).val ∧ (i 1).val < 32 * (cod j).sub + 32 := h1
  exact mem_win.mpr (by omega)

def srcOff (j : Fin 20) : Fin 3 → ℕ := ![j.val / 5 % 2, 32 * (j.val % 5), 0]
def dstOff (j : Fin 20) : Fin 3 → ℕ := ![j.val / 10, 32 * (j.val % 10), 0]
theorem srcInb : ∀ (j : Fin 20) (a : Fin 3), srcOff j a + S1x32x16384.size a ≤ S2x160x16384.size a := by decide
theorem dstInb : ∀ (j : Fin 20) (a : Fin 3), dstOff j a + S1x32x16384.size a ≤ S2x320x16384.size a := by decide
abbrev srcR (j : Fin 20) : Rect S2x160x16384 := Rect.unit (s := S2x160x16384) (srcOff j) S1x32x16384.size (srcInb j)
abbrev dstR (j : Fin 20) : Rect S2x320x16384 := Rect.unit (s := S2x320x16384) (dstOff j) S1x32x16384.size (dstInb j)
theorem srcWords : ∀ j : Fin 20, (srcR j).WholeWords (EltTy.packing .fp8e5m2) := by decide
theorem dstWords : ∀ j : Fin 20, (dstR j).WholeWords (EltTy.packing .fp8e5m2) := by decide

theorem srcR_set (j : Fin 20) : (srcR j).set = win (partOf j) := by
  ext i
  rw [Rect.mem_set_unit, mem_win]
  constructor
  · intro h
    have a0 : j.val / 5 % 2 ≤ (i 0).val ∧ (i 0).val < j.val / 5 % 2 + 1 := h 0
    have a1 : 32 * (j.val % 5) ≤ (i 1).val ∧ (i 1).val < 32 * (j.val % 5) + 32 := h 1
    show (i 0).val = j.val % 10 / 5 ∧ (i 1).val / 32 = j.val % 10 % 5
    omega
  · rintro ⟨h0, h1⟩
    have e0 : (i 0).val = j.val % 10 / 5 := h0
    have e1 : (i 1).val / 32 = j.val % 10 % 5 := h1
    have e2 : (i 2).val < 16384 := (i 2).isLt
    intro a
    fin_cases a
    · show j.val / 5 % 2 ≤ (i 0).val ∧ (i 0).val < j.val / 5 % 2 + 1; omega
    · show 32 * (j.val % 5) ≤ (i 1).val ∧ (i 1).val < 32 * (j.val % 5) + 32; omega
    · show 0 ≤ (i 2).val ∧ (i 2).val < 0 + 16384; omega

theorem dstR_sub (j : Fin 20) : (dstR j).set ⊆ outs (partOf j) := by
  intro i hi
  have a1 : 32 * (j.val % 10) ≤ (i 1).val ∧ (i 1).val < 32 * (j.val % 10) + 32 := (Rect.mem_set_unit.mp hi) 1
  exact mem_outs.mpr (show (i 1).val / 32 = j.val % 10 by omega)

/-! ## The program -/

variable {α : Type}

/-- A column of 32 channels divided by the scale, clipped to the finite codes and rounded. -/
def codeOf (inv : V32 F) (p : Vec F S1x32x128 .f32) : Vec F S1x32x128 .fp8e5m2 :=
  shapeCast S1x32x128 (truncf .fp8e5m2 (minimumf (broadcast S32x128 (FloatOps.ofBits (F := F) .f32 0x47600000#32))
    (maximumf (broadcast S32x128 (FloatOps.ofBits (F := F) .f32 0xC7600000#32)) (mulf (shapeCast S32x128 p shapeCasts_S1x32x128_S32x128) inv))) bitsLt_fp8e5m2_f32) shapeCasts_S32x128_S1x32x128

section
variable (M6 : Memref sig .tc .hbm S2x320x16384 .fp8e5m2) (h6 : M6.IsWhole) (M11 : Buf S2x160x16384 .fp8e5m2) (h11 : M11.IsWhole)
  (M12 : Buf S4x160x16384 .f32) (S : DmaSems sig S10) (inv : V32 F)

def codeCols (C : Cod) (t : Fin C.L.trips) : List (Fin 8) → K F Unit
  | [] => .ret ⟨⟩
  | r :: rs =>
      .op (.load M12 (C.r12 t r).toLoadRect (View.loadsAt_vmem h_S1x32x128)) fun (p : Vec F S1x32x128 .f32) =>
      .op (.load M11 (C.r11 t r).toLoadRect (View.loadsAt_vmem h_S1x32x128)) fun _ =>
      .op (.store M11 (C.r11 t r) (codeOf inv p) Finset.univ (View.stores_vmem h_S1x32x128 (h11.storeExact_slice rfl _ (C.packed t r)) (fun _ => rfl)) (.inl rfl)) fun _ =>
      codeCols C t rs

theorem semInb : ∀ (k : Fin 10) (a : Fin 1), (![k.val] : Fin 1 → ℕ) a + S1.size a ≤ S10.size a := by decide
/-- The semaphore of part `k`. -/
abbrev semOf (k : Fin 10) : DmaSem sig := ((S.slice (Rect.unit (s := S10) ![k.val] S1.size (semInb k))).squeeze S_ squeezes_S1_S_).sem
abbrev srcW (j : Fin 20) : Memref sig .tc .vmem S32x16384 .fp8e5m2 := (M11.slice (srcR j) (fun _ => rfl)).squeeze S32x16384 squeezes_S1x32x16384_S32x16384
abbrev dstW (j : Fin 20) : Memref sig .tc .hbm S32x16384 .fp8e5m2 := (M6.slice (dstR j) (fun _ => rfl)).squeeze S32x16384 squeezes_S1x32x16384_S32x16384

/-- A step: part filled, sent, waited for. -/
inductive Step
  | code (j : Fin 20)
  | send (j : Fin 20)
  | recv (j : Fin 20)

def steps : List Step → K F α → K F α
  | [], k => k
  | .code j :: l, k => Scf.Loop.for (cod j).L (cod j).ok ⟨⟩ (fun t _ => codeCols M11 h11 M12 inv (cod j) t [0, 1, 2, 3, 4, 5, 6, 7]) >>= fun _ => steps l k
  | .send j :: l, k => .op (.enqueueDma (srcW M11 j) (.here (dstW M6 j)) (.dma (semOf S (partOf j))) ((h11.wordExact_slice rfl _ (srcWords j)).reshape _ _)
      ((h6.wordExact_slice rfl _ (dstWords j)).reshape _ _) ⟨Or.inl rfl, trivial⟩) fun _ => steps l k
  | .recv j :: l, k => .op (.waitDma2 (semOf S (partOf j)) (srcW M11 j) (dstW M6 j) ((h11.wordExact_slice rfl _ (srcWords j)).reshape _ _)
      ((h6.wordExact_slice rfl _ (dstWords j)).reshape _ _)) fun _ => steps l k

/-- The steps of the region, but for the last two waits. -/
def allSteps : List Step := [.code 0, .code 1, .send 0, .code 2, .send 1, .code 3, .send 2, .code 4, .send 3, .code 5, .send 4, .code 6, .send 5, .code 7, .send 6, .code 8, .send 7, .code 9, .send 8, .recv 0, .code 10, .send 9, .recv 1, .code 11, .send 10, .recv 2, .code 12, .send 11, .recv 3, .code 13, .send 12, .recv 4, .code 14, .send 13, .recv 5, .code 15, .send 14, .recv 6, .code 16, .send 15, .recv 7, .code 17, .send 16, .recv 8, .code 18, .send 17, .recv 9, .code 19, .send 18, .send 19, .recv 10, .recv 11, .recv 12, .recv 13, .recv 14, .recv 15, .recv 16, .recv 17]

def codes (M7 : Memref sig .tc .smem S1x1 .f32) (M25 : Buf S32x128 .f32) (k : K F α) : K F α :=
  .op (.load M25 rAll32.toLoadRect (View.loadsAt_vmem h_S32x128)) fun (s : V32 F) =>
  Scf.Loop.for k0_t33_loop k0_t33_ok (k0_pay836) (fun t a => .ret (k0_pay837 s t a)) >>= fun (e : IVec S8x128 32) =>
  smemLoad M7 (Rect.unit (s := S1x1) ![0, 0] S1x1.size inb_S1x1_S1x1_0_0) numel1_S1x1 rfl >>= fun _ =>
  .op (.store M7 (Rect.unit (s := S1x1) ![0, 0] S1x1.size inb_S1x1_S1x1_0_0) (fun _ => k0_pay839 s e) Finset.univ (View.stores_smem_one rfl numel1_S1x1) (.inl rfl)) fun _ =>
  steps M6 h6 M11 h11 M12 S (k0_pay842 (k0_pay840 s e) k0_pay841) allSteps k
end

/-! ## It is safe -/

section
variable (c : Dev nD) {M6 : Memref sig .tc .hbm S2x320x16384 .fp8e5m2} {h6 : M6.IsWhole} {M11 : Buf S2x160x16384 .fp8e5m2} {h11 : M11.IsWhole}
  {M12 : Buf S4x160x16384 .f32} {S : DmaSems sig S10} {inv : V32 F}

theorem codeCols_safe {H : sProp 𝕄} (j : Fin 20) (h12 : Lends c H M12 Finset.univ) (hw : Lends c H M11 (win (partOf j))) (t : Fin (cod j).L.trips) :
    ∀ rs : List (Fin 8), H ⊢ Run c (codeCols M11 h11 M12 inv (cod j) t rs) fun _ => H
  | [] => safe_ret c _
  | r :: rs => safe_load c h12 (Finset.subset_univ _) fun _ => safe_load c hw (cod_in j t r) fun _ => safe_store c hw (cod_in j t r) (codeCols_safe j h12 hw t rs)

variable (M6 M11 M12 S)

/-- Part `k`: held, with its semaphore at zero; or on its way, for the loop `j`. -/
def Slot (k : Fin 10) : Option (Fin 20) → sProp 𝕄
  | none => iprop(Any (F := F) c M11 (win k) ∗ Any (F := F) c M6 (outs k) ∗ Idle (F := F) c (semOf S k))
  | some j => iprop(Fl (F := F) c (semOf S (partOf j)) (dstW M6 j).view.dmaCredit (iprop(Any (F := F) c M11 (srcR j).set ∗ Any (F := F) c M6 (dstR j).set)) ∗ Any (F := F) c M6 (outs (partOf j) \ (dstR j).set))

/-- The ten parts. -/
def Slots (st : Fin 10 → Option (Fin 20)) : sProp 𝕄 := bigSep Finset.univ fun k => Slot (F := F) c M6 M11 S k (st k)

theorem slots_take (st : Fin 10 → Option (Fin 20)) (k : Fin 10) :
    Slots (F := F) c M6 M11 S st ⊢ iprop(Slot (F := F) c M6 M11 S k (st k) ∗ (∀ v, Slot (F := F) c M6 M11 S k v -∗ Slots (F := F) c M6 M11 S (Function.update st k v))) := by
  refine BIBase.Entails.trans (show Slots (F := F) c M6 M11 S st ⊢ iprop(Slot (F := F) c M6 M11 S k (st k) ∗ bigSep (Finset.univ.erase k) fun k' => Slot (F := F) c M6 M11 S k' (st k')) by
    unfold Slots; rw [bigSep_univ_split k]; exact .rfl) ?_
  iintro ⟨H, HR⟩
  isplitl [H]; · iexact H
  iintro %v H
  iapply (show iprop(Slot (F := F) c M6 M11 S k v ∗ bigSep (Finset.univ.erase k) fun k' => Slot (F := F) c M6 M11 S k' (st k')) ⊢ Slots (F := F) c M6 M11 S (Function.update st k v) by
    have e : (bigSep (Finset.univ.erase k) fun k' => Slot (F := F) c M6 M11 S k' (st k')) = bigSep (Finset.univ.erase k) fun k' => Slot (F := F) c M6 M11 S k' (Function.update st k v k') :=
      bigSep_congr fun i hi => by rw [Function.update_of_ne (Finset.ne_of_mem_erase hi)]
    unfold Slots
    rw [bigSep_univ_split k (Φ := fun k' => Slot (F := F) c M6 M11 S k' (Function.update st k v k')), Function.update_self, e]
    exact .rfl)
  isplitl [H]; · iexact H
  iexact HR

/-- What part `k` is when it is held. -/
abbrev Rest (k : Fin 10) : sProp 𝕄 := iprop(Any (F := F) c M11 (win k) ∗ Any (F := F) c M6 (outs k) ∗ Idle (F := F) c (semOf S k))
/-- What part `partOf j` is when it is on its way for the loop `j`. -/
abbrev Away (j : Fin 20) : sProp 𝕄 := iprop(Fl (F := F) c (semOf S (partOf j)) (dstW M6 j).view.dmaCredit (iprop(Any (F := F) c M11 (srcR j).set ∗ Any (F := F) c M6 (dstR j).set)) ∗ Any (F := F) c M6 (outs (partOf j) \ (dstR j).set))

theorem slot_rest (k : Fin 10) : Rest (F := F) c M6 M11 S k ⊢ Slot (F := F) c M6 M11 S k none := .rfl
theorem slot_away (j : Fin 20) : Away (F := F) c M6 M11 S j ⊢ Slot (F := F) c M6 M11 S (partOf j) (some j) := .rfl

theorem take_rest {st : Fin 10 → Option (Fin 20)} {k : Fin 10} (h : st k = none) :
    Slots (F := F) c M6 M11 S st ⊢ iprop(Rest (F := F) c M6 M11 S k ∗ (∀ v, Slot (F := F) c M6 M11 S k v -∗ Slots (F := F) c M6 M11 S (Function.update st k v))) := by
  have e := slots_take (F := F) c M6 M11 S st k
  rw [h] at e
  exact e

theorem take_away {st : Fin 10 → Option (Fin 20)} {j : Fin 20} (h : st (partOf j) = some j) :
    Slots (F := F) c M6 M11 S st ⊢ iprop(Away (F := F) c M6 M11 S j ∗ (∀ v, Slot (F := F) c M6 M11 S (partOf j) v -∗ Slots (F := F) c M6 M11 S (Function.update st (partOf j) v))) := by
  have e := slots_take (F := F) c M6 M11 S st (partOf j)
  rw [h] at e
  exact e

theorem take_back {st : Fin 10 → Option (Fin 20)} {k : Fin 10} (h : st k = none) :
    Slots (F := F) c M6 M11 S st ⊢ iprop(Rest (F := F) c M6 M11 S k ∗ (Rest (F := F) c M6 M11 S k -∗ Slots (F := F) c M6 M11 S st)) := by
  refine BIBase.Entails.trans (take_rest c M6 M11 S h) ?_
  iintro ⟨H, HB⟩
  isplitl [H]; · iexact H
  iintro H
  ihave HB := HB $$ %none
  have e : Function.update st k none = st := by rw [← h, Function.update_eq_self]
  iapply (show Slots (F := F) c M6 M11 S (Function.update st k none) ⊢ Slots (F := F) c M6 M11 S st by rw [e])
  iapply HB
  iapply (slot_rest c M6 M11 S k)
  iexact H

/-- Everything the steps use, and `R` besides. -/
def Held (R : sProp 𝕄) (st : Fin 10 → Option (Fin 20)) : sProp 𝕄 :=
  iprop(Any (F := F) c M12 Finset.univ ∗ Owes (F := F) c ∗ R ∗ Slots (F := F) c M6 M11 S st)

variable {M6 M11 M12 S}

/-- The steps keep to their turn, and end at `e`. -/
def Fits (e : Fin 10 → Option (Fin 20)) : (Fin 10 → Option (Fin 20)) → List Step → Prop
  | st, [] => ∀ k, st k = e k
  | st, .code j :: l => st (partOf j) = none ∧ Fits e st l
  | st, .send j :: l => st (partOf j) = none ∧ Fits e (Function.update st (partOf j) (some j)) l
  | st, .recv j :: l => st (partOf j) = some j ∧ Fits e (Function.update st (partOf j) none) l

instance decFits (e : Fin 10 → Option (Fin 20)) : ∀ (st : Fin 10 → Option (Fin 20)) (l : List Step), Decidable (Fits e st l)
  | st, [] => inferInstanceAs (Decidable (∀ k, st k = e k))
  | st, .code j :: l => @instDecidableAnd _ _ _ (decFits e st l)
  | st, .send j :: l => @instDecidableAnd _ _ _ (decFits e (Function.update st (partOf j) (some j)) l)
  | st, .recv j :: l => @instDecidableAnd _ _ _ (decFits e (Function.update st (partOf j) none) l)

theorem steps_safe {R : sProp 𝕄} {Q : α → sProp 𝕄} {k : K F α} {e : Fin 10 → Option (Fin 20)} (hk : Held (F := F) c M6 M11 M12 S R e ⊢ Run c k Q) :
    ∀ (l : List Step) (st : Fin 10 → Option (Fin 20)), Fits e st l → Held (F := F) c M6 M11 M12 S R st ⊢ Run c (steps M6 h6 M11 h11 M12 S inv l k) Q
  | [], st, h => by
      rw [show st = e from funext h]; exact hk
  | .code j :: l, st, ⟨h, hl⟩ => by
      refine safe_for c (fun t _ => codeCols_safe c j ?_ ?_ t _) fun _ => steps_safe hk l st hl
      · unfold Lends Held
        iintro ⟨H12, HO, HR, HS⟩
        isplitl [H12]; · iexact H12
        iintro H12
        isplitl [H12]; · iexact H12
        isplitl [HO]; · iexact HO
        isplitl [HR]; · iexact HR
        iexact HS
      · unfold Lends Held
        iintro ⟨H12, HO, HR, HS⟩
        ihave HS := (take_back c M6 M11 S h) $$ HS
        icases HS with ⟨⟨HW, HT, HI⟩, HB⟩
        isplitl [HW]; · iexact HW
        iintro HW
        isplitl [H12]; · iexact H12
        isplitl [HO]; · iexact HO
        isplitl [HR]; · iexact HR
        iapply HB
        isplitl [HW]; · iexact HW
        isplitl [HT]; · iexact HT
        iexact HI
  | .send j :: l, st, ⟨h, hl⟩ => by
      unfold Held
      iintro ⟨H12, HO, HR, HS⟩
      ihave HS := (take_rest c M6 M11 S h) $$ HS
      icases HS with ⟨⟨HW, HT, HI⟩, HB⟩
      ihave HT := (any_split c (dstR_sub j)) $$ HT
      icases HT with ⟨HT, HT2⟩
      iapply (any_start c (A := M11) (B := M6) (rA := srcR j) (rB := dstR j) (by decide)) $$ [HW HT HI]
      · isplitl [HW]
        · iapply (show Any (F := F) c M11 (win (partOf j)) ⊢ Any (F := F) c M11 (srcR j).set by rw [srcR_set j]); iexact HW
        isplitl [HT]; · iexact HT
        iexact HI
      iintro HF
      iapply (steps_safe hk l _ hl)
      unfold Held
      isplitl [H12]; · iexact H12
      isplitl [HO]; · iexact HO
      isplitl [HR]; · iexact HR
      iapply HB
      iapply (slot_away c M6 M11 S j)
      isplitl [HF]; · iexact HF
      iexact HT2
  | .recv j :: l, st, ⟨h, hl⟩ => by
      unfold Held
      iintro ⟨H12, HO, HR, HS⟩
      ihave HS := (take_away c M6 M11 S h) $$ HS
      icases HS with ⟨⟨HF, HT2⟩, HB⟩
      iapply (fl_wait c) $$ [HF HO]
      · isplitl [HF]; · iexact HF
        iexact HO
      iintro ⟨⟨HW, HT⟩, HI, HO⟩
      ihave HT := (any_join c (dstR_sub j)) $$ [HT HT2]
      · isplitl [HT]; · iexact HT
        iexact HT2
      iapply (steps_safe hk l _ hl)
      unfold Held
      isplitl [H12]; · iexact H12
      isplitl [HO]; · iexact HO
      isplitl [HR]; · iexact HR
      iapply HB
      iapply (slot_rest c M6 M11 S (partOf j))
      isplitl [HW]
      · iapply (show Any (F := F) c M11 (srcR j).set ⊢ Any (F := F) c M11 (win (partOf j)) by rw [srcR_set j]); iexact HW
      isplitl [HT]; · iexact HT
      iexact HI

/-- The last two waits. -/
def lastSteps : List Step := [.recv 18, .recv 19]

/-- Where the steps stand before the last two waits. -/
def mid : Fin 10 → Option (Fin 20) := ![none, none, none, none, none, none, none, none, some 18, some 19]

theorem allSteps_fit : Fits mid (fun _ => none) allSteps := by
  decide +kernel

theorem lastSteps_fit : Fits (fun _ => none) mid lastSteps := by
  decide +kernel

theorem codes_safe {R : sProp 𝕄} {Q : α → sProp 𝕄} {M7 : Memref sig .tc .smem S1x1 .f32} {M25 : Buf S32x128 .f32} {k : K F α}
    (hk : Held (F := F) c M6 M11 M12 S (iprop((Any (F := F) c M7 Finset.univ ∗ Any (F := F) c M25 Finset.univ) ∗ R)) mid ⊢ Run c k Q) :
    Held (F := F) c M6 M11 M12 S (iprop((Any (F := F) c M7 Finset.univ ∗ Any (F := F) c M25 Finset.univ) ∗ R)) (fun _ => none)
      ⊢ Run c (codes M6 h6 M11 h11 M12 S M7 M25 k) Q := by
  have h7 : Lends c (Held (F := F) c M6 M11 M12 S (iprop((Any (F := F) c M7 Finset.univ ∗ Any (F := F) c M25 Finset.univ) ∗ R)) (fun _ => none)) M7 Finset.univ := by
    unfold Lends Held
    iintro ⟨H12, HO, ⟨⟨H7, H25⟩, HR⟩, HS⟩
    isplitl [H7]; · iexact H7
    iintro H7
    isplitl [H12]; · iexact H12
    isplitl [HO]; · iexact HO
    isplitr [HS]
    · isplitr [HR]
      · isplitl [H7]; · iexact H7
        iexact H25
      · iexact HR
    · iexact HS
  have h25 : Lends c (Held (F := F) c M6 M11 M12 S (iprop((Any (F := F) c M7 Finset.univ ∗ Any (F := F) c M25 Finset.univ) ∗ R)) (fun _ => none)) M25 Finset.univ := by
    unfold Lends Held
    iintro ⟨H12, HO, ⟨⟨H7, H25⟩, HR⟩, HS⟩
    isplitl [H25]; · iexact H25
    iintro H25
    isplitl [H12]; · iexact H12
    isplitl [HO]; · iexact HO
    isplitr [HS]
    · isplitr [HR]
      · isplitl [H7]; · iexact H7
        iexact H25
      · iexact HR
    · iexact HS
  refine safe_load c h25 (Finset.subset_univ _) fun s => safe_for c (fun t a => safe_ret c _) fun e => ?_
  refine safe_load c h7 (Finset.subset_univ _) fun _ => safe_store c h7 (Finset.subset_univ _) ?_
  exact steps_safe c hk _ _ allSteps_fit
end

/-! ## The stretch that is it -/

variable
  (arg0 : Memref sig .tc .hbm S2x320x16384 .bf16) (harg0 : arg0.IsWhole) (arg1 : Memref sig .tc .hbm S2x320x16384 .fp8e5m2) (harg1 : arg1.IsWhole) (arg2 : Memref sig .tc .vmem S1x320 .f32) (harg2 : arg2.IsWhole) (arg3 : Memref sig .tc .vmem S1x320 .f32) (harg3 : arg3.IsWhole) (arg4 : Memref sig .tc .smem S1x1 .f32) (harg4 : arg4.IsWhole) (arg5 : Memref sig .tc .vmem S16x128 .bf16) (harg5 : arg5.IsWhole) (arg6 : Memref sig .tc .hbm S2x320x16384 .fp8e5m2) (harg6 : arg6.IsWhole) (arg7 : Memref sig .tc .smem S1x1 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S2x160x16384 .bf16) (harg10 : arg10.IsWhole) (arg11 : Memref sig .tc .vmem S2x160x16384 .fp8e5m2) (harg11 : arg11.IsWhole) (arg12 : Memref sig .tc .vmem S4x160x16384 .f32) (harg12 : arg12.IsWhole) (arg13 : Memref sig .tc .vmem S320x128 .f32) (harg13 : arg13.IsWhole) (arg14 : Memref sig .tc .vmem S320x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S160x128 .f32) (harg18 : arg18.IsWhole) (arg19 : Memref sig .tc .vmem S16x128 .f32) (harg19 : arg19.IsWhole) (arg20 : Memref sig .tc .vmem S160x128 .f32) (harg20 : arg20.IsWhole) (arg21 : Memref sig .tc .vmem S160x128 .f32) (harg21 : arg21.IsWhole) (arg22 : Memref sig .tc .vmem S160x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S32x128 .f32) (harg25 : arg25.IsWhole) (arg26 : DmaSems sig S2) (arg27 : DmaSems sig S2) (arg28 : DmaSems sig S10)

theorem codes_eq (v : Vec F S128x128 .f32) (k : K F α) :
    s22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 v k = codes arg6 harg6 arg11 harg11 arg12 arg28 arg7 arg25 k := by sl_kernel_rfl

end Cert.Proof.KernelIdeal

end
-- ==== Proof.Good.lean ====
/-
  What the printed loops and offsets of the four blocks are as numbers.
-/
module

public import proofs.«01_k».proof.Proof.Bridge
public import proofs.«01_k».proof.Proof.StatSpec

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The numbers of block 0. -/
theorem blk0_good : blk0.Good 0 0 0 where
  n1 := by show k0_t1_loop.trips = _; decide +kernel
  n2 := by show k0_t2_loop.trips = _; decide +kernel
  n3 := by show k0_t3_loop.trips = _; decide +kernel
  n4 := by show k0_t4_loop.trips = _; decide +kernel
  n5 := by show k0_t5_loop.trips = _; decide +kernel
  n6 := by show k0_t6_loop.trips = _; decide +kernel
  e1 := k0_off1_eq
  e2 := k0_off2_eq
  e3 := k0_off3_eq
  e4 := k0_off4_eq
  e5 := k0_off5_eq
  e6 := k0_off6_eq
  e7 := k0_off7_eq
  eR := rfl

/-- The numbers of block 1. -/
theorem blk1_good : blk1.Good 1 1 1 where
  n1 := by show k0_t9_loop.trips = _; decide +kernel
  n2 := by show k0_t10_loop.trips = _; decide +kernel
  n3 := by show k0_t11_loop.trips = _; decide +kernel
  n4 := by show k0_t12_loop.trips = _; decide +kernel
  n5 := by show k0_t13_loop.trips = _; decide +kernel
  n6 := by show k0_t14_loop.trips = _; decide +kernel
  e1 := k0_off11_eq
  e2 := k0_off12_eq
  e3 := k0_off13_eq
  e4 := k0_off14_eq
  e5 := k0_off15_eq
  e6 := k0_off16_eq
  e7 := k0_off17_eq
  eR := rfl

/-- The numbers of block 2. -/
theorem blk2_good : blk2.Good 0 0 2 where
  n1 := by show k0_t17_loop.trips = _; decide +kernel
  n2 := by show k0_t18_loop.trips = _; decide +kernel
  n3 := by show k0_t19_loop.trips = _; decide +kernel
  n4 := by show k0_t20_loop.trips = _; decide +kernel
  n5 := by show k0_t21_loop.trips = _; decide +kernel
  n6 := by show k0_t22_loop.trips = _; decide +kernel
  e1 := k0_off21_eq
  e2 := k0_off22_eq
  e3 := k0_off23_eq
  e4 := k0_off24_eq
  e5 := k0_off25_eq
  e6 := k0_off26_eq
  e7 := k0_off27_eq
  eR := rfl

/-- The numbers of block 3. -/
theorem blk3_good : blk3.Good 1 1 3 where
  n1 := by show k0_t25_loop.trips = _; decide +kernel
  n2 := by show k0_t26_loop.trips = _; decide +kernel
  n3 := by show k0_t27_loop.trips = _; decide +kernel
  n4 := by show k0_t28_loop.trips = _; decide +kernel
  n5 := by show k0_t29_loop.trips = _; decide +kernel
  n6 := by show k0_t30_loop.trips = _; decide +kernel
  e1 := k0_off31_eq
  e2 := k0_off32_eq
  e3 := k0_off33_eq
  e4 := k0_off34_eq
  e5 := k0_off35_eq
  e6 := k0_off36_eq
  e7 := k0_off37_eq
  eR := rfl

end Cert.Proof.KernelIdeal

end
-- ==== Proof.Stats.lean ====
/-
  The statistics of a block, from the block's rows of `x` in their slot to each group's mean and inverse deviation at each of
  its channels.
-/
module

public import proofs.«01_k».proof.Proof.StatSpec

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type}

/-! ## A group's channels -/

/-- Every group's channel number `j` loaded. -/
theorem load_member {m : Buf S160x128 .f32} {f : ℕ → ℕ → F .f32} (j : Fin 10) {Q : α → sProp 𝕄} {hl} {k : V16 F → K F α} :
    Has c m Finset.univ (cells f) ⊢ iprop((Has c m Finset.univ (cells f) -∗ Run c (k fun y => f (j.val + 10 * (y 0).val) (y 1).val) Q) -∗
      Run c (.op (.load m (rMember j) hl) k) Q) := by
  iintro H Hk
  iapply (has_load c (Finset.subset_univ _)) $$ H
  iintro H
  rw [show (fun y => cells f ((rMember j).idx y)) = (fun y : S16x128.Idx => f (j.val + 10 * (y 0).val) (y 1).val) from funext fun y => by
    show f (j.val + 10 * (y 0).val) (0 + 1 * (y 1).val) = _
    rw [Nat.one_mul, Nat.zero_add]]
  iapply Hk; iexact H

theorem groupGo_spec {m : Buf S160x128 .f32} {f : ℕ → ℕ → F .f32} {Q : α → sProp 𝕄} {k : V16 F → K F α} :
    ∀ (js : List (Fin 10)) (s : V16 F),
    Has c m Finset.univ (cells f) ⊢ iprop((Has c m Finset.univ (cells f) -∗
        Run c (k fun y => addUp (fun j => f (j + 10 * (y 0).val) (y 1).val) js (s y)) Q) -∗
      Run c (groupGo m js s k) Q)
  | [], s => by
    unfold groupGo
    iintro H Hk
    iapply Hk; iexact H
  | j :: js, s => by
    unfold groupGo
    iintro H Hk
    iapply (load_member c j) $$ H
    iintro H
    iapply (groupGo_spec js _) $$ H
    iexact Hk

theorem groupSum_spec {m : Buf S160x128 .f32} {f : ℕ → ℕ → F .f32} {Q : α → sProp 𝕄} {k : V16 F → K F α} :
    Has c m Finset.univ (cells f) ⊢ iprop((Has c m Finset.univ (cells f) -∗ Run c (k (grp f)) Q) -∗ Run c (groupSum m k) Q) := by
  unfold groupSum
  iintro H Hk
  iapply (load_member c 0) $$ H
  iintro H
  iapply (groupGo_spec c [1, 2, 3, 4, 5, 6, 7, 8, 9] _) $$ H
  iexact Hk

theorem mem_ten : ∀ j : Fin 10, j ∈ ([0, 1, 2, 3, 4, 5, 6, 7, 8, 9] : List (Fin 10)) := by decide
theorem mem_nine : ∀ j : Fin 10, j = 9 ∨ j ∈ ([0, 1, 2, 3, 4, 5, 6, 7, 8] : List (Fin 10)) := by decide

/-- A buffer that holds a group's value at those of its channels whose number is in `P`. -/
def Laid (c : Dev nD) (m : Buf S160x128 .f32) (w : V16 F) (P : ℕ → Prop) : sProp 𝕄 :=
  iprop(∃ V, Has c m Finset.univ V ∗ ⌜∀ i : S160x128.Idx, P ((i 0).val % 10) → V i = spreadOf w (i 0).val (i 1).val⌝)

theorem laid_put {m : Buf S160x128 .f32} {w : V16 F} {P : ℕ → Prop} (j : Fin 10) {Q : α → sProp 𝕄} {hl hx hm hc} {k : V16 F → K F α} :
    Laid c m w P ⊢ iprop((∀ v, Laid c m w (fun n => n = j.val ∨ P n) -∗ Run c (k v) Q) -∗
      Run c (.op (.load m (rMember j) hl) fun (v : V16 F) => .op (.store m (rMemberS j) (shapeCast S16x128 w hc) Finset.univ hx hm) fun _ => k v) Q) := by
  classical
  unfold Laid
  iintro ⟨%V, H, %hV⟩ Hk
  iapply (has_load c (Finset.subset_univ _)) $$ H
  iintro H
  iapply (has_store c (fun i : S160x128.Idx => if (i 0).val % 10 = j.val then spreadOf w (i 0).val (i 1).val else V i) (Finset.subset_univ _)
    (fun y => by
      have hy : (y 0).val < 16 := (y 0).isLt
      have hj := j.isLt
      have e0 : (((rMemberS j).emb y) 0).val = j.val + 10 * (y 0).val := rfl
      have e1 : (((rMemberS j).emb y) 1).val = (y 1).val := by
        show 0 + 1 * (y 1).val = _
        omega
      show (if _ then _ else _) = _
      rw [if_pos (by rw [e0]; omega), e0, e1, shapeCast_self]
      unfold spreadOf
      rw [show (j.val + 10 * (y 0).val) / 10 = (y 0).val by omega]
      exact congrArg w (ix16_eq y))
    (fun x _ hx => by
      show (if _ then _ else _) = _
      rw [if_neg]
      intro h
      refine hx ((rMember j).mem_set.mpr (Fin.forall_fin_two.2 ⟨⟨(x 0).val / 10, ?_, ?_⟩, ⟨(x 1).val, (x 1).isLt, ?_⟩⟩))
      · have e : (x 0).val < 160 := (x 0).isLt
        show (x 0).val / 10 < 16
        omega
      · show (x 0).val = j.val + 10 * ((x 0).val / 10)
        omega
      · show (x 1).val = 0 + 1 * (x 1).val
        omega)) $$ H
  iintro H
  iapply Hk
  iexists _
  isplitl [H]; · iexact H
  ipureintro
  intro i hi
  show (if _ then _ else _) = _
  split
  · rfl
  · rename_i h
    exact hV i (hi.resolve_left h)

theorem spreadGo_spec {m : Buf S160x128 .f32} {w : V16 F} {Q : α → sProp 𝕄} {k : K F α} :
    ∀ (js : List (Fin 10)) (P : ℕ → Prop),
    Laid c m w P ⊢ iprop((Laid c m w (fun n => (∃ j ∈ js, n = j.val) ∨ P n) -∗ Run c k Q) -∗ Run c (spreadGo m w js k) Q)
  | [], P => by
    unfold spreadGo
    iintro H Hk
    iapply Hk
    rw [show (fun n => (∃ j ∈ ([] : List (Fin 10)), n = j.val) ∨ P n) = P from funext fun n => by simp]
    iexact H
  | j :: js, P => by
    unfold spreadGo
    iintro H Hk
    iapply (laid_put c j) $$ H
    iintro %v H
    iapply (spreadGo_spec js _) $$ H
    rw [show (fun n => (∃ j' ∈ js, n = j'.val) ∨ n = j.val ∨ P n) = (fun n => (∃ j' ∈ j :: js, n = j'.val) ∨ P n) from funext fun n => by
      simp only [List.mem_cons, eq_iff_iff, exists_eq_or_imp]
      constructor
      · rintro (h | h | h)
        exacts [.inl (.inr h), .inl (.inl h), .inr h]
      · rintro ((h | h) | h)
        exacts [.inr (.inl h), .inl h, .inr (.inr h)]]
    iexact Hk

theorem laid_of_any {m : Buf S160x128 .f32} {w : V16 F} : Any c m Finset.univ ⊢ Laid c m w fun _ => False := by
  unfold Any Laid
  iintro ⟨%V, H⟩
  iexists V
  isplitl [H]; · iexact H
  ipureintro; intro i h; exact h.elim

theorem has_of_laid {m : Buf S160x128 .f32} {w : V16 F} {P : ℕ → Prop} (hP : ∀ n, n < 10 → P n) :
    Laid c m w P ⊢ Has c m Finset.univ (cells (spreadOf w)) := by
  unfold Laid
  iintro ⟨%V, H, %hV⟩
  iapply (has_congr c (fun i _ => hV i (hP _ (Nat.mod_lt _ (by decide))))) $$ H

theorem put16_spec {m : Buf S16x128 .f32} {w : V16 F} {Q : α → sProp 𝕄} {k : K F α} :
    Any c m Finset.univ ⊢ iprop((Has c m Finset.univ w -∗ Run c k Q) -∗ Run c (put16 m w k) Q) := by
  unfold put16 Any
  iintro ⟨%V, H⟩ Hk
  iapply (has_load c (Finset.subset_univ _)) $$ H
  iintro H
  iapply (has_store c w (Finset.subset_univ _) (fun y => by
    rw [shapeCast_self]
    refine congrArg w (Shape.idx_ext₂ (n := S16x128.size) ?_ ?_)
    · show 0 + 1 * (y 0).val = _
      omega
    · show 0 + 1 * (y 1).val = _
      omega) (fun x _ hx => (hx (Rect.mem_set_unit.mpr (Fin.forall_fin_two.2 ⟨⟨Nat.zero_le _, by
        have e : (x 0).val < 16 := (x 0).isLt
        show (x 0).val < 0 + 16
        omega⟩, ⟨Nat.zero_le _, by
        have e : (x 1).val < 128 := (x 1).isLt
        show (x 1).val < 0 + 128
        omega⟩⟩))).elim)) $$ H
  iexact Hk

theorem load16 {m : Buf S16x128 .f32} {w : V16 F} {Q : α → sProp 𝕄} {hl} {k : V16 F → K F α} :
    Has c m Finset.univ w ⊢ iprop((Has c m Finset.univ w -∗ Run c (k w) Q) -∗ Run c (.op (.load m rAll16.toLoadRect hl) k) Q) := by
  iintro H Hk
  iapply (has_load c (Finset.subset_univ _)) $$ H
  iintro H
  rw [show (fun y => w (rAll16.toLoadRect.idx y)) = w from funext fun y => congrArg w (Shape.idx_ext₂ (n := S16x128.size)
    (by show 0 + 1 * (y 0).val = _; omega) (by show 0 + 1 * (y 1).val = _; omega))]
  iapply Hk; iexact H

/-! ## The mean square deviation -/

section
variable {B : Blk} {sl ha b : ℕ} (G : B.Good sl ha b)
include G

theorem devCols_spec {M10 : Buf S2x160x16384 .bf16} {V10 : S2x160x16384.Idx → F .bf16} {xb : ℕ → ℕ → F .bf16}
    (hV : ∀ i ∈ slotS sl, V10 i = xb (i 1).val (i 2).val) (g : ℕ → ℕ → F .f32) (t3 : Fin B.L3.trips) (t4 : Fin B.L4.trips) {Q : α → sProp 𝕄} :
    ∀ (rs : List (Fin 4)) (f : ℕ → ℕ → F .f32) (k : V16 F → K F α),
    Has c M10 (slotS sl) V10 ⊢ iprop((Has c M10 (slotS sl) V10 -∗ Run c (k
        (fun y => addUp (fun r => FloatOps.mulf (FloatOps.subf (xf xb (16 * t3.val + (y 0).val) (512 * t4.val + 128 * r + (y 1).val)) (g (y 0).val (y 1).val))
          (FloatOps.subf (xf xb (16 * t3.val + (y 0).val) (512 * t4.val + 128 * r + (y 1).val)) (g (y 0).val (y 1).val))) rs (f (y 0).val (y 1).val))) Q) -∗
      Run c (devCols B M10 (cells g) t3 t4 rs (cells f) k) Q)
  | [], f, k => by
    unfold devCols
    iintro H Hk
    iapply Hk; iexact H
  | r :: rs, f, k => by
    unfold devCols
    iintro H Hk
    iapply (load_col16 c (G.e4 t3 t4 r) hV) $$ H
    iintro %v %hv H
    rw [hv]
    iapply (devCols_spec hV g t3 t4 rs
      (fun y0 y1 => FloatOps.addf (f y0 y1) (FloatOps.mulf (FloatOps.subf (xf xb (16 * t3.val + y0) (512 * t4.val + 128 * r.val + y1)) (g y0 y1))
          (FloatOps.subf (xf xb (16 * t3.val + y0) (512 * t4.val + 128 * r.val + y1)) (g y0 y1)))) k) $$ H
    iexact Hk

/-- The square deviation of an element from its group's mean. -/
def sqDev (xb : ℕ → ℕ → F .bf16) (mu : ℕ → ℕ → F .f32) (row lane col : ℕ) : F .f32 :=
  FloatOps.mulf (FloatOps.subf (xf xb row col) (mu row lane)) (FloatOps.subf (xf xb row col) (mu row lane))

theorem devOuter_spec {M10 : Buf S2x160x16384 .bf16} {M16 M17 : Buf S160x128 .f32} {V10 : S2x160x16384.Idx → F .bf16} {xb : ℕ → ℕ → F .bf16}
    (hV : ∀ i ∈ slotS sl, V10 i = xb (i 1).val (i 2).val) (mu : ℕ → ℕ → F .f32) (t3 : Fin B.L3.trips) :
    iprop(Has c M10 (slotS sl) V10 ∗ Has c M17 Finset.univ (cells mu) ∗
      Upto c M16 (fun row lane => sum32 (sqDev xb mu row lane) lane 32) (16 * t3.val)) ⊢
    Run c (devOuter B M10 M16 M17 t3) (fun _ => iprop(Has c M10 (slotS sl) V10 ∗ Has c M17 Finset.univ (cells mu) ∗
      Upto c M16 (fun row lane => sum32 (sqDev xb mu row lane) lane 32) (16 * (t3.val + 1)))) := by
  unfold devOuter
  iintro ⟨H10, H17, H16⟩
  iapply (has_load c (Finset.subset_univ _)) $$ H17
  iintro H17
  rw [show (fun y => cells mu ((B.r3 t3).toLoadRect.idx y)) = (cells (fun y0 y1 => mu (16 * t3.val + y0) y1) : S16x128.Idx → F .f32) from funext fun y => by
    show mu (B.off3 t3 0 + 1 * (y 0).val) (B.off3 t3 1 + 1 * (y 1).val) = mu (16 * t3.val + (y 0).val) (y 1).val
    rw [G.e3 t3]
    show mu (16 * t3.val + 1 * (y 0).val) (0 + 1 * (y 1).val) = _
    rw [Nat.one_mul, Nat.one_mul, Nat.zero_add]]
  iapply (has_for c (fun n p => iprop(Has c M10 (slotS sl) V10 ∗ ⌜p = fun y => sum32 (sqDev xb mu (16 * t3.val + (y 0).val) (y 1).val) (y 1).val n⌝)) (fun t4 acc => by
    iintro ⟨H, %hp⟩
    subst hp
    iapply (devCols_spec c G hV (fun y0 y1 => mu (16 * t3.val + y0) y1) t3 t4 [0, 1, 2, 3]
      (fun y0 y1 => sum32 (sqDev xb mu (16 * t3.val + y0) y1) y1 t4.val) _) $$ H
    iintro H
    iapply (le_wp_ret _ _)
    isplitl [H]; · iexact H
    ipureintro
    exact funext fun y => (sum32_succ (sqDev xb mu (16 * t3.val + (y 0).val) (y 1).val) _ _).symm)) $$ [H10]
  · isplitl [H10]; · iexact H10
    ipureintro; rfl
  iintro %p ⟨H10, %hp⟩
  rw [G.n4] at hp
  iapply (upto_put c (h := 16) (G.e3 t3) (fun y => by rw [hp])) $$ H16
  iintro H16
  iapply (le_wp_ret _ _)
  isplitl [H10]; · iexact H10
  isplitl [H17]; · iexact H17
  iexact H16

/-! ## The phase -/

theorem stats_spec {M5 : Buf S16x128 .bf16} {M10 : Buf S2x160x16384 .bf16} {M15 M16 M17 M18 : Buf S160x128 .f32} {M19 : Buf S16x128 .f32}
    {u5 : F .bf16} {V10 : S2x160x16384.Idx → F .bf16} {xb : ℕ → ℕ → F .bf16}
    (hV : ∀ i ∈ slotS sl, V10 i = xb (i 1).val (i 2).val) {Q : α → sProp 𝕄} {k : V16 F → V16 F → K F α} :
    iprop(Has c M5 Finset.univ (fun _ => u5) ∗ Has c M10 (slotS sl) V10 ∗ Any c M15 Finset.univ ∗ Any c M16 Finset.univ ∗ Any c M17 Finset.univ ∗
      Any c M18 Finset.univ ∗ Any c M19 Finset.univ) ⊢
    iprop((∀ v w, iprop(Has c M5 Finset.univ (fun _ => u5) ∗ Has c M10 (slotS sl) V10 ∗ Any c M15 Finset.univ ∗ Any c M16 Finset.univ ∗
        Has c M17 Finset.univ (cells (muV (FloatOps.extf .f32 bitsLt_bf16_f32 u5) xb)) ∗
        Has c M18 Finset.univ (cells (rsV (FloatOps.extf .f32 bitsLt_bf16_f32 u5) xb)) ∗ Any c M19 Finset.univ) -∗ Run c (k v w) Q) -∗
      Run c (stats B M5 M10 M15 M16 M17 M18 M19 k) Q) := by
  unfold stats
  iintro ⟨H5, H10, H15, H16, H17, H18, H19⟩ Hk
  iapply (has_load c (Finset.subset_univ _)) $$ H5
  iintro H5
  ihave H15 := (upto_of_any c) $$ H15
  ihave H16 := (upto_of_any c) $$ H16
  iapply (has_for c (fun n _ => iprop(Has c M10 (slotS sl) V10 ∗
    Upto c M15 (fun row lane => sum8 (fun col => FloatOps.mulf (xf xb row col) (FloatOps.extf .f32 bitsLt_bf16_f32 u5)) lane 8) (16 * n) ∗
    Upto c M16 (fun row lane => sum8 (fun col => FloatOps.mulf (xf xb row col) (xf xb row col)) lane 8) (16 * n)))
    (fun t1 _ => statOuter_spec c G hV (FloatOps.extf .f32 bitsLt_bf16_f32 u5) t1)) $$ [H10 H15 H16]
  · isplitl [H10]; · iexact H10
    isplitl [H15]; · iexact H15
    iexact H16
  rw [G.n1]
  iintro %_ ⟨H10, H15, H16⟩
  ihave H15 := (has_of_upto c) $$ H15
  ihave H16 := (has_of_upto c) $$ H16
  iapply (groupSum_spec c) $$ H15
  iintro H15
  iapply (groupSum_spec c) $$ H16
  iintro H16
  ihave H17 := (laid_of_any c (w := meanV (FloatOps.extf .f32 bitsLt_bf16_f32 u5) xb)) $$ H17
  iapply (spreadGo_spec c [0, 1, 2, 3, 4, 5, 6, 7, 8, 9] _) $$ H17
  iintro H17
  ihave H17 := (has_of_laid c (fun n hn => .inl ⟨⟨n, hn⟩, mem_ten _, rfl⟩)) $$ H17
  iapply (put16_spec c) $$ H19
  iintro H19
  ihave H15 := (any_of_has c) $$ H15
  -- the phase's end, at whichever variance
  have rest : ∀ w : V16 F, iprop(Has c M19 Finset.univ w ∗ Any c M18 Finset.univ) ⊢
      iprop((∀ v w', Has c M19 Finset.univ w -∗ Has c M18 Finset.univ (cells (spreadOf (rstdOf w))) -∗ Run c (k v w') Q) -∗
        Run c (.op (.load M19 rAll16.toLoadRect (View.loadsAt_vmem h_S16x128)) fun (v : V16 F) => spread M18 (rstdOf v) fun w' => k v w') Q) := by
    intro w
    iintro ⟨H19, H18⟩ Hk
    iapply (load16 c) $$ H19
    iintro H19
    unfold spread
    ihave H18 := (laid_of_any c (w := rstdOf w)) $$ H18
    iapply (spreadGo_spec c [0, 1, 2, 3, 4, 5, 6, 7, 8] _) $$ H18
    iintro H18
    iapply (laid_put c 9) $$ H18
    iintro %v H18
    ihave H18 := (has_of_laid c (P := fun n => n = (9 : Fin 10).val ∨ (∃ j ∈ ([0, 1, 2, 3, 4, 5, 6, 7, 8] : List (Fin 10)), n = j.val) ∨ False) (fun n hn =>
      (mem_nine ⟨n, hn⟩).imp (fun h => congrArg Fin.val h) fun h => .inl ⟨⟨n, hn⟩, h, rfl⟩)) $$ H18
    iapply Hk $$ H19 H18
  by_cases h : skewed (meanOf (grp fun row lane => sum8 (fun col => FloatOps.mulf (xf xb row col) (FloatOps.extf .f32 bitsLt_bf16_f32 u5)) lane 8))
      (quickVar (meanOf (grp fun row lane => sum8 (fun col => FloatOps.mulf (xf xb row col) (FloatOps.extf .f32 bitsLt_bf16_f32 u5)) lane 8))
        (meanOf (grp fun row lane => sum8 (fun col => FloatOps.mulf (xf xb row col) (xf xb row col)) lane 8))) = 1#1
  · have hv : varV (FloatOps.extf .f32 bitsLt_bf16_f32 u5) xb = devV (FloatOps.extf .f32 bitsLt_bf16_f32 u5) xb := if_pos h
    iapply (show Run c _ Q ⊢ Run c _ Q by rw [if_pos h])
    ihave H16 := (any_of_has c) $$ H16
    ihave H16 := (upto_of_any c) $$ H16
    iapply (has_for c (fun n _ => iprop(Has c M10 (slotS sl) V10 ∗ Has c M17 Finset.univ (cells (muV (FloatOps.extf .f32 bitsLt_bf16_f32 u5) xb)) ∗
      Upto c M16 (fun row lane => sum32 (sqDev xb (muV (FloatOps.extf .f32 bitsLt_bf16_f32 u5) xb) row lane) lane 32) (16 * n)))
      (fun t3 _ => devOuter_spec c G hV _ t3)) $$ [H10 H16 H17]
    · isplitl [H10]; · iexact H10
      isplitl [H17]; · iexact H17
      iexact H16
    rw [G.n3]
    iintro %_ ⟨H10, H17, H16⟩
    ihave H16 := (has_of_upto c) $$ H16
    iapply (groupSum_spec c) $$ H16
    iintro H16
    ihave H19 := (any_of_has c) $$ H19
    iapply (put16_spec c) $$ H19
    iintro H19
    iapply (rest _) $$ [H19 H18]
    · isplitl [H19]; · iexact H19
      iexact H18
    iintro %v %w H19 H18
    iapply Hk
    isplitl [H5]; · iexact H5
    isplitl [H10]; · iexact H10
    isplitl [H15]; · iexact H15
    isplitl [H16]; · iapply (any_of_has c) $$ H16
    isplitl [H17]; · iexact H17
    isplitl [H18]
    · unfold rsV
      rw [hv]
      iexact H18
    iapply (any_of_has c) $$ H19
  · have hv : varV (FloatOps.extf .f32 bitsLt_bf16_f32 u5) xb = quickVar (meanV (FloatOps.extf .f32 bitsLt_bf16_f32 u5) xb) (sqV xb) := if_neg h
    iapply (show Run c _ Q ⊢ Run c _ Q by rw [if_neg h])
    iapply (rest _) $$ [H19 H18]
    · isplitl [H19]; · iexact H19
      iexact H18
    iintro %v %w H19 H18
    iapply Hk
    isplitl [H5]; · iexact H5
    isplitl [H10]; · iexact H10
    isplitl [H15]; · iexact H15
    isplitl [H16]; · iapply (any_of_has c) $$ H16
    isplitl [H17]; · iexact H17
    isplitl [H18]
    · unfold rsV
      rw [hv]
      iexact H18
    iapply (any_of_has c) $$ H19

end

end Cert.Proof.KernelIdeal

end
-- ==== Proof.Grads.lean ====
/-
  The gradient's sums of a block, from the block's rows of `x` and `dy` in their slot and its groups' statistics to the
  block's share of the two result rows.
-/
module

public import proofs.«01_k».proof.Proof.Stats

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type}

/-! ## Reads -/

theorem load_col32 {off : Fin 3 → ℕ} {inb : ∀ a, off a + S1x32x128.size a ≤ S2x160x16384.size a} {sl R C : ℕ} (ho : off = ![sl, R, C])
    {M : Buf S2x160x16384 .bf16} {V : S2x160x16384.Idx → F .bf16} {xb : ℕ → ℕ → F .bf16} (hV : ∀ i ∈ slotS sl, V i = xb (i 1).val (i 2).val)
    {Q : α → sProp 𝕄} {hl} {k : Vec F S1x32x128 .bf16 → K F α} :
    Has c M (slotS sl) V ⊢ iprop((∀ v : Vec F S1x32x128 .bf16, ⌜col32 v = fun y => xf xb (R + (y 0).val) (C + (y 1).val)⌝ -∗ Has c M (slotS sl) V -∗ Run c (k v) Q) -∗
      Run c (.op (.load M (Rect.unit (s := S2x160x16384) off S1x32x128.size inb).toLoadRect hl) k) Q) := by
  iintro H Hk
  iapply (has_load c (sub_slot ho rfl)) $$ H
  iintro H
  iapply Hk
  · ipureintro
    subst ho
    funext y
    show FloatOps.extf .f32 _ (shapeCast S32x128 _ _ y) = _
    erw [shapeCast_dropUnit_apply S32x128.size]
    unfold xf
    rw [hV _ (mem_slotS.mpr (show sl + 1 * 0 = sl by omega))]
    show FloatOps.extf .f32 _ (xb (R + 1 * (y 0).val) (C + 1 * (y 1).val)) = _
    rw [Nat.one_mul, Nat.one_mul]
  · iexact H

theorem load_colDy {off : Fin 3 → ℕ} {inb : ∀ a, off a + S1x32x128.size a ≤ S2x160x16384.size a} {sl R C : ℕ} (ho : off = ![sl, R, C])
    {M : Buf S2x160x16384 .fp8e5m2} {V : S2x160x16384.Idx → F .fp8e5m2} {db : ℕ → ℕ → F .fp8e5m2} (hV : ∀ i ∈ slotS sl, V i = db (i 1).val (i 2).val)
    {Q : α → sProp 𝕄} {hl} {k : Vec F S1x32x128 .fp8e5m2 → K F α} :
    Has c M (slotS sl) V ⊢ iprop((∀ v : Vec F S1x32x128 .fp8e5m2, ⌜colDy v = fun y => df db (R + (y 0).val) (C + (y 1).val)⌝ -∗ Has c M (slotS sl) V -∗ Run c (k v) Q) -∗
      Run c (.op (.load M (Rect.unit (s := S2x160x16384) off S1x32x128.size inb).toLoadRect hl) k) Q) := by
  iintro H Hk
  iapply (has_load c (sub_slot ho rfl)) $$ H
  iintro H
  iapply Hk
  · ipureintro
    subst ho
    funext y
    show FloatOps.extf .f32 _ (shapeCast S32x128 _ _ y) = _
    erw [shapeCast_dropUnit_apply S32x128.size]
    unfold df
    rw [hV _ (mem_slotS.mpr (show sl + 1 * 0 = sl by omega))]
    show FloatOps.extf .f32 _ (db (R + 1 * (y 0).val) (C + 1 * (y 1).val)) = _
    rw [Nat.one_mul, Nat.one_mul]
  · iexact H

theorem load160 {m : Buf S160x128 .f32} {w : S160x128.Idx → F .f32} {Q : α → sProp 𝕄} {hl} {k : V160 F → K F α} :
    Has c m Finset.univ w ⊢ iprop((Has c m Finset.univ w -∗ Run c (k w) Q) -∗ Run c (.op (.load m rAll.toLoadRect hl) k) Q) := by
  iintro H Hk
  iapply (has_load c (Finset.subset_univ _)) $$ H
  iintro H
  rw [show (fun y => w (rAll.toLoadRect.idx y)) = w from funext fun y => congrArg w (Shape.idx_ext₂ (n := S160x128.size)
    (by show 0 + 1 * (y 0).val = _; omega) (by show 0 + 1 * (y 1).val = _; omega))]
  iapply Hk; iexact H

theorem put160_spec {m : Buf S160x128 .f32} {w : V160 F} {Q : α → sProp 𝕄} {k : K F α} :
    Any c m Finset.univ ⊢ iprop((Has c m Finset.univ w -∗ Run c k Q) -∗ Run c (put160 m w k) Q) := by
  unfold put160 Any
  iintro ⟨%V, H⟩ Hk
  iapply (has_load c (Finset.subset_univ _)) $$ H
  iintro H
  iapply (has_store c w (Finset.subset_univ _) (fun y => by
    rw [shapeCast_self]
    refine congrArg w (Shape.idx_ext₂ (n := S160x128.size) ?_ ?_)
    · show 0 + 1 * (y 0).val = _
      omega
    · show 0 + 1 * (y 1).val = _
      omega) (fun x _ hx => (hx (Rect.mem_set_unit.mpr (Fin.forall_fin_two.2 ⟨⟨Nat.zero_le _, by
        have e : (x 0).val < 160 := (x 0).isLt
        show (x 0).val < 0 + 160
        omega⟩, ⟨Nat.zero_le _, by
        have e : (x 1).val < 128 := (x 1).isLt
        show (x 1).val < 0 + 128
        omega⟩⟩))).elim)) $$ H
  iexact Hk

/-! ## The result rows -/

/-- The rows of one half of the channels. -/
def halfS (ha : ℕ) : Finset S320x128.Idx := Finset.univ.filter fun i => 160 * ha ≤ (i 0).val ∧ (i 0).val < 160 * ha + 160

theorem mem_halfS {ha : ℕ} {i : S320x128.Idx} : i ∈ halfS ha ↔ 160 * ha ≤ (i 0).val ∧ (i 0).val < 160 * ha + 160 := by simp [halfS]

/-- The index of a block's row and a lane. -/
def ix160 (r l : ℕ) : S160x128.Idx := fun a => ⟨(![r % 160, l % 128] : Fin 2 → ℕ) a, by
  revert a; exact Fin.forall_fin_two.2 ⟨Nat.mod_lt _ (by decide), Nat.mod_lt _ (by decide)⟩⟩

theorem ix160_eq (y : S160x128.Idx) : ix160 (y 0).val (y 1).val = y :=
  Shape.idx_ext₂ (n := S160x128.size) (Nat.mod_eq_of_lt (y 0).isLt) (Nat.mod_eq_of_lt (y 1).isLt)

/-- A block's values laid on the rows of its half. -/
def halfV (ha : ℕ) (w : V160 F) : S320x128.Idx → F .f32 := fun i => w (ix160 ((i 0).val - 160 * ha) (i 1).val)

/-- The rows of a half before a block's share is put to them: anything, or another block's share. -/
def Rows (c : Dev nD) (m : Buf S320x128 .f32) (ha : ℕ) (second : Bool) (old : V160 F) : sProp 𝕄 :=
  match second with
  | false => Any c m (halfS ha)
  | true => Has c m (halfS ha) (halfV ha old)

/-- The rows after it. -/
def plus (second : Bool) (old w : V160 F) : V160 F :=
  match second with
  | false => w
  | true => addf old w

section
variable {B : Blk} {sl ha b : ℕ} (G : B.Good sl ha b)
include G

theorem rR_emb (y : S160x128.Idx) : (B.rR.emb y 0).val = 160 * ha + (y 0).val ∧ (B.rR.emb y 1).val = (y 1).val := by
  constructor
  · show B.rows 0 + 1 * (y 0).val = _
    rw [G.eR]
    show 160 * ha + 1 * _ = _
    omega
  · show B.rows 1 + 1 * (y 1).val = _
    rw [G.eR]
    show 0 + 1 * _ = _
    omega

theorem rR_set {i : S320x128.Idx} : i ∈ B.rR.set ↔ i ∈ halfS ha := by
  rw [mem_halfS]
  have e : (i 1).val < 128 := (i 1).isLt
  constructor
  · intro h
    have := (Rect.mem_set_unit.mp h) 0
    rw [G.eR] at this
    exact this
  · intro h
    refine Rect.mem_set_unit.mpr ?_
    rw [G.eR]
    exact Fin.forall_fin_two.2 ⟨h, ⟨Nat.zero_le _, by show (i 1).val < 0 + 128; omega⟩⟩

theorem load_rows {m : Buf S320x128 .f32} {f : ℕ → ℕ → F .f32} {Q : α → sProp 𝕄} {hl} {k : V160 F → K F α} :
    Has c m Finset.univ (cells f) ⊢ iprop((Has c m Finset.univ (cells f) -∗ Run c (k (cells fun row lane => f (160 * ha + row) lane)) Q) -∗
      Run c (.op (.load m B.rR.toLoadRect hl) k) Q) := by
  iintro H Hk
  iapply (has_load c (Finset.subset_univ _)) $$ H
  iintro H
  rw [show (fun y => cells f (B.rR.toLoadRect.idx y)) = (cells (fun row lane => f (160 * ha + row) lane) : S160x128.Idx → F .f32) from funext fun y => by
    obtain ⟨e0, e1⟩ := rR_emb G y
    exact congrArg₂ f e0 e1]
  iapply Hk; iexact H

theorem put_rows {m : Buf S320x128 .f32} {V : S320x128.Idx → F .f32} {w : V160 F} {Q : α → sProp 𝕄} {hx hm hc} {k : K F α} :
    Has c m (halfS ha) V ⊢ iprop((Has c m (halfS ha) (halfV ha w) -∗ Run c k Q) -∗
      Run c (.op (.store m B.rR (shapeCast S160x128 w hc) Finset.univ hx hm) fun _ => k) Q) := by
  iintro H Hk
  iapply (has_store c (halfV ha w) (fun i hi => (rR_set G).mp hi) (fun y => by
    rw [shapeCast_self]
    obtain ⟨e0, e1⟩ := rR_emb G y
    show w (ix160 _ _) = _
    rw [e0, e1, Nat.add_sub_cancel_left]
    exact congrArg w (ix160_eq y)) (fun x hx' hx => (hx ((rR_set G).mpr hx')).elim)) $$ H
  iexact Hk

theorem putRows_spec {m : Buf S320x128 .f32} {second : Bool} {old w : V160 F} {Q : α → sProp 𝕄} {k : K F α} :
    Rows c m ha second old ⊢ iprop((Has c m (halfS ha) (halfV ha (plus second old w)) -∗ Run c k Q) -∗ Run c (putRows B second m w k) Q) := by
  cases second with
  | false =>
    unfold Rows putRows plus Any
    iintro ⟨%V, H⟩ Hk
    iapply (has_load c (fun i hi => (rR_set G).mp hi)) $$ H
    iintro H
    iapply (put_rows c G) $$ H
    iexact Hk
  | true =>
    unfold Rows putRows plus
    iintro H Hk
    iapply (has_load c (fun i hi => (rR_set G).mp hi)) $$ H
    iintro H
    rw [show (fun y => halfV ha old (B.rR.toLoadRect.idx y)) = old from funext fun y => by
      obtain ⟨e0, e1⟩ := rR_emb G y
      show old (ix160 ((B.rR.emb y 0).val - 160 * ha) (B.rR.emb y 1).val) = _
      rw [e0, e1, Nat.add_sub_cancel_left]
      exact congrArg old (ix160_eq y)]
    iapply (has_load c (fun i hi => (rR_set G).mp hi)) $$ H
    iintro H
    iapply (put_rows c G) $$ H
    iexact Hk

/-! ## The sums -/

theorem gradCols_spec {M10 : Buf S2x160x16384 .bf16} {M11 : Buf S2x160x16384 .fp8e5m2} {M12 : Buf S4x160x16384 .f32}
    {V10 : S2x160x16384.Idx → F .bf16} {xb : ℕ → ℕ → F .bf16} (hV : ∀ i ∈ slotS sl, V10 i = xb (i 1).val (i 2).val)
    {V11 : S2x160x16384.Idx → F .fp8e5m2} {db : ℕ → ℕ → F .fp8e5m2} (hD : ∀ i ∈ slotS sl, V11 i = db (i 1).val (i 2).val)
    (A Bb : ℕ → ℕ → F .f32) (t5 : Fin B.L5.trips) (t6 : Fin B.L6.trips) {Q : α → sProp 𝕄} :
    ∀ (rs : List (Fin 8)) (f g : ℕ → ℕ → F .f32) (k : V32 F → V32 F → K F α),
    iprop(Has c M10 (slotS sl) V10 ∗ Has c M11 (slotS sl) V11 ∗ Any c M12 Finset.univ) ⊢
    iprop((iprop(Has c M10 (slotS sl) V10 ∗ Has c M11 (slotS sl) V11 ∗ Any c M12 Finset.univ) -∗ Run c (k
        (fun y => addUp (fun r => dhV A Bb xb db (32 * t5.val + (y 0).val) (y 1).val (1024 * t6.val + 128 * r + (y 1).val)) rs (f (y 0).val (y 1).val))
        (fun y => addUp (fun r => FloatOps.mulf (dhV A Bb xb db (32 * t5.val + (y 0).val) (y 1).val (1024 * t6.val + 128 * r + (y 1).val))
          (xf xb (32 * t5.val + (y 0).val) (1024 * t6.val + 128 * r + (y 1).val))) rs (g (y 0).val (y 1).val))) Q) -∗
      Run c (gradCols B M10 M11 M12 (cells fun y0 y1 => A (32 * t5.val + y0) y1) (cells fun y0 y1 => Bb (32 * t5.val + y0) y1) t5 t6 rs (cells f) (cells g) k) Q)
  | [], f, g, k => by
    unfold gradCols
    iintro H Hk
    iapply Hk; iexact H
  | r :: rs, f, g, k => by
    unfold gradCols
    iintro ⟨H10, H11, H12⟩ Hk
    iapply (load_col32 c (G.e6 t5 t6 r) hV) $$ H10
    iintro %v %hv H10
    iapply (load_colDy c (G.e6 t5 t6 r) hD) $$ H11
    iintro %d %hd H11
    rw [hv, hd]
    iapply (any_load c (Finset.subset_univ _)) $$ H12
    iintro %_ H12
    iapply (any_store c (Finset.subset_univ _)) $$ H12
    iintro H12
    iapply (gradCols_spec hV hD A Bb t5 t6 rs
      (fun y0 y1 => FloatOps.addf (f y0 y1) (dhV A Bb xb db (32 * t5.val + y0) y1 (1024 * t6.val + 128 * r.val + y1)))
      (fun y0 y1 => FloatOps.addf (g y0 y1) (FloatOps.mulf (dhV A Bb xb db (32 * t5.val + y0) y1 (1024 * t6.val + 128 * r.val + y1))
          (xf xb (32 * t5.val + y0) (1024 * t6.val + 128 * r.val + y1)))) k) $$ [H10 H11 H12]
    · isplitl [H10]; · iexact H10
      isplitl [H11]; · iexact H11
      iexact H12
    iexact Hk

/-- The two running sums of 32 rows after `n` steps. -/
def gradAcc (A Bb : ℕ → ℕ → F .f32) (xb : ℕ → ℕ → F .bf16) (db : ℕ → ℕ → F .fp8e5m2) (t5 n : ℕ) : V32 F × V32 F :=
  (fun y => sum16 (fun col => dhV A Bb xb db (32 * t5 + (y 0).val) (y 1).val col) (y 1).val n,
   fun y => sum16 (fun col => FloatOps.mulf (dhV A Bb xb db (32 * t5 + (y 0).val) (y 1).val col) (xf xb (32 * t5 + (y 0).val) col)) (y 1).val n)

theorem gradInner_spec {M10 : Buf S2x160x16384 .bf16} {M11 : Buf S2x160x16384 .fp8e5m2} {M12 : Buf S4x160x16384 .f32}
    {V10 : S2x160x16384.Idx → F .bf16} {xb : ℕ → ℕ → F .bf16} (hV : ∀ i ∈ slotS sl, V10 i = xb (i 1).val (i 2).val)
    {V11 : S2x160x16384.Idx → F .fp8e5m2} {db : ℕ → ℕ → F .fp8e5m2} (hD : ∀ i ∈ slotS sl, V11 i = db (i 1).val (i 2).val)
    (A Bb : ℕ → ℕ → F .f32) (t5 : Fin B.L5.trips) (t6 : Fin B.L6.trips) :
    iprop(Has c M10 (slotS sl) V10 ∗ Has c M11 (slotS sl) V11 ∗ Any c M12 Finset.univ) ⊢
    Run c (gradCols B M10 M11 M12 (cells fun y0 y1 => A (32 * t5.val + y0) y1) (cells fun y0 y1 => Bb (32 * t5.val + y0) y1) t5 t6 [0, 1, 2, 3, 4, 5, 6, 7]
        (gradAcc A Bb xb db t5.val t6.val).1 (gradAcc A Bb xb db t5.val t6.val).2 fun s q => .ret (s, q))
      (fun p => iprop((Has c M10 (slotS sl) V10 ∗ Has c M11 (slotS sl) V11 ∗ Any c M12 Finset.univ) ∗ ⌜p = gradAcc A Bb xb db t5.val (t6.val + 1)⌝)) := by
  iintro H
  iapply (gradCols_spec c G hV hD A Bb t5 t6 [0, 1, 2, 3, 4, 5, 6, 7]
    (fun y0 y1 => sum16 (fun col => dhV A Bb xb db (32 * t5.val + y0) y1 col) y1 t6.val)
    (fun y0 y1 => sum16 (fun col => FloatOps.mulf (dhV A Bb xb db (32 * t5.val + y0) y1 col) (xf xb (32 * t5.val + y0) col)) y1 t6.val) _) $$ H
  iintro H
  iapply (le_wp_ret _ _)
  isplitl [H]; · iexact H
  ipureintro
  unfold gradAcc
  refine Prod.ext (funext fun y => ?_) (funext fun y => ?_)
  · exact (sum16_succ (fun col => dhV A Bb xb db (32 * t5.val + (y 0).val) (y 1).val col) _ _).symm
  · exact (sum16_succ (fun col => FloatOps.mulf (dhV A Bb xb db (32 * t5.val + (y 0).val) (y 1).val col) (xf xb (32 * t5.val + (y 0).val) col)) _ _).symm

theorem load32 {m : Buf S160x128 .f32} {f : ℕ → ℕ → F .f32} (t5 : Fin B.L5.trips) {Q : α → sProp 𝕄} {hl} {k : V32 F → K F α} :
    Has c m Finset.univ (cells f) ⊢ iprop((Has c m Finset.univ (cells f) -∗ Run c (k (cells fun y0 y1 => f (32 * t5.val + y0) y1)) Q) -∗
      Run c (.op (.load m (B.r5 t5).toLoadRect hl) k) Q) := by
  iintro H Hk
  iapply (has_load c (Finset.subset_univ _)) $$ H
  iintro H
  rw [show (fun y => cells f ((B.r5 t5).toLoadRect.idx y)) = (cells (fun y0 y1 => f (32 * t5.val + y0) y1) : S32x128.Idx → F .f32) from funext fun y => by
    show f (B.off5 t5 0 + 1 * (y 0).val) (B.off5 t5 1 + 1 * (y 1).val) = f (32 * t5.val + (y 0).val) (y 1).val
    rw [G.e5 t5]
    show f (32 * t5.val + 1 * (y 0).val) (0 + 1 * (y 1).val) = _
    rw [Nat.one_mul, Nat.one_mul, Nat.zero_add]]
  iapply Hk; iexact H

theorem gradOuter_spec {M10 : Buf S2x160x16384 .bf16} {M11 : Buf S2x160x16384 .fp8e5m2} {M12 : Buf S4x160x16384 .f32} {M15 M16 M20 M21 : Buf S160x128 .f32}
    {V10 : S2x160x16384.Idx → F .bf16} {xb : ℕ → ℕ → F .bf16} (hV : ∀ i ∈ slotS sl, V10 i = xb (i 1).val (i 2).val)
    {V11 : S2x160x16384.Idx → F .fp8e5m2} {db : ℕ → ℕ → F .fp8e5m2} (hD : ∀ i ∈ slotS sl, V11 i = db (i 1).val (i 2).val)
    (A Bb : ℕ → ℕ → F .f32) (t5 : Fin B.L5.trips) :
    iprop((Has c M10 (slotS sl) V10 ∗ Has c M11 (slotS sl) V11 ∗ Any c M12 Finset.univ) ∗ (Has c M20 Finset.univ (cells A) ∗ Has c M21 Finset.univ (cells Bb)) ∗
      Upto c M15 (sumV A Bb xb db) (32 * t5.val) ∗ Upto c M16 (sumXV A Bb xb db) (32 * t5.val)) ⊢
    Run c (gradOuter B M10 M11 M12 M15 M16 M20 M21 t5) (fun _ =>
      iprop((Has c M10 (slotS sl) V10 ∗ Has c M11 (slotS sl) V11 ∗ Any c M12 Finset.univ) ∗ (Has c M20 Finset.univ (cells A) ∗ Has c M21 Finset.univ (cells Bb)) ∗
      Upto c M15 (sumV A Bb xb db) (32 * (t5.val + 1)) ∗ Upto c M16 (sumXV A Bb xb db) (32 * (t5.val + 1)))) := by
  unfold gradOuter
  iintro ⟨H, ⟨H20, H21⟩, H15, H16⟩
  iapply (load32 c G t5) $$ H20
  iintro H20
  iapply (load32 c G t5) $$ H21
  iintro H21
  iapply (has_for c (fun n p => iprop((Has c M10 (slotS sl) V10 ∗ Has c M11 (slotS sl) V11 ∗ Any c M12 Finset.univ) ∗ ⌜p = gradAcc A Bb xb db t5.val n⌝)) (fun t6 acc => by
    iintro ⟨H, %hp⟩
    subst hp
    iapply (gradInner_spec c G hV hD A Bb t5 t6) $$ H)) $$ [H]
  · isplitl [H]; · iexact H
    ipureintro; rfl
  iintro %p ⟨H, %hp⟩
  rw [G.n6] at hp
  iapply (upto_put c (h := 32) (G.e5 t5) (fun y => by rw [hp]; rfl)) $$ H15
  iintro H15
  iapply (upto_put c (h := 32) (G.e5 t5) (fun y => by rw [hp]; rfl)) $$ H16
  iintro H16
  iapply (le_wp_ret _ _)
  isplitl [H]; · iexact H
  isplitl [H20 H21]
  · isplitl [H20]; · iexact H20
    iexact H21
  isplitl [H15]; · iexact H15
  iexact H16

theorem grad_spec {M10 : Buf S2x160x16384 .bf16} {M11 : Buf S2x160x16384 .fp8e5m2} {M12 : Buf S4x160x16384 .f32} {M13 M14 M23 M24 : Buf S320x128 .f32}
    {M15 M16 M17 M18 M20 M21 : Buf S160x128 .f32}
    {V10 : S2x160x16384.Idx → F .bf16} {xb : ℕ → ℕ → F .bf16} (hV : ∀ i ∈ slotS sl, V10 i = xb (i 1).val (i 2).val)
    {V11 : S2x160x16384.Idx → F .fp8e5m2} {db : ℕ → ℕ → F .fp8e5m2} (hD : ∀ i ∈ slotS sl, V11 i = db (i 1).val (i 2).val)
    {gam bet mu rs : ℕ → ℕ → F .f32} {second : Bool} {old23 old24 : V160 F} {v0 : F .f32} {Q : α → sProp 𝕄} {k : V160 F → V160 F → V160 F → K F α} :
    iprop((Has c M10 (slotS sl) V10 ∗ Has c M11 (slotS sl) V11 ∗ Any c M12 Finset.univ) ∗
      (Has c M13 Finset.univ (cells gam) ∗ Has c M14 Finset.univ (cells bet)) ∗ (Any c M15 Finset.univ ∗ Any c M16 Finset.univ) ∗
      (Has c M17 Finset.univ (cells mu) ∗ Has c M18 Finset.univ (cells rs)) ∗ (Any c M20 Finset.univ ∗ Any c M21 Finset.univ) ∗
      (Rows c M23 ha second old23 ∗ Rows c M24 ha second old24)) ⊢
    iprop((∀ u v w, iprop((Has c M10 (slotS sl) V10 ∗ Has c M11 (slotS sl) V11 ∗ Any c M12 Finset.univ) ∗
      (Has c M13 Finset.univ (cells gam) ∗ Has c M14 Finset.univ (cells bet)) ∗ (Any c M15 Finset.univ ∗ Any c M16 Finset.univ) ∗
      (Any c M17 Finset.univ ∗ Any c M18 Finset.univ) ∗ (Any c M20 Finset.univ ∗ Any c M21 Finset.univ) ∗
      (Has c M23 (halfS ha) (halfV ha (plus second old23 (gammaV mu rs (fun row lane => gam (160 * ha + row) lane) (fun row lane => bet (160 * ha + row) lane) xb db v0))) ∗
       Has c M24 (halfS ha) (halfV ha (plus second old24 (betaV mu rs (fun row lane => gam (160 * ha + row) lane) (fun row lane => bet (160 * ha + row) lane) xb db v0))))) -∗
        Run c (k u v w) Q) -∗
      Run c (grad B second M10 M11 M12 M13 M14 M15 M16 M17 M18 M20 M21 M23 M24 v0 k) Q) := by
  unfold grad
  iintro ⟨H, ⟨H13, H14⟩, ⟨H15, H16⟩, ⟨H17, H18⟩, ⟨H20, H21⟩, H23, H24⟩ Hk
  iapply (load160 c) $$ H18
  iintro H18
  iapply (load_rows c G) $$ H13
  iintro H13
  iapply (put160_spec c) $$ H20
  iintro H20
  iapply (load_rows c G) $$ H14
  iintro H14
  iapply (load160 c) $$ H17
  iintro H17
  iapply (put160_spec c) $$ H21
  iintro H21
  ihave H15 := (upto_of_any c) $$ H15
  ihave H16 := (upto_of_any c) $$ H16
  iapply (has_for c (fun n _ => iprop((Has c M10 (slotS sl) V10 ∗ Has c M11 (slotS sl) V11 ∗ Any c M12 Finset.univ) ∗
      (Has c M20 Finset.univ (cells (slopeV mu rs (fun row lane => gam (160 * ha + row) lane) (fun row lane => bet (160 * ha + row) lane))) ∗
        Has c M21 Finset.univ (cells (shiftV mu rs (fun row lane => gam (160 * ha + row) lane) (fun row lane => bet (160 * ha + row) lane)))) ∗
      Upto c M15 (sumV (slopeV mu rs (fun row lane => gam (160 * ha + row) lane) (fun row lane => bet (160 * ha + row) lane)) (shiftV mu rs (fun row lane => gam (160 * ha + row) lane) (fun row lane => bet (160 * ha + row) lane)) xb db) (32 * n) ∗
      Upto c M16 (sumXV (slopeV mu rs (fun row lane => gam (160 * ha + row) lane) (fun row lane => bet (160 * ha + row) lane)) (shiftV mu rs (fun row lane => gam (160 * ha + row) lane) (fun row lane => bet (160 * ha + row) lane)) xb db) (32 * n)))
    (fun t5 _ => gradOuter_spec c G hV hD _ _ t5)) $$ [H H15 H16 H20 H21]
  · isplitl [H]; · iexact H
    isplitl [H20 H21]
    · isplitl [H20]; · iexact H20
      iexact H21
    isplitl [H15]; · iexact H15
    iexact H16
  rw [G.n5]
  iintro %_ ⟨H, ⟨H20, H21⟩, H15, H16⟩
  ihave H15 := (has_of_upto c) $$ H15
  ihave H16 := (has_of_upto c) $$ H16
  iapply (load160 c) $$ H18
  iintro H18
  iapply (load160 c) $$ H17
  iintro H17
  iapply (load_rows c G) $$ H13
  iintro H13
  iapply (load160 c) $$ H15
  iintro H15
  iapply (load160 c) $$ H16
  iintro H16
  iapply (putRows_spec c G) $$ H24
  iintro H24
  iapply (putRows_spec c G) $$ H23
  iintro H23
  ihave H15 := (any_of_has c) $$ H15
  iapply (put160_spec c) $$ H15
  iintro H15
  ihave H16 := (any_of_has c) $$ H16
  iapply (put160_spec c) $$ H16
  iintro H16
  iapply Hk
  isplitl [H]; · iexact H
  isplitl [H13 H14]
  · isplitl [H13]; · iexact H13
    iexact H14
  isplitl [H15 H16]
  · isplitl [H15]; · iapply (any_of_has c) $$ H15
    iapply (any_of_has c) $$ H16
  isplitl [H17 H18]
  · isplitl [H17]; · iapply (any_of_has c) $$ H17
    iapply (any_of_has c) $$ H18
  isplitl [H20 H21]
  · isplitl [H20]; · iapply (any_of_has c) $$ H20
    iapply (any_of_has c) $$ H21
  isplitl [H23]; · iexact H23
  iexact H24

end

end Cert.Proof.KernelIdeal

end
-- ==== Proof.Ends.lean ====
/-
  The two ends of the region: the scale and the shift, handed in as rows, laid out as columns that every lane holds; and the two
  sums over the channels handed out as rows. Between them the transfers that bring a block's inputs.
-/
module

public import proofs.«01_k».proof.Proof.Codes
public import proofs.«01_k».proof.Proof.Good
public import proofs.«01_k».proof.Proof.Values
public import proofs.«01_k».proof.Proof.Stats
public import proofs.«01_k».proof.Proof.Grads
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type}

/-! ## Transfers of a block's inputs -/

/-- The element of an input at a batch, a channel and a place. -/
def ix3 (n r l : ℕ) : S2x320x16384.Idx := fun a => ⟨(![n % 2, r % 320, l % 16384] : Fin 3 → ℕ) a, by
  fin_cases a
  · exact Nat.mod_lt _ (by decide)
  · exact Nat.mod_lt _ (by decide)
  · exact Nat.mod_lt _ (by decide)⟩

/-- Block `b`'s part of an input, by row and place. -/
def blockOf {β : Type} (X : S2x320x16384.Idx → β) (b : ℕ) (row col : ℕ) : β := X (ix3 (b / 2) (160 * (b % 2) + row) col)

def bOff (b : Fin 4) : Fin 3 → ℕ := ![b.val / 2, 160 * (b.val % 2), 0]
def sOff (b : Fin 4) : Fin 3 → ℕ := ![b.val % 2, 0, 0]
theorem bInb : ∀ (b : Fin 4) (a : Fin 3), bOff b a + S1x160x16384.size a ≤ S2x320x16384.size a := by decide
theorem sInb : ∀ (b : Fin 4) (a : Fin 3), sOff b a + S1x160x16384.size a ≤ S2x160x16384.size a := by decide
/-- Block `b`'s part of an input. -/
abbrev bR (b : Fin 4) : Rect S2x320x16384 := Rect.unit (s := S2x320x16384) (bOff b) S1x160x16384.size (bInb b)
/-- The slot block `b` is brought to. -/
abbrev sR (b : Fin 4) : Rect S2x160x16384 := Rect.unit (s := S2x160x16384) (sOff b) S1x160x16384.size (sInb b)
theorem bWords16 : ∀ b : Fin 4, (bR b).WholeWords (EltTy.packing .bf16) := by decide
theorem sWords16 : ∀ b : Fin 4, (sR b).WholeWords (EltTy.packing .bf16) := by decide
theorem bWords8 : ∀ b : Fin 4, (bR b).WholeWords (EltTy.packing .fp8e5m2) := by decide
theorem sWords8 : ∀ b : Fin 4, (sR b).WholeWords (EltTy.packing .fp8e5m2) := by decide

theorem sR_set (b : Fin 4) : (sR b).set = slotS (b.val % 2) := by
  ext i
  rw [Rect.mem_set_unit, mem_slotS]
  have e1 : (i 1).val < 160 := (i 1).isLt
  have e2 : (i 2).val < 16384 := (i 2).isLt
  constructor
  · intro h
    have a0 : b.val % 2 ≤ (i 0).val ∧ (i 0).val < b.val % 2 + 1 := h 0
    omega
  · intro h a
    fin_cases a
    · show b.val % 2 ≤ (i 0).val ∧ (i 0).val < b.val % 2 + 1; omega
    · show 0 ≤ (i 1).val ∧ (i 1).val < 0 + 160; omega
    · show 0 ≤ (i 2).val ∧ (i 2).val < 0 + 16384; omega

theorem sem2Inb : ∀ (b : Fin 4) (a : Fin 1), (![b.val % 2] : Fin 1 → ℕ) a + S1.size a ≤ S2.size a := by decide
abbrev sem2 (S : DmaSems sig S2) (b : Fin 4) : DmaSem sig := ((S.slice (Rect.unit (s := S2) ![b.val % 2] S1.size (sem2Inb b))).squeeze S_ squeezes_S1_S_).sem

section
variable {e : EltTy} (M : Memref sig .tc .hbm S2x320x16384 e) (W : Buf S2x160x16384 e) (S : DmaSems sig S2) (b : Fin 4)
abbrev bW : Memref sig .tc .hbm S160x16384 e := (M.slice (bR b) (fun _ => rfl)).squeeze S160x16384 squeezes_S1x160x16384_S160x16384
abbrev sW : Memref sig .tc .vmem S160x16384 e := (W.slice (sR b) (fun _ => rfl)).squeeze S160x16384 squeezes_S1x160x16384_S160x16384

def go (h1 : (bW M b).view.WordExact) (h2 : (sW W b).view.WordExact) (k : K F α) : K F α :=
  .op (.enqueueDma (bW M b) (.here (sW W b)) (.dma (sem2 S b)) h1 h2 ⟨Or.inl rfl, trivial⟩) fun _ => k
def get (h1 : (bW M b).view.WordExact) (h2 : (sW W b).view.WordExact) (k : K F α) : K F α :=
  .op (.waitDma2 (sem2 S b) (bW M b) (sW W b) h1 h2) fun _ => k

/-- What block `b`'s slot holds once it is there. -/
def slotV (X : S2x320x16384.Idx → Elt F e) : S2x160x16384.Idx → Elt F e := fun i => blockOf X b.val (i 1).val (i 2).val

/-- Block `b`'s part of an input, on its way to its slot. -/
def Sent (X : S2x320x16384.Idx → Elt F e) : sProp 𝕄 :=
  Fl (F := F) c (sem2 S b) (sW W b).view.dmaCredit (iprop(Has c M (bR b).set X ∗ Has c W (sR b).set (slotV (F := F) b X)))

variable {M W S b}

theorem squeezes_pos : 0 < S160x16384.numel := by decide

theorem go_spec {h1 h2} {k : K F α} {Q : α → sProp 𝕄} {X : S2x320x16384.Idx → Elt F e} :
    iprop(Has c M (bR b).set X ∗ Any c W (slotS (b.val % 2)) ∗ Idle (F := F) c (sem2 S b))
      ⊢ iprop((Sent c M W S b X -∗ Run c k Q) -∗ Run c (go M W S b h1 h2 k) Q) := by
  unfold go Sent
  refine BIBase.Entails.trans ?_ (has_start c (A := M) (B := W) (rA := bR b) (rB := sR b) (VA := X) (slotV (F := F) b X) (k := fun _ => k) squeezes_pos ?_)
  · rw [sR_set]
  intro z
  set y := (Shape.reshapeEquiv squeezes_S1x160x16384_S160x16384.numel_eq z : S1x160x16384.Idx) with hy
  show X (ix3 _ _ _) = X _
  refine congrArg X (funext fun a => Fin.ext ?_)
  have q0 : (y 0).val < 1 := (y 0).isLt
  have q1 : (y 1).val < 160 := (y 1).isLt
  have q2 : (y 2).val < 16384 := (y 2).isLt
  have hb := b.isLt
  fin_cases a
  · show b.val / 2 % 2 = b.val / 2 + 1 * (y 0).val
    omega
  · show (160 * (b.val % 2) + (0 + 1 * (y 1).val)) % 320 = 160 * (b.val % 2) + 1 * (y 1).val
    omega
  · show (0 + 1 * (y 2).val) % 16384 = 0 + 1 * (y 2).val
    omega

theorem get_spec {h1 h2} {k : K F α} {Q : α → sProp 𝕄} {X : S2x320x16384.Idx → Elt F e} :
    iprop(Sent c M W S b X ∗ Owes (F := F) c)
      ⊢ iprop((iprop((Has c M (bR b).set X ∗ Has c W (slotS (b.val % 2)) (slotV (F := F) b X)) ∗ Idle (F := F) c (sem2 S b) ∗ Owes (F := F) c) -∗ Run c k Q) -∗ Run c (get M W S b h1 h2 k) Q) := by
  unfold get Sent
  rw [← sR_set]
  exact fl_wait (F := F) c (k := fun _ => k)
end

/-! ## Rows to columns -/

/-- The element of a row. -/
def ix2 (l : ℕ) : S1x320.Idx := fun a => ⟨(![0, l % 320] : Fin 2 → ℕ) a, by
  revert a; exact Fin.forall_fin_two.2 ⟨Nat.zero_lt_succ 0, Nat.mod_lt _ (Nat.zero_lt_succ 319)⟩⟩

/-- A row as a column that every lane holds. -/
def colOf (G : S1x320.Idx → F .f32) (row _lane : ℕ) : F .f32 := G (ix2 row)

abbrev e0 : Rect S1x320 := Rect.unit (s := S1x320) ![0, 0] S1x128.size inb_S1x320_S1x128_0_0
abbrev e1 : Rect S1x320 := Rect.unit (s := S1x320) ![0, 128] S1x128.size inb_S1x320_S1x128_0_128
abbrev e2 : Rect S1x320 := Rect.unit (s := S1x320) ![0, 256] S1x64.size inb_S1x320_S1x64_0_256
abbrev t0 : Rect S320x128 := Rect.unit (s := S320x128) ![0, 0] S128x128.size inb_S320x128_S128x128_0_0
abbrev t1 : Rect S320x128 := Rect.unit (s := S320x128) ![128, 0] S128x128.size inb_S320x128_S128x128_128_0
abbrev t2 : Rect S320x128 := Rect.unit (s := S320x128) ![256, 0] S64x128.size inb_S320x128_S64x128_256_0

def cols (M2 : Buf S1x320 .f32) (M13 : Buf S320x128 .f32) (k : Vec F S1x128 .f32 → K F α) : K F α :=
  .op (.load M2 e0.toLoadRect (View.loadsAt_vmem h_S1x128)) fun (a : Vec F S1x128 .f32) =>
  .op (.load M13 t0.toLoadRect (View.loadsAt_vmem h_S128x128)) fun _ =>
  .op (.store M13 t0 (k0_pay469 a) Finset.univ (View.stores_vmem_bits_univ h_S128x128 rfl) (.inl rfl)) fun _ =>
  .op (.load M2 e1.toLoadRect (View.loadsAt_vmem h_S1x128)) fun (b : Vec F S1x128 .f32) =>
  .op (.load M13 t1.toLoadRect (View.loadsAt_vmem h_S128x128)) fun _ =>
  .op (.store M13 t1 (k0_pay470 b) Finset.univ (View.stores_vmem_bits_univ h_S128x128 rfl) (.inl rfl)) fun _ =>
  .op (.load M2 e2.toLoadRect (View.loadsAt_vmem h_S1x64)) fun (d : Vec F S1x64 .f32) =>
  .op (.load M13 t2.toLoadRect (View.loadsAt_vmem h_S64x128)) fun _ =>
  .op (.store M13 t2 (k0_pay471 d) Finset.univ (View.stores_vmem_bits_univ h_S64x128 rfl) (.inl rfl)) fun _ =>
  k b

/-- The rows of the columns before `n` are laid out, the others are as they were. -/
def upTo (n : ℕ) (f : ℕ → ℕ → F .f32) (V : S320x128.Idx → F .f32) : S320x128.Idx → F .f32 :=
  fun i => if (i 0).val < n then f (i 0).val (i 1).val else V i

theorem pay469_at (v : Vec F S1x128 .f32) (y : S128x128.Idx) (x : S1x128.Idx) (h0 : (x 0).val = 0) (h1 : (x 1).val = (y 0).val) : k0_pay469 v y = v x := by
  unfold k0_pay469
  rw [shapeCast_self, shapeCast_self, shapeCast_self]
  refine (transpose_apply _ _ _ y (fun a => ⟨(![(y 1).val, (y 0).val] : Fin 2 → ℕ) a, by
    revert a; exact Fin.forall_fin_two.2 ⟨(y 1).isLt, (y 0).isLt⟩⟩) ?_).trans (broadcastTo_apply _ _ _ x ?_)
  · intro b; fin_cases b <;> rfl
  · intro a; fin_cases a
    · exact h0
    · exact h1

theorem pay471_at (v : Vec F S1x64 .f32) (y : S64x128.Idx) (x : S1x64.Idx) (h0 : (x 0).val = 0) (h1 : (x 1).val = (y 0).val) : k0_pay471 v y = v x := by
  unfold k0_pay471
  rw [shapeCast_self, shapeCast_self, shapeCast_self]
  refine (transpose_apply _ _ _ y (fun a => ⟨(![(y 1).val, (y 0).val] : Fin 2 → ℕ) a, by
    revert a; exact Fin.forall_fin_two.2 ⟨(y 1).isLt, (y 0).isLt⟩⟩) ?_).trans (broadcastTo_apply _ _ _ x ?_)
  · intro b; fin_cases b <;> rfl
  · intro a; fin_cases a
    · exact h0
    · exact h1

/-- One store of a column's rows from `n` to `n'`. -/
theorem tile_store {M13 : Buf S320x128 .f32} {f : ℕ → ℕ → F .f32} {V : S320x128.Idx → F .f32} {Q : α → sProp 𝕄} {k : PUnit → K F α} {n h : ℕ} {sz : Fin 2 → ℕ}
    {inb : ∀ a, (![n, 0] : Fin 2 → ℕ) a + sz a ≤ S320x128.size a} {w : (Rect.unit (s := S320x128) ![n, 0] sz inb).shape.Idx → F .f32} {hx hm}
    (hs : sz = ![h, 128]) (hw : ∀ y, w y = f (n + (y 0).val) (y 1).val) :
    Has c M13 Finset.univ (upTo n f V) ⊢ iprop((Has c M13 Finset.univ (upTo (n + h) f V) -∗ Run c (k ⟨⟩) Q) -∗
      Run c (.op (.store M13 (Rect.unit (s := S320x128) ![n, 0] sz inb) w Finset.univ hx hm) k) Q) := by
  refine has_store c _ (Finset.subset_univ _) ?_ ?_
  · intro y
    rw [hw]
    have q : (y 0).val < h := by have := (y 0).isLt; subst hs; exact this
    unfold upTo
    refine (if_pos (show n + 1 * (y 0).val < n + h by omega)).trans ?_
    show f (n + 1 * (y 0).val) (0 + 1 * (y 1).val) = _
    rw [Nat.one_mul, Nat.one_mul, Nat.zero_add]
  · intro x _ hx
    unfold upTo
    by_cases h1 : (x 0).val < n
    · rw [if_pos h1, if_pos (by omega)]
    · rw [if_neg h1, if_neg]
      intro h2
      apply hx
      rw [Rect.mem_set_unit]
      intro a
      subst hs
      have q1 : (x 1).val < 128 := (x 1).isLt
      fin_cases a
      · show n ≤ (x 0).val ∧ (x 0).val < n + h; omega
      · show 0 ≤ (x 1).val ∧ (x 1).val < 0 + 128; omega

theorem cols_spec {M2 : Buf S1x320 .f32} {M13 : Buf S320x128 .f32} {G : S1x320.Idx → F .f32} {Q : α → sProp 𝕄} {k : Vec F S1x128 .f32 → K F α} :
    iprop(Has c M2 Finset.univ G ∗ Any c M13 Finset.univ)
      ⊢ iprop((∀ v, iprop(Has c M2 Finset.univ G ∗ Has c M13 Finset.univ (cells (colOf G))) -∗ Run c (k v) Q) -∗ Run c (cols M2 M13 k) Q) := by
  unfold cols Any
  iintro ⟨H2, %V, H⟩ Hk
  ihave H := (has_congr c (V' := upTo 0 (colOf G) V) (fun x _ => (if_neg (Nat.not_lt_zero _)).symm)) $$ H
  iapply (has_load c (Finset.subset_univ _)) $$ H2; iintro H2
  iapply (has_load c (Finset.subset_univ _)) $$ H; iintro H
  iapply (tile_store c (h := 128) rfl (fun y => ?_)) $$ H
  · refine (pay469_at _ y (fun a => ⟨(![0, (y 0).val] : Fin 2 → ℕ) a, by revert a; exact Fin.forall_fin_two.2 ⟨Nat.zero_lt_succ 0, (y 0).isLt⟩⟩) rfl rfl).trans ?_
    refine congrArg G (Shape.idx_ext₂ (n := S1x320.size) rfl ?_)
    have q : (y 0).val < 128 := (y 0).isLt
    show 0 + 1 * (y 0).val = (0 + (y 0).val) % 320
    omega
  iintro H
  iapply (has_load c (Finset.subset_univ _)) $$ H2; iintro H2
  iapply (has_load c (Finset.subset_univ _)) $$ H; iintro H
  iapply (tile_store c (h := 128) rfl (fun y => ?_)) $$ H
  · refine (pay469_at _ y (fun a => ⟨(![0, (y 0).val] : Fin 2 → ℕ) a, by revert a; exact Fin.forall_fin_two.2 ⟨Nat.zero_lt_succ 0, (y 0).isLt⟩⟩) rfl rfl).trans ?_
    refine congrArg G (Shape.idx_ext₂ (n := S1x320.size) rfl ?_)
    have q : (y 0).val < 128 := (y 0).isLt
    show 128 + 1 * (y 0).val = (128 + (y 0).val) % 320
    omega
  iintro H
  iapply (has_load c (Finset.subset_univ _)) $$ H2; iintro H2
  iapply (has_load c (Finset.subset_univ _)) $$ H; iintro H
  iapply (tile_store c (h := 64) rfl (fun y => ?_)) $$ H
  · refine (pay471_at _ y (fun a => ⟨(![0, (y 0).val] : Fin 2 → ℕ) a, by revert a; exact Fin.forall_fin_two.2 ⟨Nat.zero_lt_succ 0, (y 0).isLt⟩⟩) rfl rfl).trans ?_
    refine congrArg G (Shape.idx_ext₂ (n := S1x320.size) rfl ?_)
    have q : (y 0).val < 64 := (y 0).isLt
    show 256 + 1 * (y 0).val = (256 + (y 0).val) % 320
    omega
  iintro H
  iapply Hk
  isplitl [H2]; · iexact H2
  iapply (has_congr c (V := upTo 320 (colOf G) V) (V' := cells (colOf G)) (fun x _ => if_pos (x 0).isLt)) $$ H

/-! ## Columns to rows -/

def rows (M23 : Buf S320x128 .f32) (M8 : Buf S1x320 .f32) (k : Vec F S128x128 .f32 → K F α) : K F α :=
  .op (.load M23 t0.toLoadRect (View.loadsAt_vmem h_S128x128)) fun (a : Vec F S128x128 .f32) =>
  .op (.load M8 e0.toLoadRect (View.loadsAt_vmem h_S1x128)) fun _ =>
  .op (.store M8 e0 (k0_pay829 a) Finset.univ (View.stores_vmem_bits_univ h_S1x128 rfl) (.inl rfl)) fun _ =>
  .op (.load M23 t1.toLoadRect (View.loadsAt_vmem h_S128x128)) fun (b : Vec F S128x128 .f32) =>
  .op (.load M8 e1.toLoadRect (View.loadsAt_vmem h_S1x128)) fun _ =>
  .op (.store M8 e1 (k0_pay829 b) Finset.univ (View.stores_vmem_bits_univ h_S1x128 rfl) (.inl rfl)) fun _ =>
  .op (.load M23 t2.toLoadRect (View.loadsAt_vmem h_S64x128)) fun (d : Vec F S64x128 .f32) =>
  .op (.load M8 e2.toLoadRect (View.loadsAt_vmem h_S1x64)) fun _ =>
  .op (.store M8 e2 (k0_pay831 d) Finset.univ (View.stores_vmem_bits_univ h_S1x64 rfl) (.inl rfl)) fun _ =>
  k b

/-- The element of a column in the first lane. -/
def ixc (r : ℕ) : S320x128.Idx := fun a => ⟨(![r % 320, 0] : Fin 2 → ℕ) a, by
  revert a; exact Fin.forall_fin_two.2 ⟨Nat.mod_lt _ (Nat.zero_lt_succ 319), Nat.zero_lt_succ 127⟩⟩

/-- The first lane of the columns as a row. -/
def rowOf (V : S320x128.Idx → F .f32) : S1x320.Idx → F .f32 := fun i => V (ixc (i 1).val)

/-- A row of which the places before `n` are handed out. -/
def rowTo (n : ℕ) (f g : S1x320.Idx → F .f32) : S1x320.Idx → F .f32 := fun i => if (i 1).val < n then f i else g i

theorem row_store {M8 : Buf S1x320 .f32} {f V : S1x320.Idx → F .f32} {Q : α → sProp 𝕄} {k : PUnit → K F α} {n h : ℕ} {sz : Fin 2 → ℕ}
    {inb : ∀ a, (![0, n] : Fin 2 → ℕ) a + sz a ≤ S1x320.size a} {w : (Rect.unit (s := S1x320) ![0, n] sz inb).shape.Idx → F .f32} {hx hm}
    (hs : sz = ![1, h]) (hw : ∀ y, w y = f ((Rect.unit (s := S1x320) ![0, n] sz inb).emb y)) :
    Has c M8 Finset.univ (rowTo n f V) ⊢ iprop((Has c M8 Finset.univ (rowTo (n + h) f V) -∗ Run c (k ⟨⟩) Q) -∗
      Run c (.op (.store M8 (Rect.unit (s := S1x320) ![0, n] sz inb) w Finset.univ hx hm) k) Q) := by
  refine has_store c _ (Finset.subset_univ _) ?_ ?_
  · intro y
    rw [hw]
    have q : (y 1).val < h := by have := (y 1).isLt; subst hs; exact this
    exact if_pos (show n + 1 * (y 1).val < n + h by omega)
  · intro x _ hx
    unfold rowTo
    by_cases h1 : (x 1).val < n
    · rw [if_pos h1, if_pos (by omega)]
    · rw [if_neg h1, if_neg]
      intro h2
      apply hx
      rw [Rect.mem_set_unit]
      intro a
      subst hs
      have q0 : (x 0).val < 1 := (x 0).isLt
      fin_cases a
      · show 0 ≤ (x 0).val ∧ (x 0).val < 0 + 1; omega
      · show n ≤ (x 1).val ∧ (x 1).val < n + h; omega

theorem pay829_at (v : Vec F S128x128 .f32) (y : S1x128.Idx) (x : S128x128.Idx) (h0 : (x 0).val = (y 1).val) (h1 : (x 1).val = 0) : k0_pay829 v y = v x := by
  unfold k0_pay829
  refine (extractStridedSlice_apply _ _ _ y (fun a => ⟨(![(x 1).val, (x 0).val] : Fin 2 → ℕ) a, by
    revert a; exact Fin.forall_fin_two.2 ⟨(x 1).isLt, (x 0).isLt⟩⟩) ?_).trans (transpose_apply _ _ _ _ x ?_)
  · have q0 : (y 0).val < 1 := (y 0).isLt
    intro a; fin_cases a
    · show (x 1).val = 0 + (y 0).val; omega
    · show (x 0).val = 0 + (y 1).val; omega
  · intro b; fin_cases b <;> rfl

theorem pay831_at (v : Vec F S64x128 .f32) (y : S1x64.Idx) (x : S64x128.Idx) (h0 : (x 0).val = (y 1).val) (h1 : (x 1).val = 0) : k0_pay831 v y = v x := by
  unfold k0_pay831
  refine (extractStridedSlice_apply _ _ _ y (fun a => ⟨(![(x 1).val, (x 0).val] : Fin 2 → ℕ) a, by
    revert a; exact Fin.forall_fin_two.2 ⟨(x 1).isLt, (x 0).isLt⟩⟩) ?_).trans (transpose_apply _ _ _ _ x ?_)
  · have q0 : (y 0).val < 1 := (y 0).isLt
    intro a; fin_cases a
    · show (x 1).val = 0 + (y 0).val; omega
    · show (x 0).val = 0 + (y 1).val; omega
  · intro b; fin_cases b <;> rfl

theorem rows_spec {M23 : Buf S320x128 .f32} {M8 : Buf S1x320 .f32} {V : S320x128.Idx → F .f32} {Q : α → sProp 𝕄} {k : Vec F S128x128 .f32 → K F α} :
    iprop(Has c M23 Finset.univ V ∗ Any c M8 Finset.univ)
      ⊢ iprop((∀ v, iprop(Has c M23 Finset.univ V ∗ Has c M8 Finset.univ (rowOf V)) -∗ Run c (k v) Q) -∗ Run c (rows M23 M8 k) Q) := by
  unfold rows Any
  iintro ⟨H2, %V0, H⟩ Hk
  ihave H := (has_congr c (V' := rowTo 0 (rowOf V) V0) (fun x _ => (if_neg (Nat.not_lt_zero _)).symm)) $$ H
  iapply (has_load c (Finset.subset_univ _)) $$ H2; iintro H2
  iapply (has_load c (Finset.subset_univ _)) $$ H; iintro H
  iapply (row_store c (h := 128) rfl (fun y => ?_)) $$ H
  · refine (pay829_at _ y (fun a => ⟨(![(y 1).val, 0] : Fin 2 → ℕ) a, by revert a; exact Fin.forall_fin_two.2 ⟨(y 1).isLt, Nat.zero_lt_succ 127⟩⟩) rfl rfl).trans ?_
    have q : (y 1).val < 128 := (y 1).isLt
    refine congrArg V (Shape.idx_ext₂ (n := S320x128.size) ?_ rfl)
    show 0 + 1 * (y 1).val = (0 + 1 * (y 1).val) % 320
    omega
  iintro H
  iapply (has_load c (Finset.subset_univ _)) $$ H2; iintro H2
  iapply (has_load c (Finset.subset_univ _)) $$ H; iintro H
  iapply (row_store c (h := 128) rfl (fun y => ?_)) $$ H
  · refine (pay829_at _ y (fun a => ⟨(![(y 1).val, 0] : Fin 2 → ℕ) a, by revert a; exact Fin.forall_fin_two.2 ⟨(y 1).isLt, Nat.zero_lt_succ 127⟩⟩) rfl rfl).trans ?_
    have q : (y 1).val < 128 := (y 1).isLt
    refine congrArg V (Shape.idx_ext₂ (n := S320x128.size) ?_ rfl)
    show 128 + 1 * (y 1).val = (128 + 1 * (y 1).val) % 320
    omega
  iintro H
  iapply (has_load c (Finset.subset_univ _)) $$ H2; iintro H2
  iapply (has_load c (Finset.subset_univ _)) $$ H; iintro H
  iapply (row_store c (h := 64) rfl (fun y => ?_)) $$ H
  · refine (pay831_at _ y (fun a => ⟨(![(y 1).val, 0] : Fin 2 → ℕ) a, by revert a; exact Fin.forall_fin_two.2 ⟨(y 1).isLt, Nat.zero_lt_succ 127⟩⟩) rfl rfl).trans ?_
    have q : (y 1).val < 64 := (y 1).isLt
    refine congrArg V (Shape.idx_ext₂ (n := S320x128.size) ?_ rfl)
    show 256 + 1 * (y 1).val = (256 + 1 * (y 1).val) % 320
    omega
  iintro H
  iapply Hk
  isplitl [H2]; · iexact H2
  iapply (has_congr c (V := rowTo 320 (rowOf V) V0) (V' := rowOf V) (fun x _ => if_pos (x 1).isLt)) $$ H

/-! ## The stretches that are they -/

section
variable {M0 : Memref sig .tc .hbm S2x320x16384 .bf16} (h0 : M0.IsWhole) {W10 : Buf S2x160x16384 .bf16} (h10 : W10.IsWhole)
  {M1 : Memref sig .tc .hbm S2x320x16384 .fp8e5m2} (h1 : M1.IsWhole) {W11 : Buf S2x160x16384 .fp8e5m2} (h11 : W11.IsWhole) (S : DmaSems sig S2) (b : Fin 4)
abbrev goX (k : K F α) : K F α := go M0 W10 S b ((h0.wordExact_slice rfl _ (bWords16 b)).reshape _ _) ((h10.wordExact_slice rfl _ (sWords16 b)).reshape _ _) k
abbrev getX (k : K F α) : K F α := get M0 W10 S b ((h0.wordExact_slice rfl _ (bWords16 b)).reshape _ _) ((h10.wordExact_slice rfl _ (sWords16 b)).reshape _ _) k
abbrev goD (k : K F α) : K F α := go M1 W11 S b ((h1.wordExact_slice rfl _ (bWords8 b)).reshape _ _) ((h11.wordExact_slice rfl _ (sWords8 b)).reshape _ _) k
abbrev getD (k : K F α) : K F α := get M1 W11 S b ((h1.wordExact_slice rfl _ (bWords8 b)).reshape _ _) ((h11.wordExact_slice rfl _ (sWords8 b)).reshape _ _) k
end

variable
  (arg0 : Memref sig .tc .hbm S2x320x16384 .bf16) (harg0 : arg0.IsWhole) (arg1 : Memref sig .tc .hbm S2x320x16384 .fp8e5m2) (harg1 : arg1.IsWhole) (arg2 : Memref sig .tc .vmem S1x320 .f32) (harg2 : arg2.IsWhole) (arg3 : Memref sig .tc .vmem S1x320 .f32) (harg3 : arg3.IsWhole) (arg4 : Memref sig .tc .smem S1x1 .f32) (harg4 : arg4.IsWhole) (arg5 : Memref sig .tc .vmem S16x128 .bf16) (harg5 : arg5.IsWhole) (arg6 : Memref sig .tc .hbm S2x320x16384 .fp8e5m2) (harg6 : arg6.IsWhole) (arg7 : Memref sig .tc .smem S1x1 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S2x160x16384 .bf16) (harg10 : arg10.IsWhole) (arg11 : Memref sig .tc .vmem S2x160x16384 .fp8e5m2) (harg11 : arg11.IsWhole) (arg12 : Memref sig .tc .vmem S4x160x16384 .f32) (harg12 : arg12.IsWhole) (arg13 : Memref sig .tc .vmem S320x128 .f32) (harg13 : arg13.IsWhole) (arg14 : Memref sig .tc .vmem S320x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S160x128 .f32) (harg18 : arg18.IsWhole) (arg19 : Memref sig .tc .vmem S16x128 .f32) (harg19 : arg19.IsWhole) (arg20 : Memref sig .tc .vmem S160x128 .f32) (harg20 : arg20.IsWhole) (arg21 : Memref sig .tc .vmem S160x128 .f32) (harg21 : arg21.IsWhole) (arg22 : Memref sig .tc .vmem S160x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S32x128 .f32) (harg25 : arg25.IsWhole) (arg26 : DmaSems sig S2) (arg27 : DmaSems sig S2) (arg28 : DmaSems sig S10)

theorem first_eq (k : F .f32 → Vec F S1x128 .f32 → K F α) :
    s1 arg0 harg0 arg1 harg1 arg2 arg3 arg4 arg10 harg10 arg11 harg11 arg13 arg14 arg25 arg26 arg27 k
      = (smemLoad arg4 (Rect.unit (s := S1x1) ![0, 0] S1x1.size inb_S1x1_S1x1_0_0) numel1_S1x1 rfl >>= fun (v0 : F .f32) =>
        goX harg0 harg10 arg26 0 <| goD harg1 harg11 arg27 0 <| goX harg0 harg10 arg26 1 <| goD harg1 harg11 arg27 1 <|
        cols arg2 arg13 fun _ => cols arg3 arg14 fun v57 =>
        .op (.load arg25 rAll32.toLoadRect (View.loadsAt_vmem h_S32x128)) fun _ =>
        .op (.store arg25 rAll32 (k0_pay476 (F := F)) Finset.univ (View.stores_vmem_bits_univ h_S32x128 rfl) (.inl rfl)) fun _ =>
        getX harg0 harg10 arg26 0 (k v0 v57)) := by sl_kernel_rfl

theorem dy0_eq (k : K F α) : s3 arg1 harg1 arg11 harg11 arg27 k = getD harg1 harg11 arg27 0 k := by sl_kernel_rfl
theorem mid0_eq (k : K F α) : s6 arg0 harg0 arg1 harg1 arg10 harg10 arg11 harg11 arg26 arg27 k
    = (goX harg0 harg10 arg26 2 <| goD harg1 harg11 arg27 2 <| getX harg0 harg10 arg26 1 k) := by sl_kernel_rfl
theorem dy1_eq (k : K F α) : s8 arg1 harg1 arg11 harg11 arg27 k = getD harg1 harg11 arg27 1 k := by sl_kernel_rfl
theorem mid1_eq (k : K F α) : s11 arg0 harg0 arg1 harg1 arg10 harg10 arg11 harg11 arg26 arg27 k
    = (goX harg0 harg10 arg26 3 <| goD harg1 harg11 arg27 3 <| getX harg0 harg10 arg26 2 k) := by sl_kernel_rfl
theorem dy2_eq (k : K F α) : s13 arg1 harg1 arg11 harg11 arg27 k = getD harg1 harg11 arg27 2 k := by sl_kernel_rfl
theorem mid2_eq (k : K F α) : s16 arg0 harg0 arg10 harg10 arg26 k = getX harg0 harg10 arg26 3 k := by sl_kernel_rfl
theorem dy3_eq (k : K F α) : s18 arg1 harg1 arg11 harg11 arg27 k = getD harg1 harg11 arg27 3 k := by sl_kernel_rfl
theorem rows_eq (k : Vec F S128x128 .f32 → K F α) :
    s21 arg8 arg9 arg23 arg24 k = (rows arg23 arg8 fun _ => rows arg24 arg9 k) := by sl_kernel_rfl

end Cert.Proof.KernelIdeal

end
-- ==== Proof.Region.lean ====
/-
  The kernel's region as the sequence of its phases.
-/
module

public import proofs.«01_k».proof.Proof.Ends
public import proofs.«01_k».proof.Proof.Finish

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type}

section
variable (B : Blk) (T : Tail) (b : Fin 4) (second : Bool) {M1 : Memref sig .tc .hbm S2x320x16384 .fp8e5m2} (h1 : M1.IsWhole)
  (M5 : Buf S16x128 .bf16) (M10 : Buf S2x160x16384 .bf16) {M11 : Buf S2x160x16384 .fp8e5m2} (h11 : M11.IsWhole) (M12 : Buf S4x160x16384 .f32)
  (M13 M14 : Buf S320x128 .f32) (M15 M16 M17 M18 : Buf S160x128 .f32) (M19 : Buf S16x128 .f32) (M20 M21 M22 : Buf S160x128 .f32)
  (M23 M24 : Buf S320x128 .f32) (M25 : Buf S32x128 .f32) (S27 : DmaSems sig S2) (v0 : F .f32)

/-- A block once its rows of `x` are there: its statistics, its sums of the gradient, its rows of `dx`. -/
def blockP (k : K F α) : K F α :=
  stats B M5 M10 M15 M16 M17 M18 M19 fun _ _ => getD h1 h11 S27 b <|
  grad B second M10 M11 M12 M13 M14 M15 M16 M17 M18 M20 M21 M23 M24 v0 fun rs mu ga =>
  fin T M10 M12 M15 M16 M20 M21 M22 M25 v0 rs mu ga k

/-- The prologue: the scalar, the first four transfers, the columns, and the wait for block 0's rows of `x`. -/
def firstP {M0 : Memref sig .tc .hbm S2x320x16384 .bf16} (h0 : M0.IsWhole) {M10 : Buf S2x160x16384 .bf16} (h10 : M10.IsWhole)
    (M2 M3 : Buf S1x320 .f32) (M4 : Memref sig .tc .smem S1x1 .f32) (S26 : DmaSems sig S2) (k : F .f32 → K F α) : K F α :=
  smemLoad M4 (Rect.unit (s := S1x1) ![0, 0] S1x1.size inb_S1x1_S1x1_0_0) numel1_S1x1 rfl >>= fun (v0 : F .f32) =>
  goX h0 h10 S26 0 <| goD h1 h11 S27 0 <| goX h0 h10 S26 1 <| goD h1 h11 S27 1 <|
  cols M2 M13 fun _ => cols M3 M14 fun _ =>
  .op (.load M25 rAll32.toLoadRect (View.loadsAt_vmem h_S32x128)) fun _ =>
  .op (.store M25 rAll32 (k0_pay476 (F := F)) Finset.univ (View.stores_vmem_bits_univ h_S32x128 rfl) (.inl rfl)) fun _ =>
  getX h0 h10 S26 0 (k v0)
end

/-- The whole region but the last two waits. -/
def regionP (arg0 : Memref sig .tc .hbm S2x320x16384 .bf16) (harg0 : arg0.IsWhole) (arg1 : Memref sig .tc .hbm S2x320x16384 .fp8e5m2) (harg1 : arg1.IsWhole) (arg2 : Memref sig .tc .vmem S1x320 .f32) (harg2 : arg2.IsWhole) (arg3 : Memref sig .tc .vmem S1x320 .f32) (harg3 : arg3.IsWhole) (arg4 : Memref sig .tc .smem S1x1 .f32) (harg4 : arg4.IsWhole) (arg5 : Memref sig .tc .vmem S16x128 .bf16) (harg5 : arg5.IsWhole) (arg6 : Memref sig .tc .hbm S2x320x16384 .fp8e5m2) (harg6 : arg6.IsWhole) (arg7 : Memref sig .tc .smem S1x1 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S2x160x16384 .bf16) (harg10 : arg10.IsWhole) (arg11 : Memref sig .tc .vmem S2x160x16384 .fp8e5m2) (harg11 : arg11.IsWhole) (arg12 : Memref sig .tc .vmem S4x160x16384 .f32) (harg12 : arg12.IsWhole) (arg13 : Memref sig .tc .vmem S320x128 .f32) (harg13 : arg13.IsWhole) (arg14 : Memref sig .tc .vmem S320x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S160x128 .f32) (harg18 : arg18.IsWhole) (arg19 : Memref sig .tc .vmem S16x128 .f32) (harg19 : arg19.IsWhole) (arg20 : Memref sig .tc .vmem S160x128 .f32) (harg20 : arg20.IsWhole) (arg21 : Memref sig .tc .vmem S160x128 .f32) (harg21 : arg21.IsWhole) (arg22 : Memref sig .tc .vmem S160x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S32x128 .f32) (harg25 : arg25.IsWhole) (arg26 : DmaSems sig S2) (arg27 : DmaSems sig S2) (arg28 : DmaSems sig S10)  : K F PUnit :=
  firstP harg1 harg11 arg13 arg14 arg25 arg27 harg0 harg10 arg2 arg3 arg4 arg26 fun v0 =>
  blockP blk0 tail0 0 false harg1 arg5 arg10 harg11 arg12 arg13 arg14 arg15 arg16 arg17 arg18 arg19 arg20 arg21 arg22 arg23 arg24 arg25 arg27 v0 <|
  goX harg0 harg10 arg26 2 <| goD harg1 harg11 arg27 2 <| getX harg0 harg10 arg26 1 <|
  blockP blk1 tail1 1 false harg1 arg5 arg10 harg11 arg12 arg13 arg14 arg15 arg16 arg17 arg18 arg19 arg20 arg21 arg22 arg23 arg24 arg25 arg27 v0 <|
  goX harg0 harg10 arg26 3 <| goD harg1 harg11 arg27 3 <| getX harg0 harg10 arg26 2 <|
  blockP blk2 tail2 2 true harg1 arg5 arg10 harg11 arg12 arg13 arg14 arg15 arg16 arg17 arg18 arg19 arg20 arg21 arg22 arg23 arg24 arg25 arg27 v0 <|
  getX harg0 harg10 arg26 3 <|
  blockP blk3 tail3 3 true harg1 arg5 arg10 harg11 arg12 arg13 arg14 arg15 arg16 arg17 arg18 arg19 arg20 arg21 arg22 arg23 arg24 arg25 arg27 v0 <|
  rows arg23 arg8 fun _ => rows arg24 arg9 fun _ =>
  codes arg6 harg6 arg11 harg11 arg12 arg28 arg7 arg25 <| .ret ⟨⟩

variable
  (arg0 : Memref sig .tc .hbm S2x320x16384 .bf16) (harg0 : arg0.IsWhole) (arg1 : Memref sig .tc .hbm S2x320x16384 .fp8e5m2) (harg1 : arg1.IsWhole) (arg2 : Memref sig .tc .vmem S1x320 .f32) (harg2 : arg2.IsWhole) (arg3 : Memref sig .tc .vmem S1x320 .f32) (harg3 : arg3.IsWhole) (arg4 : Memref sig .tc .smem S1x1 .f32) (harg4 : arg4.IsWhole) (arg5 : Memref sig .tc .vmem S16x128 .bf16) (harg5 : arg5.IsWhole) (arg6 : Memref sig .tc .hbm S2x320x16384 .fp8e5m2) (harg6 : arg6.IsWhole) (arg7 : Memref sig .tc .smem S1x1 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S2x160x16384 .bf16) (harg10 : arg10.IsWhole) (arg11 : Memref sig .tc .vmem S2x160x16384 .fp8e5m2) (harg11 : arg11.IsWhole) (arg12 : Memref sig .tc .vmem S4x160x16384 .f32) (harg12 : arg12.IsWhole) (arg13 : Memref sig .tc .vmem S320x128 .f32) (harg13 : arg13.IsWhole) (arg14 : Memref sig .tc .vmem S320x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S160x128 .f32) (harg18 : arg18.IsWhole) (arg19 : Memref sig .tc .vmem S16x128 .f32) (harg19 : arg19.IsWhole) (arg20 : Memref sig .tc .vmem S160x128 .f32) (harg20 : arg20.IsWhole) (arg21 : Memref sig .tc .vmem S160x128 .f32) (harg21 : arg21.IsWhole) (arg22 : Memref sig .tc .vmem S160x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S32x128 .f32) (harg25 : arg25.IsWhole) (arg26 : DmaSems sig S2) (arg27 : DmaSems sig S2) (arg28 : DmaSems sig S10)

set_option maxRecDepth 100000
set_option maxHeartbeats 0

theorem region_eq : chain (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 = regionP (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 := by
  unfold regionP firstP blockP
  rw [s1.eq, first_eq]
  simp only [s2.eq, stats0_eq, s3.eq, dy0_eq, s4.eq, grad0_eq, s5.eq, fin0_eq, s6.eq, mid0_eq, s7.eq, stats1_eq, s8.eq, dy1_eq, s9.eq, grad1_eq, s10.eq, fin1_eq,
    s11.eq, mid1_eq, s12.eq, stats2_eq, s13.eq, dy2_eq, s14.eq, grad2_eq, s15.eq, fin2_eq, s16.eq, mid2_eq, s17.eq, stats3_eq, s18.eq, dy3_eq, s19.eq, grad3_eq,
    s20.eq, fin3_eq, s21.eq, rows_eq, s22.eq, codes_eq]
  rfl

theorem body_eq (inv : V32 F) : cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 = (regionP (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28 >>= fun _ => steps arg6 harg6 arg11 harg11 arg12 arg28 inv lastSteps (.ret ⟨⟩)) := by
  rw [← region_eq, ← chain.eq_at]
  sl_kernel_rfl

end Cert.Proof.KernelIdeal

end
-- ==== Proof.BlockRun.lean ====
/-
  A block run, and the parts of the arrays that the transfers move.
-/
module

public import proofs.«01_k».proof.Proof.Region

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type}

/-! ## What a run borrows -/

theorem lends_here {sp : Space} {s : Shape} {e : EltTy} {m : Memref sig .tc sp s e} {S : Finset s.Idx} : Lends (F := F) c (Any (F := F) c m S) m S := by
  unfold Lends
  iintro H
  isplitl [H]; · iexact H
  iintro H; iexact H

theorem lends_left {sp : Space} {s : Shape} {e : EltTy} {m : Memref sig .tc sp s e} {S : Finset s.Idx} {H R : sProp 𝕄} (h : Lends (F := F) c H m S) :
    Lends (F := F) c (iprop(H ∗ R)) m S := by
  unfold Lends at h ⊢
  iintro ⟨H, HR⟩
  ihave H := h $$ H
  icases H with ⟨H, HB⟩
  isplitl [H]; · iexact H
  iintro H
  isplitl [H HB]; · iapply HB; iexact H
  iexact HR

theorem lends_right {sp : Space} {s : Shape} {e : EltTy} {m : Memref sig .tc sp s e} {S : Finset s.Idx} {H R : sProp 𝕄} (h : Lends (F := F) c H m S) :
    Lends (F := F) c (iprop(R ∗ H)) m S := by
  unfold Lends at h ⊢
  iintro ⟨HR, H⟩
  ihave H := h $$ H
  icases H with ⟨H, HB⟩
  isplitl [H]; · iexact H
  iintro H
  isplitl [HR]; · iexact HR
  iapply HB; iexact H

/-! ## A block -/

/-- The buffers whose contents no later phase reads. -/
abbrev Tools (M12 : Buf S4x160x16384 .f32) (M15 M16 M17 M18 : Buf S160x128 .f32) (M19 : Buf S16x128 .f32) (M20 M21 M22 : Buf S160x128 .f32) (M25 : Buf S32x128 .f32) : sProp 𝕄 :=
  iprop(Any (F := F) c M12 Finset.univ ∗ (Any (F := F) c M15 Finset.univ ∗ Any (F := F) c M16 Finset.univ) ∗ (Any (F := F) c M17 Finset.univ ∗ Any (F := F) c M18 Finset.univ) ∗
    Any (F := F) c M19 Finset.univ ∗ (Any (F := F) c M20 Finset.univ ∗ Any (F := F) c M21 Finset.univ) ∗ Any (F := F) c M22 Finset.univ ∗ Any (F := F) c M25 Finset.univ)

/-- The buffers that every block reads: the ones, the scale and the shift as columns. -/
abbrev Consts (M5 : Buf S16x128 .bf16) (M13 M14 : Buf S320x128 .f32) (u5 : F .bf16) (ga be : ℕ → ℕ → F .f32) : sProp 𝕄 :=
  iprop(Has c M5 Finset.univ (fun _ => u5) ∗ Has c M13 Finset.univ (cells ga) ∗ Has c M14 Finset.univ (cells be))

section
variable {B : Blk} {T : Tail} {b : Fin 4} {second : Bool} {M1 : Memref sig .tc .hbm S2x320x16384 .fp8e5m2} {h1 : M1.IsWhole}
  {M5 : Buf S16x128 .bf16} {M10 : Buf S2x160x16384 .bf16} {M11 : Buf S2x160x16384 .fp8e5m2} {h11 : M11.IsWhole} {M12 : Buf S4x160x16384 .f32}
  {M13 M14 : Buf S320x128 .f32} {M15 M16 M17 M18 : Buf S160x128 .f32} {M19 : Buf S16x128 .f32} {M20 M21 M22 : Buf S160x128 .f32}
  {M23 M24 : Buf S320x128 .f32} {M25 : Buf S32x128 .f32} {S27 : DmaSems sig S2} {v0 : F .f32}

theorem fin_spec {sl : ℕ} (G : T.Good sl) {rs mu ga : V160 F} {k : K F α} {Q : α → sProp 𝕄} {P : sProp 𝕄}
    (h10 : Lends c P M10 (slotS sl)) (h12 : Lends c P M12 Finset.univ) (h15 : Lends c P M15 Finset.univ) (h16 : Lends c P M16 Finset.univ) (h20 : Lends c P M20 Finset.univ)
    (h21 : Lends c P M21 Finset.univ) (h22 : Lends c P M22 Finset.univ) (h25 : Lends c P M25 Finset.univ) :
    P ⊢ iprop((P -∗ Run c k Q) -∗ Run c (fin T M10 M12 M15 M16 M20 M21 M22 M25 v0 rs mu ga k) Q) := by
  have e : iprop(P ∗ (P -∗ Run c k Q)) ⊢ Run c (fin T M10 M12 M15 M16 M20 M21 M22 M25 v0 rs mu ga k) Q :=
    fin_safe c G (lends_left c h10) (lends_left c h12) (lends_left c h15) (lends_left c h16) (lends_left c h20) (lends_left c h21) (lends_left c h22) (lends_left c h25) (by
      iintro ⟨H, Hk⟩; iapply Hk; iexact H)
  iintro H Hk
  iapply e
  isplitl [H]; · iexact H
  iexact Hk

/-- A block's mean and inverse deviation. -/
abbrev muB (u5 : F .bf16) (X : S2x320x16384.Idx → F .bf16) (b : ℕ) : ℕ → ℕ → F .f32 := muV (FloatOps.extf .f32 bitsLt_bf16_f32 u5) (blockOf X b)
abbrev rsB (u5 : F .bf16) (X : S2x320x16384.Idx → F .bf16) (b : ℕ) : ℕ → ℕ → F .f32 := rsV (FloatOps.extf .f32 bitsLt_bf16_f32 u5) (blockOf X b)

/-- A block's share of `dgamma` and of `dbeta`. -/
def gamOf (u5 : F .bf16) (ga be : ℕ → ℕ → F .f32) (X : S2x320x16384.Idx → F .bf16) (D : S2x320x16384.Idx → F .fp8e5m2) (v0 : F .f32) (b : ℕ) : V160 F :=
  gammaV (muB u5 X b) (rsB u5 X b) (fun row lane => ga (160 * (b % 2) + row) lane) (fun row lane => be (160 * (b % 2) + row) lane) (blockOf X b) (blockOf D b) v0
def betOf (u5 : F .bf16) (ga be : ℕ → ℕ → F .f32) (X : S2x320x16384.Idx → F .bf16) (D : S2x320x16384.Idx → F .fp8e5m2) (v0 : F .f32) (b : ℕ) : V160 F :=
  betaV (muB u5 X b) (rsB u5 X b) (fun row lane => ga (160 * (b % 2) + row) lane) (fun row lane => be (160 * (b % 2) + row) lane) (blockOf X b) (blockOf D b) v0

theorem block_spec (G : B.Good (b.val % 2) (b.val % 2) b.val) (GT : T.Good (b.val % 2)) {u5 : F .bf16} {ga be : ℕ → ℕ → F .f32}
    {X : S2x320x16384.Idx → F .bf16} {D : S2x320x16384.Idx → F .fp8e5m2} {old23 old24 : V160 F} {k : K F α} {Q : α → sProp 𝕄} :
    iprop(Has c M10 (slotS (b.val % 2)) (slotV (e := .bf16) (F := F) b X) ∗ Sent c M1 M11 S27 b D ∗ Owes (F := F) c ∗ Consts c M5 M13 M14 u5 ga be ∗
      Tools (F := F) c M12 M15 M16 M17 M18 M19 M20 M21 M22 M25 ∗ Rows c M23 (b.val % 2) second old23 ∗ Rows c M24 (b.val % 2) second old24)
    ⊢ iprop((iprop((Any (F := F) c M10 (slotS (b.val % 2)) ∗ Any (F := F) c M11 (slotS (b.val % 2))) ∗ (Has c M1 (bR b).set D ∗ Idle (F := F) c (sem2 S27 b)) ∗ Owes (F := F) c ∗ Consts c M5 M13 M14 u5 ga be ∗
      Tools (F := F) c M12 M15 M16 M17 M18 M19 M20 M21 M22 M25 ∗
      Has c M23 (halfS (b.val % 2)) (halfV (b.val % 2) (plus second old23 (gamOf u5 ga be X D v0 b.val))) ∗
      Has c M24 (halfS (b.val % 2)) (halfV (b.val % 2) (plus second old24 (betOf u5 ga be X D v0 b.val)))) -∗ Run c k Q) -∗
      Run c (blockP B T b second h1 M5 M10 h11 M12 M13 M14 M15 M16 M17 M18 M19 M20 M21 M22 M23 M24 M25 S27 v0 k) Q) := by
  unfold blockP Consts Tools
  iintro ⟨H10, HS, HO, ⟨H5, H13, H14⟩, ⟨H12, ⟨H15, H16⟩, ⟨H17, H18⟩, H19, ⟨H20, H21⟩, H22, H25⟩, H23, H24⟩ Hk
  iapply (stats_spec c G (xb := blockOf X b.val) (fun i _ => rfl)) $$ [H5 H10 H15 H16 H17 H18 H19]
  · isplitl [H5]; · iexact H5
    isplitl [H10]; · iexact H10
    isplitl [H15]; · iexact H15
    isplitl [H16]; · iexact H16
    isplitl [H17]; · iexact H17
    isplitl [H18]; · iexact H18
    iexact H19
  iintro %v %w ⟨H5, H10, H15, H16, H17, H18, H19⟩
  iapply (get_spec c) $$ [HS HO]
  · isplitl [HS]; · iexact HS
    iexact HO
  iintro ⟨⟨H1, H11⟩, HI, HO⟩
  iapply (grad_spec c G (xb := blockOf X b.val) (db := blockOf D b.val) (fun i _ => rfl) (fun i _ => rfl)) $$ [H10 H11 H12 H13 H14 H15 H16 H17 H18 H20 H21 H23 H24]
  · isplitl [H10 H11 H12]
    · isplitl [H10]; · iexact H10
      isplitl [H11]; · iexact H11
      iexact H12
    isplitl [H13 H14]
    · isplitl [H13]; · iexact H13
      iexact H14
    isplitl [H15 H16]
    · isplitl [H15]; · iexact H15
      iexact H16
    isplitl [H17 H18]
    · isplitl [H17]; · iexact H17
      iexact H18
    isplitl [H20 H21]
    · isplitl [H20]; · iexact H20
      iexact H21
    isplitl [H23]; · iexact H23
    iexact H24
  iintro %rs %mu %ga' ⟨⟨H10, H11, H12⟩, ⟨H13, H14⟩, ⟨H15, H16⟩, ⟨H17, H18⟩, ⟨H20, H21⟩, H23, H24⟩
  ihave H10 := (any_of_has (c := c)) $$ H10
  ihave H11 := (any_of_has (c := c)) $$ H11
  iapply (fin_spec c GT (M10 := M10) (M12 := M12) (M15 := M15) (M16 := M16) (M20 := M20) (M21 := M21) (M22 := M22) (M25 := M25)
    (P := iprop(Any (F := F) c M10 (slotS (b.val % 2)) ∗ Any (F := F) c M12 Finset.univ ∗ Any (F := F) c M15 Finset.univ ∗ Any (F := F) c M16 Finset.univ ∗
      Any (F := F) c M20 Finset.univ ∗ Any (F := F) c M21 Finset.univ ∗ Any (F := F) c M22 Finset.univ ∗ Any (F := F) c M25 Finset.univ))
    (lends_left c (lends_here c)) (lends_right c (lends_left c (lends_here c))) (lends_right c (lends_right c (lends_left c (lends_here c))))
    (lends_right c (lends_right c (lends_right c (lends_left c (lends_here c))))) (lends_right c (lends_right c (lends_right c (lends_right c (lends_left c (lends_here c))))))
    (lends_right c (lends_right c (lends_right c (lends_right c (lends_right c (lends_left c (lends_here c)))))))
    (lends_right c (lends_right c (lends_right c (lends_right c (lends_right c (lends_right c (lends_left c (lends_here c))))))))
    (lends_right c (lends_right c (lends_right c (lends_right c (lends_right c (lends_right c (lends_right c (lends_here c))))))))) $$ [H10 H12 H15 H16 H20 H21 H22 H25]
  · isplitl [H10]; · iexact H10
    isplitl [H12]; · iexact H12
    isplitl [H15]; · iexact H15
    isplitl [H16]; · iexact H16
    isplitl [H20]; · iexact H20
    isplitl [H21]; · iexact H21
    isplitl [H22]; · iexact H22
    iexact H25
  iintro ⟨H10, H12, H15, H16, H20, H21, H22, H25⟩
  iapply Hk
  isplitl [H10 H11]
  · isplitl [H10]; · iexact H10
    iexact H11
  isplitl [H1 HI]
  · isplitl [H1]; · iexact H1
    iexact HI
  isplitl [HO]; · iexact HO
  isplitl [H5 H13 H14]
  · isplitl [H5]; · iexact H5
    isplitl [H13]; · iexact H13
    iexact H14
  isplitl [H12 H15 H16 H17 H18 H19 H20 H21 H22 H25]
  · isplitl [H12]; · iexact H12
    isplitl [H15 H16]
    · isplitl [H15]; · iexact H15
      iexact H16
    isplitl [H17 H18]
    · isplitl [H17]; · iexact H17
      iexact H18
    isplitl [H19]; · iexact H19
    isplitl [H20 H21]
    · isplitl [H20]; · iexact H20
      iexact H21
    isplitl [H22]; · iexact H22
    iexact H25
  isplitl [H23]; · iexact H23
  iexact H24
end

/-! ## Parts of an array -/

section
variable {sp : Space} {s : Shape} {e : EltTy} (m : Memref sig .tc sp s e)

theorem any_parts {ι : Type} [DecidableEq ι] (T : ι → Finset s.Idx) (I : Finset ι) : ∀ (S : Finset s.Idx), (∀ i ∈ I, T i ⊆ S) → (∀ i ∈ I, ∀ j ∈ I, i ≠ j → Disjoint (T i) (T j)) →
    Any (F := F) c m S ⊢ iprop(bigSep I (fun i => Any (F := F) c m (T i)) ∗ (bigSep I (fun i => Any (F := F) c m (T i)) -∗ Any (F := F) c m S)) := by
  induction I using Finset.induction_on with
  | empty =>
    intro S _ _
    rw [bigSep_empty]
    refine BIBase.Entails.trans (show Any (F := F) c m S ⊢ iprop(BI.emp ∗ Any (F := F) c m S) from BIClass.emp_sep.mpr) ?_
    iintro ⟨He, H⟩
    isplitl [He]; · iexact He
    iintro _; iexact H
  | insert i I hi ih =>
    intro S hS hd
    have e1 : bigSep (insert i I) (fun i => Any (F := F) c m (T i)) = iprop(Any (F := F) c m (T i) ∗ bigSep I (fun i => Any (F := F) c m (T i))) := bigSep_insert hi
    rw [e1]
    have hsub : ∀ j ∈ I, T j ⊆ S \ T i := fun j hj x hx => Finset.mem_sdiff.mpr ⟨hS j (Finset.mem_insert_of_mem hj) hx, fun hx' =>
      Finset.disjoint_left.mp (hd j (Finset.mem_insert_of_mem hj) i (Finset.mem_insert_self _ _) (fun e => hi (e ▸ hj))) hx hx'⟩
    refine BIBase.Entails.trans (any_split c (hS i (Finset.mem_insert_self _ _))) ?_
    iintro ⟨H1, H2⟩
    ihave H2 := (ih (S \ T i) hsub (fun a ha b hb => hd a (Finset.mem_insert_of_mem ha) b (Finset.mem_insert_of_mem hb))) $$ H2
    icases H2 with ⟨H2, HB⟩
    isplitl [H1 H2]
    · isplitl [H1]; · iexact H1
      iexact H2
    iintro ⟨H1, H2⟩
    iapply (any_join c (hS i (Finset.mem_insert_self _ _)))
    isplitl [H1]; · iexact H1
    iapply HB; iexact H2

variable {m} in
theorem has_four {V : s.Idx → Elt F e} (T : Fin 4 → Finset s.Idx) (hd : ∀ i j, i ≠ j → Disjoint (T i) (T j)) :
    Has c m Finset.univ V ⊢ iprop(Has c m (T 0) V ∗ Has c m (T 1) V ∗ Has c m (T 2) V ∗ Has c m (T 3) V ∗
      (Has c m (T 0) V -∗ Has c m (T 1) V -∗ Has c m (T 2) V -∗ Has c m (T 3) V -∗ Has c m Finset.univ V)) := by
  have a (i j : Fin 4) (h : i ≠ j) {S : Finset s.Idx} (hS : T i ⊆ S) : T i ⊆ S \ T j :=
    fun x hx => Finset.mem_sdiff.mpr ⟨hS hx, fun hx' => Finset.disjoint_left.mp (hd i j h) hx hx'⟩
  have s0 : T 0 ⊆ Finset.univ := Finset.subset_univ _
  have s1 : T 1 ⊆ Finset.univ \ T 0 := a 1 0 (by decide) (Finset.subset_univ _)
  have s2 : T 2 ⊆ (Finset.univ \ T 0) \ T 1 := a 2 1 (by decide) (a 2 0 (by decide) (Finset.subset_univ _))
  have s3 : T 3 ⊆ ((Finset.univ \ T 0) \ T 1) \ T 2 := a 3 2 (by decide) (a 3 1 (by decide) (a 3 0 (by decide) (Finset.subset_univ _)))
  iintro H
  ihave H := (has_split c s0) $$ H
  icases H with ⟨H0, H⟩
  ihave H := (has_split c s1) $$ H
  icases H with ⟨H1, H⟩
  ihave H := (has_split c s2) $$ H
  icases H with ⟨H2, H⟩
  ihave H := (has_split c s3) $$ H
  icases H with ⟨H3, H⟩
  isplitl [H0]; · iexact H0
  isplitl [H1]; · iexact H1
  isplitl [H2]; · iexact H2
  isplitl [H3]; · iexact H3
  iintro H0 H1 H2 H3
  iapply (has_join c s0); isplitl [H0]; · iexact H0
  iapply (has_join c s1); isplitl [H1]; · iexact H1
  iapply (has_join c s2); isplitl [H2]; · iexact H2
  iapply (has_join c s3); isplitl [H3]; · iexact H3
  iexact H
end

theorem bR_apart (i j : Fin 4) (h : i ≠ j) : Disjoint (bR i).set (bR j).set := by
  rw [Finset.disjoint_left]
  intro x hx hx'
  rw [Rect.mem_set_unit] at hx hx'
  have a0 : i.val / 2 ≤ (x 0).val ∧ (x 0).val < i.val / 2 + 1 := hx 0
  have a1 : 160 * (i.val % 2) ≤ (x 1).val ∧ (x 1).val < 160 * (i.val % 2) + 160 := hx 1
  have b0 : j.val / 2 ≤ (x 0).val ∧ (x 0).val < j.val / 2 + 1 := hx' 0
  have b1 : 160 * (j.val % 2) ≤ (x 1).val ∧ (x 1).val < 160 * (j.val % 2) + 160 := hx' 1
  exact h (Fin.ext (by omega))

theorem slotS_rest : (Finset.univ : Finset S2x160x16384.Idx) \ slotS 0 = slotS 1 := by
  ext x
  have h : (x 0).val < 2 := (x 0).isLt
  rw [Finset.mem_sdiff, mem_slotS, mem_slotS]
  constructor
  · intro h'; have := h'.2; omega
  · intro h'; exact ⟨Finset.mem_univ _, by omega⟩

theorem halfS_rest : (Finset.univ : Finset S320x128.Idx) \ halfS 0 = halfS 1 := by
  ext x
  have h : (x 0).val < 320 := (x 0).isLt
  rw [Finset.mem_sdiff, mem_halfS, mem_halfS]
  constructor
  · intro h'; have := h'.2; omega
  · intro h'; exact ⟨Finset.mem_univ _, by omega⟩

theorem slots_open {e : EltTy} {M : Buf S2x160x16384 e} : Any (F := F) c M Finset.univ ⊢ iprop(Any (F := F) c M (slotS 0) ∗ Any (F := F) c M (slotS 1)) := by
  rw [← slotS_rest]; exact any_split c (Finset.subset_univ _)

theorem slots_close {e : EltTy} {M : Buf S2x160x16384 e} : iprop(Any (F := F) c M (slotS 0) ∗ Any (F := F) c M (slotS 1)) ⊢ Any (F := F) c M Finset.univ := by
  rw [← slotS_rest]; exact any_join c (Finset.subset_univ _)

theorem halves_open {M : Buf S320x128 .f32} : Any (F := F) c M Finset.univ ⊢ iprop(Any (F := F) c M (halfS 0) ∗ Any (F := F) c M (halfS 1)) := by
  rw [← halfS_rest]; exact any_split c (Finset.subset_univ _)

/-- The two halves of a column. -/
def two (w0 w1 : V160 F) : S320x128.Idx → F .f32 := fun i => if (i 0).val < 160 then halfV 0 w0 i else halfV 1 w1 i

theorem halves_close {M : Buf S320x128 .f32} {w0 w1 : V160 F} : iprop(Has c M (halfS 0) (halfV 0 w0) ∗ Has c M (halfS 1) (halfV 1 w1)) ⊢ Has c M Finset.univ (two w0 w1) := by
  have h0 : Has c M (halfS 0) (halfV 0 w0) ⊢ Has c M (halfS 0) (two w0 w1) := has_congr c (fun x hx => (if_pos (by have := mem_halfS.mp hx; omega)).symm)
  have h1 : Has c M (halfS 1) (halfV 1 w1) ⊢ Has c M (Finset.univ \ halfS 0) (two w0 w1) := by
    rw [halfS_rest]
    exact has_congr c (fun x hx => (if_neg (by have := mem_halfS.mp hx; omega)).symm)
  refine BIBase.Entails.trans ?_ (has_join c (Finset.subset_univ (halfS 0)))
  iintro ⟨H0, H1⟩
  isplitl [H0]
  · iapply h0; iexact H0
  · iapply h1; iexact H1

/-! ## The ten parts of the codes -/

theorem win_apart (i j : Fin 10) (h : i ≠ j) : Disjoint (win i) (win j) := by
  rw [Finset.disjoint_left]
  intro x hx hx'
  rw [mem_win] at hx hx'
  exact h (Fin.ext (by omega))

theorem outs_apart (i j : Fin 10) (h : i ≠ j) : Disjoint (outs i) (outs j) := by
  rw [Finset.disjoint_left]
  intro x hx hx'
  rw [mem_outs] at hx hx'
  exact h (Fin.ext (by omega))

theorem parts_open (M6 : Memref sig .tc .hbm S2x320x16384 .fp8e5m2) (M11 : Buf S2x160x16384 .fp8e5m2) (S : DmaSems sig S10) :
    iprop(Any (F := F) c M11 Finset.univ ∗ Any (F := F) c M6 Finset.univ ∗ bigSep Finset.univ fun k => Idle (F := F) c (semOf S k))
      ⊢ iprop(Slots (F := F) c M6 M11 S (fun _ => none) ∗ (Slots (F := F) c M6 M11 S (fun _ => none) -∗
          (Any (F := F) c M11 Finset.univ ∗ Any (F := F) c M6 Finset.univ ∗ bigSep Finset.univ fun k => Idle (F := F) c (semOf S k)))) := by
  have e : Slots (F := F) c M6 M11 S (fun _ => none) = iprop((bigSep Finset.univ fun k => Any (F := F) c M11 (win k)) ∗ (bigSep Finset.univ fun k => Any (F := F) c M6 (outs k)) ∗
      bigSep Finset.univ fun k => Idle (F := F) c (semOf S k)) := by
    unfold Slots
    refine (bigSep_sep Finset.univ (fun k => Any (F := F) c M11 (win k)) (fun k => iprop(Any (F := F) c M6 (outs k) ∗ Idle (F := F) c (semOf S k)))).trans ?_
    rw [show (bigSep Finset.univ fun k => iprop(Any (F := F) c M6 (outs k) ∗ Idle (F := F) c (semOf S k))) = _ from
      bigSep_sep Finset.univ (fun k => Any (F := F) c M6 (outs k)) (fun k => Idle (F := F) c (semOf S k))]
    rfl
  rw [e]
  iintro ⟨H11, H6, HI⟩
  ihave H11 := (any_parts (F := F) c M11 win Finset.univ Finset.univ (fun _ _ => Finset.subset_univ _) (fun i _ j _ => win_apart i j)) $$ H11
  icases H11 with ⟨H11, B11⟩
  ihave H6 := (any_parts (F := F) c M6 outs Finset.univ Finset.univ (fun _ _ => Finset.subset_univ _) (fun i _ j _ => outs_apart i j)) $$ H6
  icases H6 with ⟨H6, B6⟩
  isplitl [H11 H6 HI]
  · isplitl [H11]; · iexact H11
    isplitl [H6]; · iexact H6
    iexact HI
  iintro ⟨H11, H6, HI⟩
  isplitl [H11 B11]; · iapply B11; iexact H11
  isplitl [H6 B6]; · iapply B6; iexact H6
  iexact HI

end Cert.Proof.KernelIdeal

end
-- ==== Proof.Run.lean ====
/-
  The region run: the two result rows as functions of the inputs, everything else given back.
-/
module

public import proofs.«01_k».proof.Proof.BlockRun

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type}

theorem run_ret {β : Type} {H : sProp 𝕄} {a : β} {Q : β → sProp 𝕄} (h : H ⊢ Q a) : H ⊢ Run c (.ret a) Q := by
  refine BIBase.Entails.trans h ?_
  iintro H
  iapply (le_wp_ret _ _); iexact H

section
variable {M0 : Memref sig .tc .hbm S2x320x16384 .bf16} {h0 : M0.IsWhole} {M1 : Memref sig .tc .hbm S2x320x16384 .fp8e5m2} {h1 : M1.IsWhole}
  {M2 M3 : Buf S1x320 .f32} {M4 : Memref sig .tc .smem S1x1 .f32} {M10 : Buf S2x160x16384 .bf16} {h10 : M10.IsWhole} {M11 : Buf S2x160x16384 .fp8e5m2} {h11 : M11.IsWhole}
  {M13 M14 : Buf S320x128 .f32} {M25 : Buf S32x128 .f32} {S26 S27 : DmaSems sig S2}

theorem first_spec {v0 : F .f32} {X : S2x320x16384.Idx → F .bf16} {D : S2x320x16384.Idx → F .fp8e5m2} {G E : S1x320.Idx → F .f32} {k : F .f32 → K F α} {Q : α → sProp 𝕄} :
    iprop(Has c M4 Finset.univ (fun _ => v0) ∗ (Has c M0 (bR 0).set X ∗ Has c M0 (bR 1).set X) ∗ (Has c M1 (bR 0).set D ∗ Has c M1 (bR 1).set D) ∗
      (Any (F := F) c M10 (slotS 0) ∗ Any (F := F) c M10 (slotS 1)) ∗ (Any (F := F) c M11 (slotS 0) ∗ Any (F := F) c M11 (slotS 1)) ∗
      (Idle (F := F) c (sem2 S26 0) ∗ Idle (F := F) c (sem2 S26 1)) ∗ (Idle (F := F) c (sem2 S27 0) ∗ Idle (F := F) c (sem2 S27 1)) ∗
      (Has c M2 Finset.univ G ∗ Any (F := F) c M13 Finset.univ) ∗ (Has c M3 Finset.univ E ∗ Any (F := F) c M14 Finset.univ) ∗ Any (F := F) c M25 Finset.univ ∗ Owes (F := F) c)
    ⊢ iprop((iprop(Has c M4 Finset.univ (fun _ => v0) ∗ (Has c M0 (bR 0).set X ∗ Has c M10 (slotS 0) (slotV (e := .bf16) (F := F) 0 X) ∗ Idle (F := F) c (sem2 S26 0)) ∗
      Sent c M0 M10 S26 1 X ∗ (Sent c M1 M11 S27 0 D ∗ Sent c M1 M11 S27 1 D) ∗
      (Has c M2 Finset.univ G ∗ Has c M13 Finset.univ (cells (colOf G))) ∗ (Has c M3 Finset.univ E ∗ Has c M14 Finset.univ (cells (colOf E))) ∗ Any (F := F) c M25 Finset.univ ∗ Owes (F := F) c) -∗
        Run c (k v0) Q) -∗ Run c (firstP h1 h11 M13 M14 M25 S27 h0 h10 M2 M3 M4 S26 k) Q) := by
  unfold firstP
  iintro ⟨H4, ⟨X0, X1⟩, ⟨D0, D1⟩, ⟨A0, A1⟩, ⟨B0, B1⟩, ⟨I0, I1⟩, ⟨J0, J1⟩, ⟨H2, H13⟩, ⟨H3, H14⟩, H25, HO⟩ Hk
  iapply (has_load c (m := M4) (V := fun _ => v0) (Finset.subset_univ _)) $$ H4
  iintro H4
  iapply (go_spec c) $$ [X0 A0 I0]
  · isplitl [X0]; · iexact X0
    isplitl [A0]; · iexact A0
    iexact I0
  iintro T0
  iapply (go_spec c) $$ [D0 B0 J0]
  · isplitl [D0]; · iexact D0
    isplitl [B0]; · iexact B0
    iexact J0
  iintro U0
  iapply (go_spec c) $$ [X1 A1 I1]
  · isplitl [X1]; · iexact X1
    isplitl [A1]; · iexact A1
    iexact I1
  iintro T1
  iapply (go_spec c) $$ [D1 B1 J1]
  · isplitl [D1]; · iexact D1
    isplitl [B1]; · iexact B1
    iexact J1
  iintro U1
  iapply (cols_spec c) $$ [H2 H13]
  · isplitl [H2]; · iexact H2
    iexact H13
  iintro %_ ⟨H2, H13⟩
  iapply (cols_spec c) $$ [H3 H14]
  · isplitl [H3]; · iexact H3
    iexact H14
  iintro %_ ⟨H3, H14⟩
  iapply (any_load c (Finset.subset_univ _)) $$ H25
  iintro %_ H25
  iapply (any_store c (Finset.subset_univ _)) $$ H25
  iintro H25
  iapply (get_spec c) $$ [T0 HO]
  · isplitl [T0]; · iexact T0
    iexact HO
  iintro ⟨⟨X0, A0⟩, I0, HO⟩
  iapply Hk
  isplitl [H4]; · iexact H4
  isplitl [X0 A0 I0]
  · isplitl [X0]; · iexact X0
    isplitl [A0]; · iexact A0
    iexact I0
  isplitl [T1]; · iexact T1
  isplitl [U0 U1]
  · isplitl [U0]; · iexact U0
    iexact U1
  isplitl [H2 H13]
  · isplitl [H2]; · iexact H2
    iexact H13
  isplitl [H3 H14]
  · isplitl [H3]; · iexact H3
    iexact H14
  isplitl [H25]; · iexact H25
  iexact HO

/-- Two transfers started and one awaited, between two blocks. -/
theorem next_spec {p : Fin 4} {q : Fin 4} {X : S2x320x16384.Idx → F .bf16} {D : S2x320x16384.Idx → F .fp8e5m2} {k : K F α} {Q : α → sProp 𝕄} :
    iprop((Has c M0 (bR p).set X ∗ Any (F := F) c M10 (slotS (p.val % 2)) ∗ Idle (F := F) c (sem2 S26 p)) ∗ (Has c M1 (bR p).set D ∗ Any (F := F) c M11 (slotS (p.val % 2)) ∗ Idle (F := F) c (sem2 S27 p)) ∗
      Sent c M0 M10 S26 q X ∗ Owes (F := F) c)
    ⊢ iprop((iprop((Sent c M0 M10 S26 p X ∗ Sent c M1 M11 S27 p D) ∗ (Has c M0 (bR q).set X ∗ Has c M10 (slotS (q.val % 2)) (slotV (e := .bf16) (F := F) q X) ∗ Idle (F := F) c (sem2 S26 q)) ∗ Owes (F := F) c) -∗
        Run c k Q) -∗ Run c (goX h0 h10 S26 p <| goD h1 h11 S27 p <| getX h0 h10 S26 q k) Q) := by
  iintro ⟨⟨X0, A0, I0⟩, ⟨D0, B0, J0⟩, T1, HO⟩ Hk
  iapply (go_spec c) $$ [X0 A0 I0]
  · isplitl [X0]; · iexact X0
    isplitl [A0]; · iexact A0
    iexact I0
  iintro T0
  iapply (go_spec c) $$ [D0 B0 J0]
  · isplitl [D0]; · iexact D0
    isplitl [B0]; · iexact B0
    iexact J0
  iintro U0
  iapply (get_spec c) $$ [T1 HO]
  · isplitl [T1]; · iexact T1
    iexact HO
  iintro ⟨⟨X1, A1⟩, I1, HO⟩
  iapply Hk
  isplitl [T0 U0]
  · isplitl [T0]; · iexact T0
    iexact U0
  isplitl [X1 A1 I1]
  · isplitl [X1]; · iexact X1
    isplitl [A1]; · iexact A1
    iexact I1
  iexact HO
end

/-! ## The end -/

section
variable {M6 : Memref sig .tc .hbm S2x320x16384 .fp8e5m2} {h6 : M6.IsWhole} {M11 : Buf S2x160x16384 .fp8e5m2} {h11 : M11.IsWhole} {M12 : Buf S4x160x16384 .f32}
  {S : DmaSems sig S10} {inv : V32 F}

theorem last_run {R P : sProp 𝕄} (hP : Held (F := F) c M6 M11 M12 S R (fun _ => none) ⊢ P) :
    Held (F := F) c M6 M11 M12 S R mid ⊢ Run c (steps M6 h6 M11 h11 M12 S inv lastSteps (.ret PUnit.unit)) (fun _ => P) :=
  steps_safe c (run_ret c hP) lastSteps mid lastSteps_fit

theorem codes_run {P : sProp 𝕄} {M7 : Memref sig .tc .smem S1x1 .f32} {M25 : Buf S32x128 .f32} :
    iprop((Any (F := F) c M12 Finset.univ ∗ Owes (F := F) c ∗ Any (F := F) c M7 Finset.univ ∗ Any (F := F) c M25 Finset.univ ∗ Slots (F := F) c M6 M11 S (fun _ => none)) ∗
      ((Any (F := F) c M12 Finset.univ ∗ Owes (F := F) c ∗ Any (F := F) c M7 Finset.univ ∗ Any (F := F) c M25 Finset.univ ∗ Slots (F := F) c M6 M11 S (fun _ => none)) -∗ P))
    ⊢ Run c (codes M6 h6 M11 h11 M12 S M7 M25 (.ret PUnit.unit)) (fun _ => Run c (steps M6 h6 M11 h11 M12 S inv lastSteps (.ret PUnit.unit)) (fun _ => P)) := by
  have hP : Held (F := F) c M6 M11 M12 S (iprop((Any (F := F) c M7 Finset.univ ∗ Any (F := F) c M25 Finset.univ) ∗
      ((Any (F := F) c M12 Finset.univ ∗ Owes (F := F) c ∗ Any (F := F) c M7 Finset.univ ∗ Any (F := F) c M25 Finset.univ ∗ Slots (F := F) c M6 M11 S (fun _ => none)) -∗ P))) (fun _ => none) ⊢ P := by
    unfold Held
    iintro ⟨H12, HO, ⟨⟨H7, H25⟩, HR⟩, HS⟩
    iapply HR
    isplitl [H12]; · iexact H12
    isplitl [HO]; · iexact HO
    isplitl [H7]; · iexact H7
    isplitl [H25]; · iexact H25
    iexact HS

  have hm := last_run (h6 := h6) (h11 := h11) (inv := inv) c hP
  have hc := codes_safe (h6 := h6) (h11 := h11) c (run_ret (β := PUnit) (a := ⟨⟩) (Q := fun _ => Run c (steps M6 h6 M11 h11 M12 S inv lastSteps (.ret PUnit.unit)) (fun _ => P)) c hm)
  refine BIBase.Entails.trans ?_ hc
  unfold Held
  iintro ⟨⟨H12, HO, H7, H25, HS⟩, HR⟩
  isplitl [H12]; · iexact H12
  isplitl [HO]; · iexact HO
  isplitl [H7 H25 HR]
  · isplitl [H7 H25]
    · isplitl [H7]; · iexact H7
      iexact H25
    iexact HR
  iexact HS
end

/-! ## The whole -/

/-- The results: the sums over the channels, from the inputs' elements. -/
def dgammaOf (u5 : F .bf16) (X : S2x320x16384.Idx → F .bf16) (D : S2x320x16384.Idx → F .fp8e5m2) (G E : S1x320.Idx → F .f32) (v0 : F .f32) : S1x320.Idx → F .f32 :=
  rowOf (two (addf (gamOf u5 (colOf G) (colOf E) X D v0 0) (gamOf u5 (colOf G) (colOf E) X D v0 2)) (addf (gamOf u5 (colOf G) (colOf E) X D v0 1) (gamOf u5 (colOf G) (colOf E) X D v0 3)))
def dbetaOf (u5 : F .bf16) (X : S2x320x16384.Idx → F .bf16) (D : S2x320x16384.Idx → F .fp8e5m2) (G E : S1x320.Idx → F .f32) (v0 : F .f32) : S1x320.Idx → F .f32 :=
  rowOf (two (addf (betOf u5 (colOf G) (colOf E) X D v0 0) (betOf u5 (colOf G) (colOf E) X D v0 2)) (addf (betOf u5 (colOf G) (colOf E) X D v0 1) (betOf u5 (colOf G) (colOf E) X D v0 3)))

variable
  (arg0 : Memref sig .tc .hbm S2x320x16384 .bf16) (harg0 : arg0.IsWhole) (arg1 : Memref sig .tc .hbm S2x320x16384 .fp8e5m2) (harg1 : arg1.IsWhole) (arg2 : Memref sig .tc .vmem S1x320 .f32) (harg2 : arg2.IsWhole) (arg3 : Memref sig .tc .vmem S1x320 .f32) (harg3 : arg3.IsWhole) (arg4 : Memref sig .tc .smem S1x1 .f32) (harg4 : arg4.IsWhole) (arg5 : Memref sig .tc .vmem S16x128 .bf16) (harg5 : arg5.IsWhole) (arg6 : Memref sig .tc .hbm S2x320x16384 .fp8e5m2) (harg6 : arg6.IsWhole) (arg7 : Memref sig .tc .smem S1x1 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S2x160x16384 .bf16) (harg10 : arg10.IsWhole) (arg11 : Memref sig .tc .vmem S2x160x16384 .fp8e5m2) (harg11 : arg11.IsWhole) (arg12 : Memref sig .tc .vmem S4x160x16384 .f32) (harg12 : arg12.IsWhole) (arg13 : Memref sig .tc .vmem S320x128 .f32) (harg13 : arg13.IsWhole) (arg14 : Memref sig .tc .vmem S320x128 .f32) (harg14 : arg14.IsWhole) (arg15 : Memref sig .tc .vmem S160x128 .f32) (harg15 : arg15.IsWhole) (arg16 : Memref sig .tc .vmem S160x128 .f32) (harg16 : arg16.IsWhole) (arg17 : Memref sig .tc .vmem S160x128 .f32) (harg17 : arg17.IsWhole) (arg18 : Memref sig .tc .vmem S160x128 .f32) (harg18 : arg18.IsWhole) (arg19 : Memref sig .tc .vmem S16x128 .f32) (harg19 : arg19.IsWhole) (arg20 : Memref sig .tc .vmem S160x128 .f32) (harg20 : arg20.IsWhole) (arg21 : Memref sig .tc .vmem S160x128 .f32) (harg21 : arg21.IsWhole) (arg22 : Memref sig .tc .vmem S160x128 .f32) (harg22 : arg22.IsWhole) (arg23 : Memref sig .tc .vmem S320x128 .f32) (harg23 : arg23.IsWhole) (arg24 : Memref sig .tc .vmem S320x128 .f32) (harg24 : arg24.IsWhole) (arg25 : Memref sig .tc .vmem S32x128 .f32) (harg25 : arg25.IsWhole) (arg26 : DmaSems sig S2) (arg27 : DmaSems sig S2) (arg28 : DmaSems sig S10)

/-- The inputs. -/
def Inputs (u5 : F .bf16) (X : S2x320x16384.Idx → F .bf16) (D : S2x320x16384.Idx → F .fp8e5m2) (G E : S1x320.Idx → F .f32) (v0 : F .f32) : sProp 𝕄 :=
  iprop(Has c arg0 Finset.univ X ∗ Has c arg1 Finset.univ D ∗ Has c arg2 Finset.univ G ∗ Has c arg3 Finset.univ E ∗ Has c arg4 Finset.univ (fun _ => v0) ∗ Has c arg5 Finset.univ (fun _ => u5))

/-- The buffers and semaphores of the region's own. -/
def Scratch : sProp 𝕄 :=
  iprop(Any (F := F) c arg10 Finset.univ ∗ Any (F := F) c arg11 Finset.univ ∗ Any (F := F) c arg13 Finset.univ ∗ Any (F := F) c arg14 Finset.univ ∗ Any (F := F) c arg23 Finset.univ ∗
    Any (F := F) c arg24 Finset.univ ∗ Tools (F := F) c arg12 arg15 arg16 arg17 arg18 arg19 arg20 arg21 arg22 arg25 ∗
    (Idle (F := F) c (sem2 arg26 0) ∗ Idle (F := F) c (sem2 arg26 1)) ∗ (Idle (F := F) c (sem2 arg27 0) ∗ Idle (F := F) c (sem2 arg27 1)) ∗
    bigSep Finset.univ fun k => Idle (F := F) c (semOf arg28 k))

set_option maxHeartbeats 400000

theorem region_spec {u5 : F .bf16} {X : S2x320x16384.Idx → F .bf16} {D : S2x320x16384.Idx → F .fp8e5m2} {G E : S1x320.Idx → F .f32} {v0 : F .f32} :
    iprop(Inputs c arg0 arg1 arg2 arg3 arg4 arg5 u5 X D G E v0 ∗ (Any (F := F) c arg6 Finset.univ ∗ Any (F := F) c arg7 Finset.univ ∗ Any (F := F) c arg8 Finset.univ ∗ Any (F := F) c arg9 Finset.univ) ∗
      Scratch (F := F) c arg10 arg11 arg12 arg13 arg14 arg15 arg16 arg17 arg18 arg19 arg20 arg21 arg22 arg23 arg24 arg25 arg26 arg27 arg28 ∗ Owes (F := F) c)
    ⊢ Run c (cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg28) fun _ =>
      iprop(Inputs c arg0 arg1 arg2 arg3 arg4 arg5 u5 X D G E v0 ∗ (Any (F := F) c arg6 Finset.univ ∗ Any (F := F) c arg7 Finset.univ ∗ Has c arg8 Finset.univ (dgammaOf u5 X D G E v0) ∗ Has c arg9 Finset.univ (dbetaOf u5 X D G E v0)) ∗
      Scratch (F := F) c arg10 arg11 arg12 arg13 arg14 arg15 arg16 arg17 arg18 arg19 arg20 arg21 arg22 arg23 arg24 arg25 arg26 arg27 arg28 ∗ Owes (F := F) c) := by
  have ec (i j : Fin 4) (S : DmaSems sig S2) (h : i.val % 2 = j.val % 2) : sem2 S i = sem2 S j := by
    have e : (![i.val % 2] : Fin 1 → ℕ) = ![j.val % 2] := by rw [h]
    unfold sem2
    congr 5
  rw [body_eq _ _ _ _ _ _ _ _ _ _ _ _ _ _ _ _ _ _ _ _ _ _ _ _ _ _ _ _ _ _ _ _ _ _ _ _ _ _ _ _ _ _ _ _ _ _ _ _ _ _ _ _ _ _ _ zero32, show ∀ (p : K F PUnit) (k : PUnit → K F PUnit) (Q : PUnit → sProp 𝕄), Run c (p >>= k) Q = Run c p (fun a => Run c (k a) Q) from fun p k Q => wp_bind _ _ _ p k Q]
  unfold regionP Inputs Scratch
  iintro ⟨⟨H0, H1, H2, H3, H4, H5⟩, ⟨H6, H7, H8, H9⟩, ⟨H10, H11, H13, H14, H23, H24, HT, ⟨I0, I1⟩, ⟨J0, J1⟩, HI⟩, HO⟩
  ihave H0 := (has_four c (fun b => (bR b).set) bR_apart) $$ H0
  icases H0 with ⟨X0, X1, X2, X3, HX⟩
  ihave H1 := (has_four c (fun b => (bR b).set) bR_apart) $$ H1
  icases H1 with ⟨D0, D1, D2, D3, HD⟩
  ihave H10 := (slots_open c) $$ H10
  icases H10 with ⟨A0, A1⟩
  ihave H11 := (slots_open c) $$ H11
  icases H11 with ⟨B0, B1⟩
  ihave H23 := (halves_open c) $$ H23
  icases H23 with ⟨P0, P1⟩
  ihave H24 := (halves_open c) $$ H24
  icases H24 with ⟨Q0, Q1⟩
  unfold Tools
  icases HT with ⟨H12, HT1, HT2, HT3, HT4, HT5, H25⟩
  iapply (first_spec c) $$ [H4 X0 X1 D0 D1 A0 A1 B0 B1 I0 I1 J0 J1 H2 H13 H3 H14 H25 HO]
  · isplitl [H4]; · iexact H4
    isplitl [X0 X1]
    · isplitl [X0]; · iexact X0
      iexact X1
    isplitl [D0 D1]
    · isplitl [D0]; · iexact D0
      iexact D1
    isplitl [A0 A1]
    · isplitl [A0]; · iexact A0
      iexact A1
    isplitl [B0 B1]
    · isplitl [B0]; · iexact B0
      iexact B1
    isplitl [I0 I1]
    · isplitl [I0]; · iexact I0
      iexact I1
    isplitl [J0 J1]
    · isplitl [J0]; · iexact J0
      iexact J1
    isplitl [H2 H13]
    · isplitl [H2]; · iexact H2
      iexact H13
    isplitl [H3 H14]
    · isplitl [H3]; · iexact H3
      iexact H14
    isplitl [H25]; · iexact H25
    iexact HO
  iintro ⟨H4, ⟨X0, A0, I0⟩, T1, ⟨U0, U1⟩, ⟨H2, H13⟩, ⟨H3, H14⟩, H25, HO⟩
  ihave P0 := (show Any (F := F) c arg23 (halfS 0) ⊢ Rows (F := F) c arg23 ((0 : Fin 4).val % 2) false (fun _ => f0) from .rfl) $$ P0
  ihave Q0 := (show Any (F := F) c arg24 (halfS 0) ⊢ Rows (F := F) c arg24 ((0 : Fin 4).val % 2) false (fun _ => f0) from .rfl) $$ Q0
  iapply (block_spec c (b := 0) (second := false) (ga := colOf G) (be := colOf E) (old23 := (fun _ => f0)) (old24 := (fun _ => f0)) blk0_good tail0_good) $$ [A0 U0 HO H5 H13 H14 H12 HT1 HT2 HT3 HT4 HT5 H25 P0 Q0]
  · isplitl [A0]; · iexact A0
    isplitl [U0]; · iexact U0
    isplitl [HO]; · iexact HO
    isplitl [H5 H13 H14]
    · isplitl [H5]; · iexact H5
      isplitl [H13]; · iexact H13
      iexact H14
    isplitl [H12 HT1 HT2 HT3 HT4 HT5 H25]
    · isplitl [H12]; · iexact H12
      isplitl [HT1]; · iexact HT1
      isplitl [HT2]; · iexact HT2
      isplitl [HT3]; · iexact HT3
      isplitl [HT4]; · iexact HT4
      isplitl [HT5]; · iexact HT5
      iexact H25
    isplitl [P0]; · iexact P0
    iexact Q0
  iintro ⟨⟨A0, B0⟩, ⟨D0, J0⟩, HO, ⟨H5, H13, H14⟩, ⟨H12, HT1, HT2, HT3, HT4, HT5, H25⟩, P0, Q0⟩
  ihave P0 := (show Has c arg23 (halfS ((0 : Fin 4).val % 2)) (halfV ((0 : Fin 4).val % 2) (plus false (fun _ => f0) (gamOf u5 (colOf G) (colOf E) X D v0 (0 : Fin 4).val))) ⊢ Has c arg23 (halfS 0) (halfV 0 (gamOf u5 (colOf G) (colOf E) X D v0 0)) from .rfl) $$ P0
  ihave Q0 := (show Has c arg24 (halfS ((0 : Fin 4).val % 2)) (halfV ((0 : Fin 4).val % 2) (plus false (fun _ => f0) (betOf u5 (colOf G) (colOf E) X D v0 (0 : Fin 4).val))) ⊢ Has c arg24 (halfS 0) (halfV 0 (betOf u5 (colOf G) (colOf E) X D v0 0)) from .rfl) $$ Q0
  ihave I0 := (show Idle (F := F) c (sem2 arg26 0) ⊢ Idle (F := F) c (sem2 arg26 2) by rw [ec 2 0 _ rfl]) $$ I0
  ihave J0 := (show Idle (F := F) c (sem2 arg27 0) ⊢ Idle (F := F) c (sem2 arg27 2) by rw [ec 2 0 _ rfl]) $$ J0
  iapply (next_spec c (p := 2) (q := 1)) $$ [X2 A0 I0 D2 B0 J0 T1 HO]
  · isplitl [X2 A0 I0]
    · isplitl [X2]; · iexact X2
      isplitl [A0]; · iexact A0
      iexact I0
    isplitl [D2 B0 J0]
    · isplitl [D2]; · iexact D2
      isplitl [B0]; · iexact B0
      iexact J0
    isplitl [T1]; · iexact T1
    iexact HO
  iintro ⟨⟨T2, U2⟩, ⟨X1, A1, I1⟩, HO⟩
  ihave P1 := (show Any (F := F) c arg23 (halfS 1) ⊢ Rows (F := F) c arg23 ((1 : Fin 4).val % 2) false (fun _ => f0) from .rfl) $$ P1
  ihave Q1 := (show Any (F := F) c arg24 (halfS 1) ⊢ Rows (F := F) c arg24 ((1 : Fin 4).val % 2) false (fun _ => f0) from .rfl) $$ Q1
  iapply (block_spec c (b := 1) (second := false) (ga := colOf G) (be := colOf E) (old23 := (fun _ => f0)) (old24 := (fun _ => f0)) blk1_good tail1_good) $$ [A1 U1 HO H5 H13 H14 H12 HT1 HT2 HT3 HT4 HT5 H25 P1 Q1]
  · isplitl [A1]; · iexact A1
    isplitl [U1]; · iexact U1
    isplitl [HO]; · iexact HO
    isplitl [H5 H13 H14]
    · isplitl [H5]; · iexact H5
      isplitl [H13]; · iexact H13
      iexact H14
    isplitl [H12 HT1 HT2 HT3 HT4 HT5 H25]
    · isplitl [H12]; · iexact H12
      isplitl [HT1]; · iexact HT1
      isplitl [HT2]; · iexact HT2
      isplitl [HT3]; · iexact HT3
      isplitl [HT4]; · iexact HT4
      isplitl [HT5]; · iexact HT5
      iexact H25
    isplitl [P1]; · iexact P1
    iexact Q1
  iintro ⟨⟨A1, B1⟩, ⟨D1, J1⟩, HO, ⟨H5, H13, H14⟩, ⟨H12, HT1, HT2, HT3, HT4, HT5, H25⟩, P1, Q1⟩
  ihave P1 := (show Has c arg23 (halfS ((1 : Fin 4).val % 2)) (halfV ((1 : Fin 4).val % 2) (plus false (fun _ => f0) (gamOf u5 (colOf G) (colOf E) X D v0 (1 : Fin 4).val))) ⊢ Has c arg23 (halfS 1) (halfV 1 (gamOf u5 (colOf G) (colOf E) X D v0 1)) from .rfl) $$ P1
  ihave Q1 := (show Has c arg24 (halfS ((1 : Fin 4).val % 2)) (halfV ((1 : Fin 4).val % 2) (plus false (fun _ => f0) (betOf u5 (colOf G) (colOf E) X D v0 (1 : Fin 4).val))) ⊢ Has c arg24 (halfS 1) (halfV 1 (betOf u5 (colOf G) (colOf E) X D v0 1)) from .rfl) $$ Q1
  ihave I1 := (show Idle (F := F) c (sem2 arg26 1) ⊢ Idle (F := F) c (sem2 arg26 3) by rw [ec 3 1 _ rfl]) $$ I1
  ihave J1 := (show Idle (F := F) c (sem2 arg27 1) ⊢ Idle (F := F) c (sem2 arg27 3) by rw [ec 3 1 _ rfl]) $$ J1
  iapply (next_spec c (p := 3) (q := 2)) $$ [X3 A1 I1 D3 B1 J1 T2 HO]
  · isplitl [X3 A1 I1]
    · isplitl [X3]; · iexact X3
      isplitl [A1]; · iexact A1
      iexact I1
    isplitl [D3 B1 J1]
    · isplitl [D3]; · iexact D3
      isplitl [B1]; · iexact B1
      iexact J1
    isplitl [T2]; · iexact T2
    iexact HO
  iintro ⟨⟨T3, U3⟩, ⟨X2, A0, I0⟩, HO⟩
  ihave P0 := (show Has c arg23 (halfS 0) (halfV 0 (gamOf u5 (colOf G) (colOf E) X D v0 0)) ⊢ Rows (F := F) c arg23 ((2 : Fin 4).val % 2) true (gamOf u5 (colOf G) (colOf E) X D v0 0) from .rfl) $$ P0
  ihave Q0 := (show Has c arg24 (halfS 0) (halfV 0 (betOf u5 (colOf G) (colOf E) X D v0 0)) ⊢ Rows (F := F) c arg24 ((2 : Fin 4).val % 2) true (betOf u5 (colOf G) (colOf E) X D v0 0) from .rfl) $$ Q0
  iapply (block_spec c (b := 2) (second := true) (ga := colOf G) (be := colOf E) (old23 := gamOf u5 (colOf G) (colOf E) X D v0 0) (old24 := betOf u5 (colOf G) (colOf E) X D v0 0) blk2_good tail2_good) $$ [A0 U2 HO H5 H13 H14 H12 HT1 HT2 HT3 HT4 HT5 H25 P0 Q0]
  · isplitl [A0]; · iexact A0
    isplitl [U2]; · iexact U2
    isplitl [HO]; · iexact HO
    isplitl [H5 H13 H14]
    · isplitl [H5]; · iexact H5
      isplitl [H13]; · iexact H13
      iexact H14
    isplitl [H12 HT1 HT2 HT3 HT4 HT5 H25]
    · isplitl [H12]; · iexact H12
      isplitl [HT1]; · iexact HT1
      isplitl [HT2]; · iexact HT2
      isplitl [HT3]; · iexact HT3
      isplitl [HT4]; · iexact HT4
      isplitl [HT5]; · iexact HT5
      iexact H25
    isplitl [P0]; · iexact P0
    iexact Q0
  iintro ⟨⟨A0, B0⟩, ⟨D2, J0⟩, HO, ⟨H5, H13, H14⟩, ⟨H12, HT1, HT2, HT3, HT4, HT5, H25⟩, P0, Q0⟩
  ihave P0 := (show Has c arg23 (halfS ((2 : Fin 4).val % 2)) (halfV ((2 : Fin 4).val % 2) (plus true (gamOf u5 (colOf G) (colOf E) X D v0 0) (gamOf u5 (colOf G) (colOf E) X D v0 (2 : Fin 4).val))) ⊢ Has c arg23 (halfS 0) (halfV 0 (addf (gamOf u5 (colOf G) (colOf E) X D v0 0) (gamOf u5 (colOf G) (colOf E) X D v0 2))) from .rfl) $$ P0
  ihave Q0 := (show Has c arg24 (halfS ((2 : Fin 4).val % 2)) (halfV ((2 : Fin 4).val % 2) (plus true (betOf u5 (colOf G) (colOf E) X D v0 0) (betOf u5 (colOf G) (colOf E) X D v0 (2 : Fin 4).val))) ⊢ Has c arg24 (halfS 0) (halfV 0 (addf (betOf u5 (colOf G) (colOf E) X D v0 0) (betOf u5 (colOf G) (colOf E) X D v0 2))) from .rfl) $$ Q0
  iapply (get_spec c) $$ [T3 HO]
  · isplitl [T3]; · iexact T3
    iexact HO
  iintro ⟨⟨X3, A1⟩, I1, HO⟩
  ihave P1 := (show Has c arg23 (halfS 1) (halfV 1 (gamOf u5 (colOf G) (colOf E) X D v0 1)) ⊢ Rows (F := F) c arg23 ((3 : Fin 4).val % 2) true (gamOf u5 (colOf G) (colOf E) X D v0 1) from .rfl) $$ P1
  ihave Q1 := (show Has c arg24 (halfS 1) (halfV 1 (betOf u5 (colOf G) (colOf E) X D v0 1)) ⊢ Rows (F := F) c arg24 ((3 : Fin 4).val % 2) true (betOf u5 (colOf G) (colOf E) X D v0 1) from .rfl) $$ Q1
  iapply (block_spec c (b := 3) (second := true) (ga := colOf G) (be := colOf E) (old23 := gamOf u5 (colOf G) (colOf E) X D v0 1) (old24 := betOf u5 (colOf G) (colOf E) X D v0 1) blk3_good tail3_good) $$ [A1 U3 HO H5 H13 H14 H12 HT1 HT2 HT3 HT4 HT5 H25 P1 Q1]
  · isplitl [A1]; · iexact A1
    isplitl [U3]; · iexact U3
    isplitl [HO]; · iexact HO
    isplitl [H5 H13 H14]
    · isplitl [H5]; · iexact H5
      isplitl [H13]; · iexact H13
      iexact H14
    isplitl [H12 HT1 HT2 HT3 HT4 HT5 H25]
    · isplitl [H12]; · iexact H12
      isplitl [HT1]; · iexact HT1
      isplitl [HT2]; · iexact HT2
      isplitl [HT3]; · iexact HT3
      isplitl [HT4]; · iexact HT4
      isplitl [HT5]; · iexact HT5
      iexact H25
    isplitl [P1]; · iexact P1
    iexact Q1
  iintro ⟨⟨A1, B1⟩, ⟨D3, J1⟩, HO, ⟨H5, H13, H14⟩, ⟨H12, HT1, HT2, HT3, HT4, HT5, H25⟩, P1, Q1⟩
  ihave P1 := (show Has c arg23 (halfS ((3 : Fin 4).val % 2)) (halfV ((3 : Fin 4).val % 2) (plus true (gamOf u5 (colOf G) (colOf E) X D v0 1) (gamOf u5 (colOf G) (colOf E) X D v0 (3 : Fin 4).val))) ⊢ Has c arg23 (halfS 1) (halfV 1 (addf (gamOf u5 (colOf G) (colOf E) X D v0 1) (gamOf u5 (colOf G) (colOf E) X D v0 3))) from .rfl) $$ P1
  ihave Q1 := (show Has c arg24 (halfS ((3 : Fin 4).val % 2)) (halfV ((3 : Fin 4).val % 2) (plus true (betOf u5 (colOf G) (colOf E) X D v0 1) (betOf u5 (colOf G) (colOf E) X D v0 (3 : Fin 4).val))) ⊢ Has c arg24 (halfS 1) (halfV 1 (addf (betOf u5 (colOf G) (colOf E) X D v0 1) (betOf u5 (colOf G) (colOf E) X D v0 3))) from .rfl) $$ Q1
  ihave I0 := (show Idle (F := F) c (sem2 arg26 2) ⊢ Idle (F := F) c (sem2 arg26 0) by rw [ec 2 0 _ rfl]) $$ I0
  ihave J0 := (show Idle (F := F) c (sem2 arg27 2) ⊢ Idle (F := F) c (sem2 arg27 0) by rw [ec 2 0 _ rfl]) $$ J0
  ihave I1 := (show Idle (F := F) c (sem2 arg26 3) ⊢ Idle (F := F) c (sem2 arg26 1) by rw [ec 3 1 _ rfl]) $$ I1
  ihave J1 := (show Idle (F := F) c (sem2 arg27 3) ⊢ Idle (F := F) c (sem2 arg27 1) by rw [ec 3 1 _ rfl]) $$ J1
  ihave H10 := (slots_close c) $$ [A0 A1]
  · isplitl [A0]; · iexact A0
    iexact A1
  ihave H11 := (slots_close c) $$ [B0 B1]
  · isplitl [B0]; · iexact B0
    iexact B1
  ihave H23 := (halves_close c) $$ [P0 P1]
  · isplitl [P0]; · iexact P0
    iexact P1
  ihave H24 := (halves_close c) $$ [Q0 Q1]
  · isplitl [Q0]; · iexact Q0
    iexact Q1
  iapply (rows_spec c) $$ [H23 H8]
  · isplitl [H23]; · iexact H23
    iexact H8
  iintro %_ ⟨H23, H8⟩
  iapply (rows_spec c) $$ [H24 H9]
  · isplitl [H24]; · iexact H24
    iexact H9
  iintro %_ ⟨H24, H9⟩
  ihave H13 := (any_of_has (c := c)) $$ H13
  ihave H14 := (any_of_has (c := c)) $$ H14
  ihave H23 := (any_of_has (c := c)) $$ H23
  ihave H24 := (any_of_has (c := c)) $$ H24
  ihave HS := (parts_open (F := F) c arg6 arg11 arg28) $$ [H11 H6 HI]
  · isplitl [H11]; · iexact H11
    isplitl [H6]; · iexact H6
    iexact HI
  icases HS with ⟨HS, HB⟩
  ihave HR : iprop((Any (F := F) c arg12 Finset.univ ∗ Owes (F := F) c ∗ Any (F := F) c arg7 Finset.univ ∗ Any (F := F) c arg25 Finset.univ ∗ Slots (F := F) c arg6 arg11 arg28 (fun _ => none)) -∗
      (iprop((Has c arg0 Finset.univ X ∗ Has c arg1 Finset.univ D ∗ Has c arg2 Finset.univ G ∗ Has c arg3 Finset.univ E ∗ Has c arg4 Finset.univ (fun _ => v0) ∗ Has c arg5 Finset.univ (fun _ => u5)) ∗
      (Any (F := F) c arg6 Finset.univ ∗ Any (F := F) c arg7 Finset.univ ∗ Has c arg8 Finset.univ (dgammaOf u5 X D G E v0) ∗ Has c arg9 Finset.univ (dbetaOf u5 X D G E v0)) ∗
      (Any (F := F) c arg10 Finset.univ ∗ Any (F := F) c arg11 Finset.univ ∗ Any (F := F) c arg13 Finset.univ ∗ Any (F := F) c arg14 Finset.univ ∗ Any (F := F) c arg23 Finset.univ ∗
    Any (F := F) c arg24 Finset.univ ∗ (Any (F := F) c arg12 Finset.univ ∗ (Any (F := F) c arg15 Finset.univ ∗ Any (F := F) c arg16 Finset.univ) ∗ (Any (F := F) c arg17 Finset.univ ∗ Any (F := F) c arg18 Finset.univ) ∗
    Any (F := F) c arg19 Finset.univ ∗ (Any (F := F) c arg20 Finset.univ ∗ Any (F := F) c arg21 Finset.univ) ∗ Any (F := F) c arg22 Finset.univ ∗ Any (F := F) c arg25 Finset.univ) ∗
    (Idle (F := F) c (sem2 arg26 0) ∗ Idle (F := F) c (sem2 arg26 1)) ∗ (Idle (F := F) c (sem2 arg27 0) ∗ Idle (F := F) c (sem2 arg27 1)) ∗
    bigSep Finset.univ fun k => Idle (F := F) c (semOf arg28 k)) ∗ Owes (F := F) c))) $$ [X0 X1 X2 X3 HX D0 D1 D2 D3 HD H2 H3 H4 H5 H8 H9 H10 H13 H14 H23 H24 HT1 HT2 HT3 HT4 HT5 I0 I1 J0 J1 HB]
  · iintro ⟨H12, HO, H7, H25, HS⟩
    ihave HS := HB $$ HS
    icases HS with ⟨H11, H6, HI⟩
    isplitl [X0 X1 X2 X3 HX D0 D1 D2 D3 HD H2 H3 H4 H5]
    · isplitl [X0 X1 X2 X3 HX]
      · iapply HX $$ X0 X1 X2 X3
      isplitl [D0 D1 D2 D3 HD]
      · iapply HD $$ D0 D1 D2 D3
      isplitl [H2]; · iexact H2
      isplitl [H3]; · iexact H3
      isplitl [H4]; · iexact H4
      iexact H5
    isplitl [H6 H7 H8 H9]
    · isplitl [H6]; · iexact H6
      isplitl [H7]; · iexact H7
      isplitl [H8]; · iexact H8
      iexact H9
    isplitl [H10 H11 H13 H14 H23 H24 H12 HT1 HT2 HT3 HT4 HT5 H25 I0 I1 J0 J1 HI]
    · isplitl [H10]; · iexact H10
      isplitl [H11]; · iexact H11
      isplitl [H13]; · iexact H13
      isplitl [H14]; · iexact H14
      isplitl [H23]; · iexact H23
      isplitl [H24]; · iexact H24
      isplitl [H12 HT1 HT2 HT3 HT4 HT5 H25]
      · isplitl [H12]; · iexact H12
        isplitl [HT1]; · iexact HT1
        isplitl [HT2]; · iexact HT2
        isplitl [HT3]; · iexact HT3
        isplitl [HT4]; · iexact HT4
        isplitl [HT5]; · iexact HT5
        iexact H25
      isplitl [I0 I1]
      · isplitl [I0]; · iexact I0
        iexact I1
      isplitl [J0 J1]
      · isplitl [J0]; · iexact J0
        iexact J1
      iexact HI
    iexact HO
  iapply (codes_run c) $$ [H12 HO H7 H25 HS HR]
  · isplitl [H12 HO H7 H25 HS]
    · isplitl [H12]; · iexact H12
      isplitl [HO]; · iexact HO
      isplitl [H7]; · iexact H7
      isplitl [H25]; · iexact H25
      iexact HS
    iexact HR

end Cert.Proof.KernelIdeal

end
-- ==== Proof.Launched.lean ====
/-
  The launch: the region's buffers as the pipeline hands them over, the region's run between them, and so the whole
  program's run — every argument unchanged, every semaphore at zero, the two gradient rows at their values.
-/
module

public import proofs.«01_k».proof.Proof.Run
public import proofs.«01_k».proof.Proof.Gen.KernelIdeal.Frame
public import Idealize.ShloMosaic.Lib.Pipeline.Value
public import Idealize.ShloMosaic.Lib.Pipeline.Cells
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

variable {F : FTy → Type} [FloatOps F] [Named F]

local notation "𝕄" => MT nD τ sig Unit (Elt F) ℕ (Pipeline.UD sig nD τ) ℕ

variable (m : (ℓ : Loc nD τ sig) → Idealize.ShloMosaic.Buf (Elt F) ℓ) (ρ : Dev nD → PrngReg)

/-! ## The two ways to say that a buffer is held -/

section
variable (c : Dev nD) {sp : Space} {s : Shape} {e : EltTy} {M : Memref sig .tc sp s e}

theorem has_of_owns {X : s.Idx → Elt F e} : (owns (c : Thread nD τ) M fullShare X : sProp 𝕄) ⊢ Has c M Finset.univ X := by
  unfold owns Has
  iintro ⟨%f, %hf, H⟩
  iexists f
  isplitl [H]; · iexact H
  ipureintro; intro x _; rw [hf]

theorem owns_of_has {X : s.Idx → Elt F e} : Has c M Finset.univ X ⊢ (owns (c : Thread nD τ) M fullShare X : sProp 𝕄) := by
  unfold owns Has
  iintro ⟨%f, H, %hf⟩
  iexists f
  isplitr; · ipureintro; exact funext fun x => hf x (Finset.mem_univ x)
  iexact H

theorem any_of_owns : iprop(∃ X, (owns (c : Thread nD τ) M fullShare X : sProp 𝕄)) ⊢ Any (F := F) c M Finset.univ := by
  unfold Any
  iintro ⟨%X, H⟩
  iexists X
  iapply (has_of_owns c) $$ H

theorem owns_of_any : Any (F := F) c M Finset.univ ⊢ iprop(∃ X, (owns (c : Thread nD τ) M fullShare X : sProp 𝕄)) := by
  unfold Any
  iintro ⟨%X, H⟩
  iexists X
  iapply (owns_of_has c) $$ H

theorem has_of_buf {b : Ref sig .tc} {f : Idealize.ShloMosaic.Buf (Elt F) ((c : Thread nD τ).loc b)} : (((c : Thread nD τ).loc b) ↦{fullShare} f : sProp 𝕄) ⊢ Has c (Memref.whole b) Finset.univ f := by
  rw [← owns_whole (c : Thread nD τ) b fullShare f]
  exact has_of_owns c

theorem buf_of_has {b : Ref sig .tc} {f : Idealize.ShloMosaic.Buf (Elt F) ((c : Thread nD τ).loc b)} : Has c (Memref.whole b) Finset.univ f ⊢ (((c : Thread nD τ).loc b) ↦{fullShare} f : sProp 𝕄) := by
  rw [← owns_whole (c : Thread nD τ) b fullShare f]
  exact owns_of_has c

theorem any_of_buf {b : Ref sig .tc} : iprop(∃ f : Idealize.ShloMosaic.Buf (Elt F) ((c : Thread nD τ).loc b), (((c : Thread nD τ).loc b) ↦{fullShare} f : sProp 𝕄)) ⊢ Any (F := F) c (Memref.whole b) Finset.univ := by
  unfold Any
  iintro ⟨%f, H⟩
  iexists f
  iapply (has_of_buf c) $$ H

theorem buf_of_any {b : Ref sig .tc} : Any (F := F) c (Memref.whole b) Finset.univ ⊢ iprop(∃ f : Idealize.ShloMosaic.Buf (Elt F) ((c : Thread nD τ).loc b), (((c : Thread nD τ).loc b) ↦{fullShare} f : sProp 𝕄)) := by
  unfold Any
  iintro ⟨%f, H⟩
  iexists f
  iapply (buf_of_has c) $$ H
end

/-! ## @main up to the region -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the region holds besides its windows -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)

/-- The body's own fourteen transfer semaphores. -/
abbrev osem0 : Fin 14 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20] : Fin 14 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(Idle (F := F) c 7 ∗ Idle (F := F) c 8 ∗ Idle (F := F) c 9 ∗ Idle (F := F) c 10 ∗ Idle (F := F) c 11 ∗ Idle (F := F) c 12 ∗ Idle (F := F) c 13 ∗ Idle (F := F) c 14 ∗ Idle (F := F) c 15 ∗ Idle (F := F) c 16 ∗ Idle (F := F) c 17 ∗ Idle (F := F) c 18 ∗ Idle (F := F) c 19 ∗ Idle (F := F) c 20) := by
  rw [Pipeline.ownSems0_eq_of_list c osem0 [0, 1, 2, 3, 4, 5, 6, 7, 8, 9, 10, 11, 12, 13] (by decide) (by decide)]; rfl

/-- The buffers in HBM which the body reads: the input and the codes of its gradient, both transposed. -/
def H0 : Finset (Ref sig .tc) := {main_v0, main_v1}
/-- The buffer in HBM which the body writes by its own copies: the codes. -/
def R0 : Finset (Ref sig .tc) := {main_v6_0}
theorem H0_sub : H0 ⊆ Pipeline.restRefs sig spec0 := by decide
theorem R0_sub : R0 ⊆ Pipeline.restRefs sig spec0 \ H0 := by decide

theorem hbmPts0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_v1) ↦{fullShare} V m c main_v1)) := by
  rw [BI.bigSep_eq_bigSepL_of_eq [main_v0, main_v1] (by decide) (by decide)]; rfl

theorem ownedPts0_eq (c : Dev nD) :
    (Pipeline.owned R0 c : sProp 𝕄) = iprop(∃ f : Idealize.ShloMosaic.Buf (Elt F) ((c : Thread nD τ).loc main_v6_0), ((c : Thread nD τ).loc main_v6_0) ↦{fullShare} f) := by
  unfold Pipeline.owned; rw [BI.bigSep_eq_bigSepL_of_eq [main_v6_0] (by decide) (by decide)]; rfl

theorem PhiDR0_eq (c : Dev nD) :
    (Pipeline.ΦDR osem0 spec0 H0 R0 (V m) c : sProp 𝕄)
      = iprop(iprop((∃ f : Idealize.ShloMosaic.Buf (Elt F) ((c : Thread nD τ).loc cc0_scratch0), ((c : Thread nD τ).loc cc0_scratch0) ↦{fullShare} f) ∗ (∃ f : Idealize.ShloMosaic.Buf (Elt F) ((c : Thread nD τ).loc cc0_scratch1), ((c : Thread nD τ).loc cc0_scratch1) ↦{fullShare} f) ∗ (∃ f : Idealize.ShloMosaic.Buf (Elt F) ((c : Thread nD τ).loc cc0_scratch2), ((c : Thread nD τ).loc cc0_scratch2) ↦{fullShare} f) ∗ (∃ f : Idealize.ShloMosaic.Buf (Elt F) ((c : Thread nD τ).loc cc0_scratch3), ((c : Thread nD τ).loc cc0_scratch3) ↦{fullShare} f) ∗ (∃ f : Idealize.ShloMosaic.Buf (Elt F) ((c : Thread nD τ).loc cc0_scratch4), ((c : Thread nD τ).loc cc0_scratch4) ↦{fullShare} f) ∗ (∃ f : Idealize.ShloMosaic.Buf (Elt F) ((c : Thread nD τ).loc cc0_scratch5), ((c : Thread nD τ).loc cc0_scratch5) ↦{fullShare} f) ∗ (∃ f : Idealize.ShloMosaic.Buf (Elt F) ((c : Thread nD τ).loc cc0_scratch6), ((c : Thread nD τ).loc cc0_scratch6) ↦{fullShare} f) ∗ (∃ f : Idealize.ShloMosaic.Buf (Elt F) ((c : Thread nD τ).loc cc0_scratch7), ((c : Thread nD τ).loc cc0_scratch7) ↦{fullShare} f) ∗ (∃ f : Idealize.ShloMosaic.Buf (Elt F) ((c : Thread nD τ).loc cc0_scratch8), ((c : Thread nD τ).loc cc0_scratch8) ↦{fullShare} f) ∗ (∃ f : Idealize.ShloMosaic.Buf (Elt F) ((c : Thread nD τ).loc cc0_scratch9), ((c : Thread nD τ).loc cc0_scratch9) ↦{fullShare} f) ∗ (∃ f : Idealize.ShloMosaic.Buf (Elt F) ((c : Thread nD τ).loc cc0_scratch10), ((c : Thread nD τ).loc cc0_scratch10) ↦{fullShare} f) ∗ (∃ f : Idealize.ShloMosaic.Buf (Elt F) ((c : Thread nD τ).loc cc0_scratch11), ((c : Thread nD τ).loc cc0_scratch11) ↦{fullShare} f) ∗ (∃ f : Idealize.ShloMosaic.Buf (Elt F) ((c : Thread nD τ).loc cc0_scratch12), ((c : Thread nD τ).loc cc0_scratch12) ↦{fullShare} f) ∗ (∃ f : Idealize.ShloMosaic.Buf (Elt F) ((c : Thread nD τ).loc cc0_scratch13), ((c : Thread nD τ).loc cc0_scratch13) ↦{fullShare} f) ∗ (∃ f : Idealize.ShloMosaic.Buf (Elt F) ((c : Thread nD τ).loc cc0_scratch14), ((c : Thread nD τ).loc cc0_scratch14) ↦{fullShare} f) ∗ (∃ f : Idealize.ShloMosaic.Buf (Elt F) ((c : Thread nD τ).loc cc0_scratch15), ((c : Thread nD τ).loc cc0_scratch15) ↦{fullShare} f))
          ∗ (∃ r, prngReg c r)
          ∗ iprop(Idle (F := F) c 7 ∗ Idle (F := F) c 8 ∗ Idle (F := F) c 9 ∗ Idle (F := F) c 10 ∗ Idle (F := F) c 11 ∗ Idle (F := F) c 12 ∗ Idle (F := F) c 13 ∗ Idle (F := F) c 14 ∗ Idle (F := F) c 15 ∗ Idle (F := F) c 16 ∗ Idle (F := F) c 17 ∗ Idle (F := F) c 18 ∗ Idle (F := F) c 19 ∗ Idle (F := F) c 20)
          ∗ iprop((((c : Thread nD τ).loc main_v0) ↦{fullShare} V m c main_v0) ∗ (((c : Thread nD τ).loc main_v1) ↦{fullShare} V m c main_v1))
          ∗ (∃ f : Idealize.ShloMosaic.Buf (Elt F) ((c : Thread nD τ).loc main_v6_0), ((c : Thread nD τ).loc main_v6_0) ↦{fullShare} f)) := by
  rw [Pipeline.ΦDR_eq, scopedRest0_eq, ownSems00_eq, hbmPts0_eq, ownedPts0_eq]

/-! ## What the region finds and what it leaves -/

/-- The rows of weights as the region finds them. -/
abbrev gIn (c : Dev nD) : S1x320.Idx → F .f32 := iblk m c 0 t0_0
abbrev eIn (c : Dev nD) : S1x320.Idx → F .f32 := iblk m c 1 t0_0
def first1 : S1x1.Idx := fun a => ⟨0, by revert a; decide⟩
def first16 : S16x128.Idx := fun a => ⟨0, by revert a; decide⟩

/-- The scale and the constant one as the region finds them. -/
abbrev vIn (c : Dev nD) : F .f32 := (iblk m c 2 t0_0 : S1x1.Idx → F .f32) first1
abbrev uIn (c : Dev nD) : F .bf16 := (iblk m c 3 t0_0 : S16x128.Idx → F .bf16) first16

abbrev dgammaAt (c : Dev nD) : S1x320.Idx → F .f32 := dgammaOf (uIn m c) (V m c main_v0) (V m c main_v1) (gIn m c) (eIn m c) (vIn m c)
abbrev dbetaAt (c : Dev nD) : S1x320.Idx → F .f32 := dbetaOf (uIn m c) (V m c main_v0) (V m c main_v1) (gIn m c) (eIn m c) (vIn m c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => FloatOps.ofBits .f32 0
    | ⟨5, _⟩ => dgammaAt m c
    | ⟨6, _⟩ => dbetaAt m c
  Φ _ := Pipeline.ΦDR osem0 spec0 H0 R0 (V m) c
  q _ := fullShare
  owed _ := 0

/-- The one window whose contents are not followed: the scale of the codes. -/
def fgt : Fin cfg0.W → Bool := fun w => w == 4

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; rfl)

/-- The scale is one word. -/
theorem scale_const (c : Dev nD) (t : Fin cfg0.N) : (iblk m c 2 t : S1x1.Idx → F .f32) = fun _ => vIn m c := by
  rw [fin_N0 t]
  refine funext fun (i : S1x1.Idx) => ?_
  have hi : i = first1 := by
    funext a
    fin_cases a
    · exact Fin.ext (Nat.lt_one_iff.mp (i 0).isLt)
    · exact Fin.ext (Nat.lt_one_iff.mp (i 1).isLt)
  rw [hi]

/-- The constant is the same everywhere. -/
theorem one_const (c : Dev nD) (t : Fin cfg0.N) : (iblk m c 3 t : S16x128.Idx → F .bf16) = fun _ => uIn m c := by
  rw [fin_N0 t]
  funext i
  rfl

/-! ## The region's run -/

abbrev InHand (c : Dev nD) (t : Fin cfg0.N) : sProp 𝕄 :=
  iprop((Any (F := F) c (Memref.whole cc0_scratch0) Finset.univ ∗ Any (F := F) c (Memref.whole cc0_scratch1) Finset.univ ∗ Any (F := F) c (Memref.whole cc0_scratch2) Finset.univ ∗ Any (F := F) c (Memref.whole cc0_scratch3) Finset.univ ∗ Any (F := F) c (Memref.whole cc0_scratch4) Finset.univ ∗ Any (F := F) c (Memref.whole cc0_scratch5) Finset.univ ∗ Any (F := F) c (Memref.whole cc0_scratch6) Finset.univ ∗ Any (F := F) c (Memref.whole cc0_scratch7) Finset.univ ∗ Any (F := F) c (Memref.whole cc0_scratch8) Finset.univ ∗ Any (F := F) c (Memref.whole cc0_scratch9) Finset.univ ∗ Any (F := F) c (Memref.whole cc0_scratch10) Finset.univ ∗ Any (F := F) c (Memref.whole cc0_scratch11) Finset.univ ∗ Any (F := F) c (Memref.whole cc0_scratch12) Finset.univ ∗ Any (F := F) c (Memref.whole cc0_scratch13) Finset.univ ∗ Any (F := F) c (Memref.whole cc0_scratch14) Finset.univ ∗ Any (F := F) c (Memref.whole cc0_scratch15) Finset.univ) ∗ (Idle (F := F) c 7 ∗ Idle (F := F) c 8 ∗ Idle (F := F) c 9 ∗ Idle (F := F) c 10 ∗ Idle (F := F) c 11 ∗ Idle (F := F) c 12 ∗ Idle (F := F) c 13 ∗ Idle (F := F) c 14 ∗ Idle (F := F) c 15 ∗ Idle (F := F) c 16 ∗ Idle (F := F) c 17 ∗ Idle (F := F) c 18 ∗ Idle (F := F) c 19 ∗ Idle (F := F) c 20) ∗ Has c (Memref.whole main_v0) Finset.univ (V m c main_v0) ∗ Has c (Memref.whole main_v1) Finset.univ (V m c main_v1) ∗
    Any (F := F) c (Memref.whole main_v6_0) Finset.univ ∗
    Has c (ms0 t) Finset.univ (gIn m c) ∗ Has c (ms1 t) Finset.univ (eIn m c) ∗ Has c (ms2 t) Finset.univ (fun _ => vIn m c) ∗ Has c (ms3 t) Finset.univ (fun _ => uIn m c) ∗
    Any (F := F) c (ms4 t) Finset.univ ∗ Owes (F := F) c)

theorem semsOf_eq (c : Dev nD) : (bigSep Finset.univ fun k => Idle (F := F) c (semOf cc0_scratch18 k)) = iprop(Idle (F := F) c 11 ∗ Idle (F := F) c 12 ∗ Idle (F := F) c 13 ∗ Idle (F := F) c 14 ∗ Idle (F := F) c 15 ∗ Idle (F := F) c 16 ∗ Idle (F := F) c 17 ∗ Idle (F := F) c 18 ∗ Idle (F := F) c 19 ∗ Idle (F := F) c 20) := by
  rw [bigSep_univ_eq_bigSepL [(0 : Fin 10), 1, 2, 3, 4, 5, 6, 7, 8, 9] (by decide) (by decide)]; rfl
theorem sem26_0 : sem2 cc0_scratch16 0 = 7 := rfl
theorem sem26_1 : sem2 cc0_scratch16 1 = 8 := rfl
theorem sem27_0 : sem2 cc0_scratch17 0 = 9 := rfl
theorem sem27_1 : sem2 cc0_scratch17 1 = 10 := rfl

theorem held_run (c : Dev nD) (t : Fin cfg0.N) :
    iprop(InHand m c t ∗ Any (F := F) c (ms5 t) Finset.univ ∗ Any (F := F) c (ms6 t) Finset.univ)
    ⊢ Run c (bodyAt0 t) fun _ => iprop(InHand m c t ∗ Has c (ms5 t) Finset.univ (dgammaAt m c) ∗ Has c (ms6 t) Finset.univ (dbetaAt m c)) := by
  refine BIBase.Entails.trans ?_ ((region_spec (F := F) c (Memref.whole main_v0) (Memref.isWhole_whole _) (Memref.whole main_v1) (Memref.isWhole_whole _) (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (Memref.whole main_v6_0) (Memref.isWhole_whole _) (win0_4.stage (cfg0.slots t 4)) (hstage0_4 0) (win0_5.stage (cfg0.slots t 5)) (hstage0_5 0) (win0_6.stage (cfg0.slots t 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18
    (u5 := uIn m c) (X := V m c main_v0) (D := V m c main_v1) (G := gIn m c) (E := eIn m c) (v0 := vIn m c)).trans (wp_mono _ _ _ fun _ => ?_))
  · unfold Scratch Inputs
    rw [semsOf_eq, sem26_0, sem26_1, sem27_0, sem27_1]
    iintro ⟨⟨⟨S0, S1, S2, S3, S4, S5, S6, S7, S8, S9, S10, S11, S12, S13, S14, S15⟩, ⟨I0, I1, I2, I3, I4, I5, I6, I7, I8, I9, I10, I11, I12, I13⟩, X, D, R, W0, W1, W2, W3, W4, HO⟩, W5, W6⟩
    isplitl [X D W0 W1 W2 W3]
    · isplitl [X]; · iexact X
      isplitl [D]; · iexact D
      isplitl [W0]; · iexact W0
      isplitl [W1]; · iexact W1
      isplitl [W2]; · iexact W2
      iexact W3
    isplitl [R W4 W5 W6]
    · isplitl [R]; · iexact R
      isplitl [W4]; · iexact W4
      isplitl [W5]; · iexact W5
      iexact W6
    isplitl [S0 S1 S3 S4 S13 S14 S2 S5 S6 S7 S8 S9 S10 S11 S12 S15 I0 I1 I2 I3 I4 I5 I6 I7 I8 I9 I10 I11 I12 I13]
    · isplitl [S0]; · iexact S0
      isplitl [S1]; · iexact S1
      isplitl [S3]; · iexact S3
      isplitl [S4]; · iexact S4
      isplitl [S13]; · iexact S13
      isplitl [S14]; · iexact S14
      isplitl [S2 S5 S6 S7 S8 S9 S10 S11 S12 S15]
      · isplitl [S2]; · iexact S2
        isplitl [S5 S6]
        · isplitl [S5]; · iexact S5
          iexact S6
        isplitl [S7 S8]
        · isplitl [S7]; · iexact S7
          iexact S8
        isplitl [S9]; · iexact S9
        isplitl [S10 S11]
        · isplitl [S10]; · iexact S10
          iexact S11
        isplitl [S12]; · iexact S12
        iexact S15
      isplitl [I0 I1]
      · isplitl [I0]; · iexact I0
        iexact I1
      isplitl [I2 I3]
      · isplitl [I2]; · iexact I2
        iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      isplitl [I11]; · iexact I11
      isplitl [I12]; · iexact I12
      iexact I13
    iexact HO
  · unfold Scratch Inputs
    rw [semsOf_eq, sem26_0, sem26_1, sem27_0, sem27_1]
    iintro ⟨⟨X, D, W0, W1, W2, W3⟩, ⟨R, W4, W5, W6⟩, ⟨S0, S1, S3, S4, S13, S14, ⟨S2, ⟨S5, S6⟩, ⟨S7, S8⟩, S9, ⟨S10, S11⟩, S12, S15⟩, ⟨I0, I1⟩, ⟨I2, I3⟩, ⟨I4, I5, I6, I7, I8, I9, I10, I11, I12, I13⟩⟩, HO⟩
    isplitl [S0 S1 S2 S3 S4 S5 S6 S7 S8 S9 S10 S11 S12 S13 S14 S15 I0 I1 I2 I3 I4 I5 I6 I7 I8 I9 I10 I11 I12 I13 X D R W0 W1 W2 W3 W4 HO]
    · isplitl [S0 S1 S2 S3 S4 S5 S6 S7 S8 S9 S10 S11 S12 S13 S14 S15]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        iexact S15
      isplitl [I0 I1 I2 I3 I4 I5 I6 I7 I8 I9 I10 I11 I12 I13]
      · isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        isplitl [I8]; · iexact I8
        isplitl [I9]; · iexact I9
        isplitl [I10]; · iexact I10
        isplitl [I11]; · iexact I11
        isplitl [I12]; · iexact I12
        iexact I13
      isplitl [X]; · iexact X
      isplitl [D]; · iexact D
      isplitl [R]; · iexact R
      isplitl [W0]; · iexact W0
      isplitl [W1]; · iexact W1
      isplitl [W2]; · iexact W2
      isplitl [W3]; · iexact W3
      isplitl [W4]; · iexact W4
      iexact HO
    isplitl [W5]; · iexact W5
    iexact W6

theorem defs₀_row (t : Fin cfg0.N) :
    defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ X, owns (c : Thread nD τ) (ms4 t) fullShare X)
    ∗ (∃ d, owns (c : Thread nD τ) (ms5 t) fullShare ((dats m 0 c).before 5 t d))
    ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ X, owns (c : Thread nD τ) (ms4 t) fullShare X)
    ∗ owns (c : Thread nD τ) (ms5 t) fullShare ((dats m 0 c).after 5 t)
    ∗ owns (c : Thread nD τ) (ms6 t) fullShare ((dats m 0 c).after 6 t))

/-- What the launch hands over, as the region's run wants it; the generator's state is put aside. -/
theorem held_in (c : Dev nD) (t : Fin cfg0.N) :
    bodyPre m c t ⊢ iprop((InHand m c t ∗ Any (F := F) c (ms5 t) Finset.univ ∗ Any (F := F) c (ms6 t) Finset.univ) ∗ (∃ r, prngReg c r)) := by
  unfold bodyPre
  simp only [before_0, before_1, before_2, before_3]
  rw [scale_const, one_const, fin_N0 t]
  rw [show (dats m 0 c).Φ t0_0.castSucc = Pipeline.ΦDR osem0 spec0 H0 R0 (V m) c from rfl, PhiDR0_eq]
  unfold Dat.owesAt Pipeline.owesWithin
  rw [show (dats m 0 c).owed t0_0.castSucc = 0 from rfl]
  iintro ⟨⟨⟨S0, S1, S2, S3, S4, S5, S6, S7, S8, S9, S10, S11, S12, S13, S14, S15⟩, Hg, ⟨I0, I1, I2, I3, I4, I5, I6, I7, I8, I9, I10, I11, I12, I13⟩, ⟨X, D⟩, R⟩, ⟨%W, -, HO⟩, ⟨%d0, W0⟩, ⟨%d1, W1⟩, ⟨%d2, W2⟩, ⟨%d3, W3⟩, W4, ⟨%d5, W5⟩, ⟨%d6, W6⟩⟩
  ihave S0 := (any_of_buf c) $$ S0
  ihave S1 := (any_of_buf c) $$ S1
  ihave S2 := (any_of_buf c) $$ S2
  ihave S3 := (any_of_buf c) $$ S3
  ihave S4 := (any_of_buf c) $$ S4
  ihave S5 := (any_of_buf c) $$ S5
  ihave S6 := (any_of_buf c) $$ S6
  ihave S7 := (any_of_buf c) $$ S7
  ihave S8 := (any_of_buf c) $$ S8
  ihave S9 := (any_of_buf c) $$ S9
  ihave S10 := (any_of_buf c) $$ S10
  ihave S11 := (any_of_buf c) $$ S11
  ihave S12 := (any_of_buf c) $$ S12
  ihave S13 := (any_of_buf c) $$ S13
  ihave S14 := (any_of_buf c) $$ S14
  ihave S15 := (any_of_buf c) $$ S15
  ihave R := (any_of_buf c) $$ R
  ihave X := (has_of_buf c) $$ X
  ihave D := (has_of_buf c) $$ D
  ihave W0 := (has_of_owns c) $$ W0
  ihave W1 := (has_of_owns c) $$ W1
  ihave W2 := (has_of_owns c) $$ W2
  ihave W3 := (has_of_owns c) $$ W3
  ihave W4 := (any_of_owns c) $$ W4
  ihave W5 := (has_of_owns c) $$ W5
  ihave W6 := (has_of_owns c) $$ W6
  isplitl [S0 S1 S2 S3 S4 S5 S6 S7 S8 S9 S10 S11 S12 S13 S14 S15 I0 I1 I2 I3 I4 I5 I6 I7 I8 I9 I10 I11 I12 I13 X D R W0 W1 W2 W3 W4 HO W5 W6]
  · isplitl [S0 S1 S2 S3 S4 S5 S6 S7 S8 S9 S10 S11 S12 S13 S14 S15 I0 I1 I2 I3 I4 I5 I6 I7 I8 I9 I10 I11 I12 I13 X D R W0 W1 W2 W3 W4 HO]
    · isplitl [S0 S1 S2 S3 S4 S5 S6 S7 S8 S9 S10 S11 S12 S13 S14 S15]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        iexact S15
      isplitl [I0 I1 I2 I3 I4 I5 I6 I7 I8 I9 I10 I11 I12 I13]
      · isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        isplitl [I8]; · iexact I8
        isplitl [I9]; · iexact I9
        isplitl [I10]; · iexact I10
        isplitl [I11]; · iexact I11
        isplitl [I12]; · iexact I12
        iexact I13
      isplitl [X]; · iexact X
      isplitl [D]; · iexact D
      isplitl [R]; · iexact R
      isplitl [W0]; · iexact W0
      isplitl [W1]; · iexact W1
      isplitl [W2]; · iexact W2
      isplitl [W3]; · iexact W3
      isplitl [W4]; · iexact W4
      (unfold Owes; iexists W; iexact HO)
    isplitl [W5]; · (unfold Any; iexists _; iexact W5)
    (unfold Any; iexists _; iexact W6)
  iexact Hg

theorem held_out (c : Dev nD) (t : Fin cfg0.N) :
    iprop((InHand m c t ∗ Has c (ms5 t) Finset.univ (dgammaAt m c) ∗ Has c (ms6 t) Finset.univ (dbetaAt m c)) ∗ (∃ r, prngReg c r)) ⊢ bodyPost m c t := by
  unfold bodyPost
  rw [fin_N0 t]
  rw [show (dats m 0 c).after 0 t0_0 = gIn m c from rfl, show (dats m 0 c).after 1 t0_0 = eIn m c from rfl,
    show (dats m 0 c).after 2 t0_0 = fun _ => vIn m c from scale_const m c t0_0, show (dats m 0 c).after 3 t0_0 = fun _ => uIn m c from one_const m c t0_0,
    show (dats m 0 c).after 5 t0_0 = dgammaAt m c from rfl, show (dats m 0 c).after 6 t0_0 = dbetaAt m c from rfl]
  rw [show (dats m 0 c).Φ t0_0.succ = Pipeline.ΦDR osem0 spec0 H0 R0 (V m) c from rfl, PhiDR0_eq]
  unfold Dat.owesAt Pipeline.owesWithin InHand Owes
  rw [show (dats m 0 c).owed t0_0.succ = 0 from rfl]
  iintro ⟨⟨⟨⟨S0, S1, S2, S3, S4, S5, S6, S7, S8, S9, S10, S11, S12, S13, S14, S15⟩, ⟨I0, I1, I2, I3, I4, I5, I6, I7, I8, I9, I10, I11, I12, I13⟩, X, D, R, W0, W1, W2, W3, W4, ⟨%W, HO⟩⟩, W5, W6⟩, Hg⟩
  ihave S0 := (buf_of_any c) $$ S0
  ihave S1 := (buf_of_any c) $$ S1
  ihave S2 := (buf_of_any c) $$ S2
  ihave S3 := (buf_of_any c) $$ S3
  ihave S4 := (buf_of_any c) $$ S4
  ihave S5 := (buf_of_any c) $$ S5
  ihave S6 := (buf_of_any c) $$ S6
  ihave S7 := (buf_of_any c) $$ S7
  ihave S8 := (buf_of_any c) $$ S8
  ihave S9 := (buf_of_any c) $$ S9
  ihave S10 := (buf_of_any c) $$ S10
  ihave S11 := (buf_of_any c) $$ S11
  ihave S12 := (buf_of_any c) $$ S12
  ihave S13 := (buf_of_any c) $$ S13
  ihave S14 := (buf_of_any c) $$ S14
  ihave S15 := (buf_of_any c) $$ S15
  ihave R := (buf_of_any c) $$ R
  ihave X := (buf_of_has c) $$ X
  ihave D := (buf_of_has c) $$ D
  ihave W0 := (owns_of_has c) $$ W0
  ihave W1 := (owns_of_has c) $$ W1
  ihave W2 := (owns_of_has c) $$ W2
  ihave W3 := (owns_of_has c) $$ W3
  ihave W5 := (owns_of_has c) $$ W5
  ihave W6 := (owns_of_has c) $$ W6
  ihave W4 := (owns_of_any c) $$ W4
  isplitl [S0 S1 S2 S3 S4 S5 S6 S7 S8 S9 S10 S11 S12 S13 S14 S15 Hg I0 I1 I2 I3 I4 I5 I6 I7 I8 I9 I10 I11 I12 I13 X D R]
  · isplitl [S0 S1 S2 S3 S4 S5 S6 S7 S8 S9 S10 S11 S12 S13 S14 S15]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexact S15
    isplitl [Hg]; · iexact Hg
    isplitl [I0 I1 I2 I3 I4 I5 I6 I7 I8 I9 I10 I11 I12 I13]
    · isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      isplitl [I11]; · iexact I11
      isplitl [I12]; · iexact I12
      iexact I13
    isplitl [X D]
    · isplitl [X]; · iexact X
      iexact D
    iexact R
  isplitl [HO]
  · iexists W; isplitr; · ipureintro; exact fun _ _ => Or.inl trivial
    iexact HO
  isplitl [W0]; · iexact W0
  isplitl [W1]; · iexact W1
  isplitl [W2]; · iexact W2
  isplitl [W3]; · iexact W3
  isplitl [W4]; · iexact W4
  isplitl [W5]; · iexact W5
  iexact W6

theorem sound_body (c : Dev nD) (t : Fin cfg0.N) : bodyPre m c t ⊢ Run c (bodyAt0 t) fun _ => bodyPost m c t := by
  refine (held_in m c t).trans (BIBase.Entails.trans ?_ (wp_mono _ _ _ fun _ => held_out m c t))
  refine BIBase.Entails.trans ?_ (wp_frame_r _ _ _)
  iintro ⟨H, Hg⟩
  isplitl [H]; · iapply (held_run m c t) $$ H
  iexact Hg

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The program's run -/

set_option backward.isDefEq.respectTransparency.types false in
theorem run_main : θ_run defs (onTc (τ := τ) (main (F := F))) (s₀ m ρ)
    (fun r => Pipeline.RDat.FramePostR cfg0 (fun c => (dats m 0 c).toRForget fgt) R0 (V m) r ∧ r.2.sem = fun _ => 0) :=
  Pipeline.θ_run_frame_dmaR_forget (Q' := _) cfgs (dats m) (0 : Fin 1) launch0 osem0 defs₀ Variants.none fgt ownSemFacts0 H0 R0 H0_sub R0_sub m ρ main
    (hbody := fun c => body_obligation m c) (hshare := fun c => (dats m 0 c).share_full fun _ => rfl)
    (howed := fun _ _ => rfl) (V := V m) (hmain := hmain m Variants.none) (hA := A_eq m)
    (hin := fun _ => .rfl) (hout := fun _ => .rfl)

theorem arr_5 (c : Dev nD) : (dats m 0 c).arrAt 5 cfg0.N = dgammaAt m c :=
  (dats m 0 c).arrAt_eq_of_after_last 5 t0_0 (by decide +kernel) (dgammaAt m c) fun j => rfl
theorem arr_6 (c : Dev nD) : (dats m 0 c).arrAt 6 cfg0.N = dbetaAt m c :=
  (dats m 0 c).arrAt_eq_of_after_last 6 t0_0 (by decide +kernel) (dbetaAt m c) fun j => rfl

/-- The whole program's run. -/
theorem run_values : θ_run defs (onTc (τ := τ) (main (F := F))) ⟨m, fun _ => 0, ρ⟩ (fun r => (∀ c : Dev nD,
      r.2.mem ((c.tc : Thread nD τ).loc main_v6_2) = dgammaAt m c
      ∧ r.2.mem ((c.tc : Thread nD τ).loc main_v6_3) = dbetaAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((Pipeline.Dat.toRForget_arrAt_iff (dats m 0 c) (fgt := fgt) (w := 5) rfl _ _).mp ((h.1 c).1 5)).trans (arr_5 m c),
      ((Pipeline.Dat.toRForget_arrAt_iff (dats m 0 c) (fgt := fgt) (w := 6) rfl _ _).mp ((h.1 c).1 6)).trans (arr_6 m c),
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.Proof.KernelIdeal

end
-- ==== Proof.Plain.lean ====
/-
  The kernel at bits: the same run as the idealized one's, at the instance that reads each named constant as its bits.
-/
module

public import proofs.«01_k».proof.Defs
public import proofs.«01_k».proof.Proof.Launched
public import proofs.«01_k».proof.Proof.Gen.Kernel

@[expose] public section

noncomputable section

namespace Cert.Proof.KernelIdeal

open Idealize.ShloMosaic Idealize.ShloMosaic.TcCoe Idealize.ShloMosaic.Tactic
open Idealize.SL Idealize.SL.Sem

/-- A named constant at bits is its own bits. -/
@[reducible] local instance namedBits : Named Bits where
  named _ _ {φ} bits := FloatOps.ofBits φ bits

/-- The frame's statement over the idealized text, at the bit-exact instance. -/
def FrameBits : Prop :=
  ∀ (m : (ℓ : Loc Cert.KernelIdeal.nD Cert.KernelIdeal.τ Cert.KernelIdeal.sig) → Idealize.ShloMosaic.Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frameBits : FrameBits := fun m g _ =>
  (θ_run _ _ _).mono (fun _ h => ⟨fun c => ((h.1 c).2).2, h.2⟩) (run_values (F := Bits) m g)

/-- The two texts are one program, up to the names. -/
theorem plain_eq : FrameBits = quiescent_Kernel (hKernel := Cert.Kernel.Gen.facts) := by sl_kernel_rfl

theorem frame_plain : quiescent_Kernel (hKernel := Cert.Kernel.Gen.facts) := plain_eq ▸ frameBits

end Cert.Proof.KernelIdeal

end
-- ==== Proof.Plainly.lean ====
/-
  The two sums over the channels as plain formulas of real arrays: what the kernel and the reference both compute when numbers
  are exact. `x n k p` is the input at batch `n`, channel `k` and place `p`; a group is ten channels.
-/
module

public import Mathlib.Data.EReal.Inv
public import Idealize.ShloMosaic.PureOps.Ideal
public import Idealize.ShloMosaic.PureOps.Ideal.Laws
public import Idealize.ShloMosaic.Lib.IdealHost

@[expose] public section

noncomputable section

namespace Cert.Proof.Plainly

open Idealize.ShloMosaic

/-! ## Sums -/

/-- A sum over the products of two ranges, by quotient and remainder. -/
theorem sum_range_mul {M : Type*} [AddCommMonoid M] (f : ℕ → M) (b : ℕ) : ∀ a : ℕ,
    ∑ p ∈ Finset.range (a * b), f p = ∑ i ∈ Finset.range a, ∑ j ∈ Finset.range b, f (b * i + j)
  | 0 => by simp
  | a + 1 => by
    rw [Nat.succ_mul, Finset.sum_range_add, sum_range_mul f b a, Finset.sum_range_succ, Nat.mul_comm a b]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem sum_mul_nonneg {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-! ## The statistics -/

/-- The number of a group's elements. -/
abbrev count : ℝ := 163840

/-- A sum over a group. -/
def over (f : ℕ → ℕ → ℝ) (g : ℕ) : ℝ := ∑ j ∈ Finset.range 10, ∑ p ∈ Finset.range 16384, f (j + 10 * g) p
def mean (x : ℕ → ℕ → ℝ) (g : ℕ) : ℝ := over x g / count
def var (x : ℕ → ℕ → ℝ) (g : ℕ) : ℝ := over (fun k p => (x k p - mean x g) * (x k p - mean x g)) g / count

theorem var_nonneg (x : ℕ → ℕ → ℝ) (g : ℕ) : 0 ≤ var x g :=
  div_nonneg (Finset.sum_nonneg fun _ _ => Finset.sum_nonneg fun _ _ => mul_self_nonneg _) (by norm_num)

/-- The mean square less the square of the mean is the mean square deviation. -/
theorem var_quick (x : ℕ → ℕ → ℝ) (g : ℕ) : over (fun k p => x k p * x k p) g / count - mean x g * mean x g = var x g := by
  have h1 : over (fun k p => (x k p - mean x g) * (x k p - mean x g)) g
      = over (fun k p => x k p * x k p) g - 2 * mean x g * over x g + count * (mean x g * mean x g) := by
    have e : ∀ k p : ℕ, (x k p - mean x g) * (x k p - mean x g) = x k p * x k p - 2 * mean x g * x k p + mean x g * mean x g := fun k p => by ring
    simp only [over, e, Finset.sum_add_distrib, Finset.sum_sub_distrib, ← Finset.mul_sum, Finset.sum_const, Finset.card_range, nsmul_eq_mul]
    norm_num
    ring
  have h2 : over x g = count * mean x g := by unfold mean; field_simp
  unfold var
  rw [h1, h2]
  field_simp
  ring

/-- The addend of the variance, as its word denotes it. -/
def eps : ℝ := 10995116 * (2 ^ 40)⁻¹
theorem eps_pos : 0 < eps := by unfold eps; positivity
theorem eps_coe : Ideal.ofBits .f32 0x3727C5AC#32 = ((eps : ℝ) : EReal) := by
  simp [Ideal.ofBits, Ideal.ieee, eps]

/-- The words of a group's count and of its reciprocal. -/
theorem count_coe : Ideal.ofBits .f32 0x48200000#32 = ((count : ℝ) : EReal) := by
  simp [Ideal.ofBits, Ideal.ieee, count]
  rw [← EReal.coe_mul]
  norm_num

/-- A real divided by a group's count. -/
theorem div_count (r : ℝ) : Ideal.div (r : EReal) ((count : ℝ) : EReal) = ((r / count : ℝ) : EReal) := by
  unfold Ideal.div
  rw [if_neg (by exact_mod_cast (by norm_num : (count : ℝ) ≠ 0)), ← EReal.coe_inv, ← EReal.coe_mul, div_eq_mul_inv]

/-- The inverse deviation. -/
def rstd (x : ℕ → ℕ → ℝ) (g : ℕ) : ℝ := (Real.sqrt (var x g + eps))⁻¹

theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.2 h.le), if_neg h.ne']

theorem rstd_coe (x : ℕ → ℕ → ℝ) (g : ℕ) : Ideal.rsqrt (((var x g : ℝ) : EReal) + ((eps : ℝ) : EReal)) = ((rstd x g : ℝ) : EReal) := by
  rw [← EReal.coe_add]
  exact rsqrt_coe (add_pos_of_nonneg_of_pos (var_nonneg x g) eps_pos)

/-! ## The gradient -/

/-- The affine map of the normalised input. -/
def act (x : ℕ → ℕ → ℝ) (ga be : ℕ → ℝ) (k p : ℕ) : ℝ := (x k p - mean x (k / 10)) * rstd x (k / 10) * ga k + be k
def sigm (h : ℝ) : ℝ := (1 + Real.exp (-h))⁻¹
/-- The derivative of SiLU. -/
def silu' (h : ℝ) : ℝ := sigm h * (1 + h * (1 - sigm h))

theorem logistic_coe (h : ℝ) : Ideal.logistic (h : EReal) = ((sigm h : ℝ) : EReal) := by
  have e : (0 : ℝ) < 1 + Real.exp (-h) := by positivity
  have e1 : (1 : EReal) + Ideal.exp (-(h : EReal)) = ((1 + Real.exp (-h) : ℝ) : EReal) := rfl
  unfold Ideal.logistic
  rw [e1]
  unfold Ideal.div
  rw [if_neg (by exact_mod_cast e.ne'), one_mul, ← EReal.coe_inv]; rfl

/-- The sums of the derivative times `dy`, and times `x` also, over a channel. -/
def sumD (x : ℕ → ℕ → ℝ) (ga be : ℕ → ℝ) (d : ℕ → ℕ → EReal) (k : ℕ) : EReal :=
  ∑ p ∈ Finset.range 16384, ((silu' (act x ga be k p) : ℝ) : EReal) * d k p
def sumDX (x : ℕ → ℕ → ℝ) (ga be : ℕ → ℝ) (d : ℕ → ℕ → EReal) (k : ℕ) : EReal :=
  ∑ p ∈ Finset.range 16384, (((silu' (act x ga be k p) : ℝ) : EReal) * d k p) * ((x k p : ℝ) : EReal)

/-- A batch's share of `dbeta` and of `dgamma`. -/
def shareB (x : ℕ → ℕ → ℝ) (ga be : ℕ → ℝ) (d : ℕ → ℕ → EReal) (v : EReal) (k : ℕ) : EReal := sumD x ga be d k * v
def shareG (x : ℕ → ℕ → ℝ) (ga be : ℕ → ℝ) (d : ℕ → ℕ → EReal) (v : EReal) (k : ℕ) : EReal :=
  ((rstd x (k / 10) : ℝ) : EReal) * (sumDX x ga be d k * v - ((mean x (k / 10) : ℝ) : EReal) * (sumD x ga be d k * v))

/-- `dbeta` and `dgamma`. -/
def dbeta (x : ℕ → ℕ → ℕ → ℝ) (ga be : ℕ → ℝ) (d : ℕ → ℕ → ℕ → EReal) (v : EReal) (k : ℕ) : EReal := shareB (x 0) ga be (d 0) v k + shareB (x 1) ga be (d 1) v k
def dgamma (x : ℕ → ℕ → ℕ → ℝ) (ga be : ℕ → ℝ) (d : ℕ → ℕ → ℕ → EReal) (v : EReal) (k : ℕ) : EReal := shareG (x 0) ga be (d 0) v k + shareG (x 1) ga be (d 1) v k

/-! ## A half of the channels

The second half's channel `k` is channel `160 + k` of the whole, and its group `g` group `16 + g`. -/

section
variable (x : ℕ → ℕ → ℝ) (ga be : ℕ → ℝ) (d : ℕ → ℕ → EReal) (v : EReal) (h : ℕ)

theorem over_shift (f : ℕ → ℕ → ℝ) (g : ℕ) : over (fun k p => f (160 * h + k) p) g = over f (16 * h + g) :=
  Finset.sum_congr rfl fun j _ => Finset.sum_congr rfl fun p _ => congrArg (f · p) (by omega)
theorem mean_shift (g : ℕ) : mean (fun k p => x (160 * h + k) p) g = mean x (16 * h + g) := congrArg (· / count) (over_shift h x g)
theorem var_shift (g : ℕ) : var (fun k p => x (160 * h + k) p) g = var x (16 * h + g) := by
  unfold var
  rw [mean_shift]
  exact congrArg (· / count) (over_shift h (fun k p => (x k p - mean x (16 * h + g)) * (x k p - mean x (16 * h + g))) g)
theorem rstd_shift (g : ℕ) : rstd (fun k p => x (160 * h + k) p) g = rstd x (16 * h + g) := by unfold rstd; rw [var_shift]
theorem act_shift (k p : ℕ) : act (fun k p => x (160 * h + k) p) (fun k => ga (160 * h + k)) (fun k => be (160 * h + k)) k p = act x ga be (160 * h + k) p := by
  unfold act
  rw [mean_shift, rstd_shift, show (160 * h + k) / 10 = 16 * h + k / 10 by omega]
theorem shareB_shift (k : ℕ) : shareB (fun k p => x (160 * h + k) p) (fun k => ga (160 * h + k)) (fun k => be (160 * h + k)) (fun k p => d (160 * h + k) p) v k
    = shareB x ga be d v (160 * h + k) := by
  unfold shareB sumD
  simp only [act_shift]
theorem shareG_shift (k : ℕ) : shareG (fun k p => x (160 * h + k) p) (fun k => ga (160 * h + k)) (fun k => be (160 * h + k)) (fun k p => d (160 * h + k) p) v k
    = shareG x ga be d v (160 * h + k) := by
  unfold shareG sumD sumDX
  simp only [act_shift, mean_shift, rstd_shift, show (160 * h + k) / 10 = 16 * h + k / 10 by omega]

end

end Cert.Proof.Plainly

end
-- ==== Proof.Exact.lean ====
/-
  The kernel's statistics and sums when numbers are exact: they are the plain formulas.
-/
module

public import proofs.«01_k».proof.Proof.Plainly
public import proofs.«01_k».proof.Proof.Run
public import Idealize.ShloMosaic.PureOps.Ideal.Laws
public import Idealize.ShloMosaic.Lib.Pipeline.Value

@[expose] public section

noncomputable section

namespace Cert.Proof.KernelIdeal

open Cert.KernelIdeal Cert.KernelIdeal.Gen
open Idealize.ShloMosaic Idealize.ShloMosaic.TcCoe
open Idealize.SL.Sem
open Cert.Proof.Plainly

/-! ## Sums in the kernel's order -/

theorem f0_ideal : (f0 : Ideal .f32) = 0 := Ideal.ofBits_zero_f32

theorem sum8_ideal (f : ℕ → EReal) (lane : ℕ) : ∀ n, sum8 (F := Ideal) f lane n = ∑ t ∈ Finset.range n, ∑ r ∈ Finset.range 16, f (2048 * t + 128 * r + lane)
  | 0 => f0_ideal
  | n + 1 => by
    rw [sum8_succ, sum8_ideal f lane n, Finset.sum_range_succ]
    refine congrArg (_ + ·) ?_
    simp only [Finset.sum_range_succ, Finset.sum_range_zero, zero_add]
    rfl

theorem sum32_ideal (f : ℕ → EReal) (lane : ℕ) : ∀ n, sum32 (F := Ideal) f lane n = ∑ t ∈ Finset.range n, ∑ r ∈ Finset.range 4, f (512 * t + 128 * r + lane)
  | 0 => f0_ideal
  | n + 1 => by
    rw [sum32_succ, sum32_ideal f lane n, Finset.sum_range_succ]
    simp only [Finset.sum_range_succ _ 3, Finset.sum_range_succ _ 2, Finset.sum_range_succ _ 1, Finset.sum_range_succ _ 0, Finset.sum_range_zero, zero_add, ← add_assoc]
    rfl

theorem sum16_ideal (f : ℕ → EReal) (lane : ℕ) : ∀ n, sum16 (F := Ideal) f lane n = ∑ t ∈ Finset.range n, ∑ r ∈ Finset.range 8, f (1024 * t + 128 * r + lane)
  | 0 => f0_ideal
  | n + 1 => by
    rw [sum16_succ, sum16_ideal f lane n, Finset.sum_range_succ]
    simp only [Finset.sum_range_succ _ 7, Finset.sum_range_succ _ 6, Finset.sum_range_succ _ 5, Finset.sum_range_succ _ 4, Finset.sum_range_succ _ 3, Finset.sum_range_succ _ 2, Finset.sum_range_succ _ 1, Finset.sum_range_succ _ 0, Finset.sum_range_zero, zero_add, ← add_assoc]
    rfl

/-- Lane by lane, step by step and column by column: every place once. -/
theorem sum_places (f : ℕ → EReal) (a b : ℕ) {c n : ℕ} (hc : c = 128 * b) (hn : n = a * b * 128) :
    ∑ l ∈ Finset.range 128, ∑ t ∈ Finset.range a, ∑ r ∈ Finset.range b, f (c * t + 128 * r + l) = ∑ p ∈ Finset.range n, f p := by
  subst hc hn
  rw [sum_range_mul f 128 (a * b), sum_range_mul (fun q => ∑ l ∈ Finset.range 128, f (128 * q + l)) b a, Finset.sum_comm]
  refine Finset.sum_congr rfl fun t _ => ?_
  rw [Finset.sum_comm]
  refine Finset.sum_congr rfl fun r _ => Finset.sum_congr rfl fun l _ => congrArg f ?_
  ring

/-- The sum over the lanes, put on every lane. -/
theorem lanes_apply {n : ℕ} (hn : n ≠ 1) (v : FVec Ideal ⟨2, ![n, 128]⟩ .f32) (f : ℕ → ℕ → EReal) (hv : ∀ i, v i = f (i 0).val (i 1).val)
    (h0 : Shape.Reduces ⟨2, ![n, 128]⟩ [1] ⟨1, ![n]⟩) (h1 : Shape.ShapeCasts ⟨1, ![n]⟩ ⟨2, ![n, 1]⟩) (h2 : Shape.ShapeCasts ⟨2, ![n, 1]⟩ ⟨2, ![n, 1]⟩)
    (h3 : Shape.Broadcasts ⟨2, ![n, 1]⟩ ⟨2, ![n, 128]⟩) (y : (⟨2, ![n, 128]⟩ : Shape).Idx) :
    broadcastTo ⟨2, ![n, 128]⟩ (shapeCast ⟨2, ![n, 1]⟩ (shapeCast ⟨2, ![n, 1]⟩ (multiReduction .add [1] ⟨1, ![n]⟩ v 0x00000000#32 h0 (.inl rfl) rfl) h1) h2) h3 y
      = ∑ l ∈ Finset.range 128, f (y 0).val l := by
  have y0 : (y 0).val < n := (y 0).isLt
  rw [broadcastTo_apply _ h3 y (fun a => match a with | ⟨0, _⟩ => ⟨(y 0).val, y0⟩ | ⟨1, _⟩ => ⟨0, Nat.one_pos⟩) (by
    intro a
    match a with
    | ⟨0, _⟩ => exact (if_neg hn).symm
    | ⟨1, _⟩ => rfl)]
  rw [shapeCast_apply _ h2 _ _ rfl, shapeCast_apply _ h1 _ (fun a => match a with | ⟨0, _⟩ => ⟨(y 0).val, y0⟩) (by
    rw [Shape.rowMajor_val_one, Shape.rowMajor_val_two]
    show (y 0).val = (y 0).val * 1 + 0
    omega)]
  refine (Ideal.multiReduction_add_single v _ h0 _ _ _).trans ?_
  rw [← Fin.sum_univ_eq_sum_range]
  exact Finset.sum_congr rfl fun l _ => hv _

theorem meanOf_apply (v : V16 Ideal) (f : ℕ → ℕ → EReal) (hv : ∀ i, v i = f (i 0).val (i 1).val) (y : S16x128.Idx) :
    meanOf v y = (∑ l ∈ Finset.range 128, f (y 0).val l) * ((1 / count : ℝ) : EReal) :=
  congrArg₂ (· * ·) (lanes_apply (by decide) v f hv _ _ _ _ y) (IdealRules.named_const.ideal_named_scalar _ _ _ _ rfl)

theorem sumTimes_apply (v : V160 Ideal) (f : ℕ → ℕ → EReal) (hv : ∀ i, v i = f (i 0).val (i 1).val) (s : EReal) (y : S160x128.Idx) :
    sumTimes v s y = (∑ l ∈ Finset.range 128, f (y 0).val l) * s :=
  congrArg (· * s) (lanes_apply (by decide) v f hv _ _ _ _ y)

theorem rstdOf_apply (v : V16 Ideal) (y : S16x128.Idx) : rstdOf v y = Ideal.rsqrt (v y + Ideal.ofBits .f32 0x3727C5AC#32) := rfl

/-- The mean over a group of a function whose lane sums are `s`. -/
theorem mean_grp (s : ℕ → ℕ → EReal) (f : ℕ → ℕ → ℝ) (hs : ∀ k, ∑ l ∈ Finset.range 128, s k l = ∑ p ∈ Finset.range 16384, ((f k p : ℝ) : EReal)) (y : S16x128.Idx) :
    meanOf (F := Ideal) (grp s) y = ((over f (y 0).val / count : ℝ) : EReal) := by
  rw [meanOf_apply (grp s) (fun g l => ∑ j ∈ Finset.range 10, s (j + 10 * g) l) (fun i => by
    simp only [Finset.sum_range_succ, Finset.sum_range_zero]
    rw [zero_add (s (0 + 10 * (i 0).val) (i 1).val)]
    rfl)]
  rw [Finset.sum_comm]
  simp only [hs, ← coe_sum]
  rw [← EReal.coe_mul]
  congr 1
  unfold over
  ring

/-! ## The statistics -/

section
variable (xb : ℕ → ℕ → EReal) (w : ℕ → ℕ → ℝ) (hx : ∀ k p, xb k p = ((w k p : ℝ) : EReal))
include hx

theorem meanV_ideal (y : S16x128.Idx) : meanV (F := Ideal) 1 xb y = ((mean w (y 0).val : ℝ) : EReal) :=
  mean_grp _ w (fun k => by
    simp only [sum8_ideal]
    rw [sum_places (fun col => FloatOps.mulf (F := Ideal) (xf (F := Ideal) xb k col) 1) 8 16 (c := 2048) (n := 16384) (by norm_num) (by norm_num)]
    refine Finset.sum_congr rfl fun p _ => ?_
    show xb k p * 1 = _
    rw [mul_one, hx]) y

theorem sqV_ideal (y : S16x128.Idx) : sqV (F := Ideal) xb y = ((over (fun k p => w k p * w k p) (y 0).val / count : ℝ) : EReal) :=
  mean_grp _ _ (fun k => by
    simp only [sum8_ideal]
    rw [sum_places (fun col => FloatOps.mulf (F := Ideal) (xf (F := Ideal) xb k col) (xf (F := Ideal) xb k col)) 8 16 (c := 2048) (n := 16384) (by norm_num) (by norm_num)]
    refine Finset.sum_congr rfl fun p _ => ?_
    show xb k p * xb k p = _
    rw [hx, EReal.coe_mul]) y

theorem muV_ideal (k lane : ℕ) : muV (F := Ideal) 1 xb k lane = ((mean w (k / 10 % 16) : ℝ) : EReal) := meanV_ideal xb w hx _

theorem devV_ideal (y : S16x128.Idx) : devV (F := Ideal) 1 xb y = ((var w (y 0).val : ℝ) : EReal) := by
  have y0 : (y 0).val < 16 := (y 0).isLt
  refine (mean_grp _ (fun k p => (w k p - mean w (k / 10 % 16)) * (w k p - mean w (k / 10 % 16))) (fun k => ?_) y).trans ?_
  · simp only [sum32_ideal]
    have e : ∀ l col, FloatOps.mulf (F := Ideal) (φ := .f32) (FloatOps.subf (xf (F := Ideal) xb k col) (spreadOf (meanV (F := Ideal) 1 xb) k l)) (FloatOps.subf (xf (F := Ideal) xb k col) (spreadOf (meanV (F := Ideal) 1 xb) k l))
        = (((w k col - mean w (k / 10 % 16)) * (w k col - mean w (k / 10 % 16)) : ℝ) : EReal) := fun l col => by
      show (xb k col - muV (F := Ideal) 1 xb k l) * (xb k col - muV (F := Ideal) 1 xb k l) = _
      rw [muV_ideal xb w hx, hx, ← EReal.coe_sub, ← EReal.coe_mul]
    simp only [e]
    rw [sum_places (fun col => (((w k col - mean w (k / 10 % 16)) * (w k col - mean w (k / 10 % 16)) : ℝ) : EReal)) 32 4 (c := 512) (n := 16384) (by norm_num) (by norm_num)]
  · unfold var
    refine congrArg (fun s : ℝ => ((s / count : ℝ) : EReal)) (Finset.sum_congr rfl fun j hj => Finset.sum_congr rfl fun p _ => ?_)
    have := Finset.mem_range.1 hj
    beta_reduce
    rw [show (j + 10 * (y 0).val) / 10 % 16 = (y 0).val by omega]

theorem quick_ideal (y : S16x128.Idx) : quickVar (meanV (F := Ideal) 1 xb) (sqV (F := Ideal) xb) y = ((var w (y 0).val : ℝ) : EReal) := by
  show max (sqV (F := Ideal) xb y - meanV (F := Ideal) 1 xb y * meanV (F := Ideal) 1 xb y) (Ideal.ofBits .f32 0x00000000#32) = _
  rw [sqV_ideal xb w hx, meanV_ideal xb w hx, ← EReal.coe_mul, ← EReal.coe_sub, var_quick, Ideal.ofBits_zero_f32]
  exact max_eq_left (EReal.coe_nonneg.2 (var_nonneg w _))

theorem varV_ideal (y : S16x128.Idx) : varV (F := Ideal) 1 xb y = ((var w (y 0).val : ℝ) : EReal) := by
  unfold varV
  split_ifs
  · exact devV_ideal xb w hx y
  · exact quick_ideal xb w hx y

theorem rsV_ideal (k lane : ℕ) : rsV (F := Ideal) 1 xb k lane = ((rstd w (k / 10 % 16) : ℝ) : EReal) := by
  unfold rsV spreadOf
  rw [rstdOf_apply, varV_ideal xb w hx, eps_coe]
  exact rstd_coe w _

/-! ## The gradient -/

variable (ga be : ℕ → ℝ) (db : ℕ → ℕ → EReal) (v : EReal)

/-- The gradient at a row and place. -/
theorem dhV_ideal (ga' be' : ℕ → ℕ → EReal) (hg : ∀ k l, ga' k l = ((ga k : ℝ) : EReal)) (hb : ∀ k l, be' k l = ((be k : ℝ) : EReal)) {k : ℕ} (hk : k < 160) (l p : ℕ) :
    dhV (F := Ideal) (slopeV (muV (F := Ideal) 1 xb) (rsV (F := Ideal) 1 xb) ga' be') (shiftV (muV (F := Ideal) 1 xb) (rsV (F := Ideal) 1 xb) ga' be') xb db k l p
      = ((silu' (act w ga be k p) : ℝ) : EReal) * db k p := by
  have e : k / 10 % 16 = k / 10 := Nat.mod_eq_of_lt (by omega)
  have ea : xb k p * (rsV (F := Ideal) 1 xb k l * ga' k l) + (be' k l - muV (F := Ideal) 1 xb k l * (rsV (F := Ideal) 1 xb k l * ga' k l)) = ((act w ga be k p : ℝ) : EReal) := by
    rw [hx, hg, hb, rsV_ideal xb w hx, muV_ideal xb w hx, e, ← EReal.coe_mul, ← EReal.coe_mul, ← EReal.coe_mul, ← EReal.coe_sub, ← EReal.coe_add]
    congr 1
    unfold act
    ring
  show (Ideal.logistic (xb k p * (rsV (F := Ideal) 1 xb k l * ga' k l) + (be' k l - muV (F := Ideal) 1 xb k l * (rsV (F := Ideal) 1 xb k l * ga' k l)))
    * ((Ideal.ofBits .f32 0x3F800000#32 + (xb k p * (rsV (F := Ideal) 1 xb k l * ga' k l) + (be' k l - muV (F := Ideal) 1 xb k l * (rsV (F := Ideal) 1 xb k l * ga' k l))))
      - (xb k p * (rsV (F := Ideal) 1 xb k l * ga' k l) + (be' k l - muV (F := Ideal) 1 xb k l * (rsV (F := Ideal) 1 xb k l * ga' k l)))
        * Ideal.logistic (xb k p * (rsV (F := Ideal) 1 xb k l * ga' k l) + (be' k l - muV (F := Ideal) 1 xb k l * (rsV (F := Ideal) 1 xb k l * ga' k l))))) * db k p = _
  rw [ea, logistic_coe, Ideal.ofBits_one_f32, ← EReal.coe_one, ← EReal.coe_add, ← EReal.coe_mul, ← EReal.coe_sub, ← EReal.coe_mul]
  refine congrArg (fun r : ℝ => (r : EReal) * db k p) ?_
  unfold silu'
  ring

theorem betaV_ideal (ga' be' : ℕ → ℕ → EReal) (hg : ∀ k l, ga' k l = ((ga k : ℝ) : EReal)) (hb : ∀ k l, be' k l = ((be k : ℝ) : EReal)) (y : S160x128.Idx) :
    betaV (F := Ideal) (muV (F := Ideal) 1 xb) (rsV (F := Ideal) 1 xb) ga' be' xb db v y = shareB w ga be db v (y 0).val := by
  have y0 : (y 0).val < 160 := (y 0).isLt
  refine (sumTimes_apply _ _ (fun _ => rfl) v y).trans ?_
  unfold sumV
  simp only [sum16_ideal, dhV_ideal xb w hx ga be db ga' be' hg hb y0]
  rw [sum_places (fun p => ((silu' (act w ga be (y 0).val p) : ℝ) : EReal) * db (y 0).val p) 16 8 (c := 1024) (n := 16384) (by norm_num) (by norm_num)]
  rfl

theorem gammaV_ideal (ga' be' : ℕ → ℕ → EReal) (hg : ∀ k l, ga' k l = ((ga k : ℝ) : EReal)) (hb : ∀ k l, be' k l = ((be k : ℝ) : EReal)) (y : S160x128.Idx) :
    gammaV (F := Ideal) (muV (F := Ideal) 1 xb) (rsV (F := Ideal) 1 xb) ga' be' xb db v y = shareG w ga be db v (y 0).val := by
  have y0 : (y 0).val < 160 := (y 0).isLt
  have e : (y 0).val / 10 % 16 = (y 0).val / 10 := Nat.mod_eq_of_lt (by omega)
  show rsV (F := Ideal) 1 xb (y 0).val (y 1).val * (sumTimes (F := Ideal) (cells (sumXV (F := Ideal) _ _ xb db)) v y
    - muV (F := Ideal) 1 xb (y 0).val (y 1).val * betaV (F := Ideal) (muV (F := Ideal) 1 xb) (rsV (F := Ideal) 1 xb) ga' be' xb db v y) = _
  rw [betaV_ideal xb w hx ga be db v ga' be' hg hb, rsV_ideal xb w hx, muV_ideal xb w hx, e, sumTimes_apply _ _ (fun _ => rfl) v y]
  unfold sumXV
  have ex : ∀ l p, FloatOps.mulf (F := Ideal) (φ := .f32) (dhV (F := Ideal) (slopeV (muV (F := Ideal) 1 xb) (rsV (F := Ideal) 1 xb) ga' be') (shiftV (muV (F := Ideal) 1 xb) (rsV (F := Ideal) 1 xb) ga' be') xb db (y 0).val l p) (xf (F := Ideal) xb (y 0).val p)
      = (((silu' (act w ga be (y 0).val p) : ℝ) : EReal) * db (y 0).val p) * ((w (y 0).val p : ℝ) : EReal) := fun l p => by
    rw [dhV_ideal xb w hx ga be db ga' be' hg hb y0, ← hx]; rfl
  simp only [sum16_ideal, ex]
  rw [sum_places (fun p => (((silu' (act w ga be (y 0).val p) : ℝ) : EReal) * db (y 0).val p) * ((w (y 0).val p : ℝ) : EReal)) 16 8 (c := 1024) (n := 16384) (by norm_num) (by norm_num)]
  rfl

end

/-! ## The results -/

section
variable (X D : S2x320x16384.Idx → EReal) (G E : S1x320.Idx → EReal) (v : EReal) (x : ℕ → ℕ → ℕ → ℝ) (ga be : ℕ → ℝ)
  (hx : ∀ n k p, X (ix3 n k p) = ((x n k p : ℝ) : EReal)) (hG : ∀ k, G (ix2 k) = ((ga k : ℝ) : EReal)) (hE : ∀ k, E (ix2 k) = ((be k : ℝ) : EReal))
include hx hG hE

/-- A block's shares, at a channel of the whole. -/
theorem betOf_ideal (b : ℕ) (y : S160x128.Idx) :
    betOf (F := Ideal) 1 (colOf G) (colOf E) X D v b y = shareB (x (b / 2)) ga be (fun k p => D (ix3 (b / 2) k p)) v (160 * (b % 2) + (y 0).val) :=
  (betaV_ideal (blockOf X b) (fun k p => x (b / 2) (160 * (b % 2) + k) p) (fun k p => hx _ _ _) (fun k => ga (160 * (b % 2) + k)) (fun k => be (160 * (b % 2) + k))
    (blockOf D b) v _ _ (fun _ _ => hG _) (fun _ _ => hE _) y).trans (shareB_shift (x (b / 2)) ga be (fun k p => D (ix3 (b / 2) k p)) v _ _)
theorem gamOf_ideal (b : ℕ) (y : S160x128.Idx) :
    gamOf (F := Ideal) 1 (colOf G) (colOf E) X D v b y = shareG (x (b / 2)) ga be (fun k p => D (ix3 (b / 2) k p)) v (160 * (b % 2) + (y 0).val) :=
  (gammaV_ideal (blockOf X b) (fun k p => x (b / 2) (160 * (b % 2) + k) p) (fun k p => hx _ _ _) (fun k => ga (160 * (b % 2) + k)) (fun k => be (160 * (b % 2) + k))
    (blockOf D b) v _ _ (fun _ _ => hG _) (fun _ _ => hE _) y).trans (shareG_shift (x (b / 2)) ga be (fun k p => D (ix3 (b / 2) k p)) v _ _)

omit hx hG hE in
/-- Two halves of shares as one row. -/
theorem row_two (w : ℕ → V160 Ideal) (s : ℕ → ℕ → EReal) (hw : ∀ b y, w b y = s (b / 2) (160 * (b % 2) + (y 0).val)) (i : S1x320.Idx) :
    rowOf (F := Ideal) (two (addf (w 0) (w 2)) (addf (w 1) (w 3))) i = s 0 (i 1).val + s 1 (i 1).val := by
  have i1 : (i 1).val < 320 := (i 1).isLt
  have e : (ixc (i 1).val 0).val = (i 1).val := Nat.mod_eq_of_lt i1
  unfold rowOf two
  rw [e]
  split_ifs with h
  · show w 0 _ + w 2 _ = _
    rw [hw, hw]
    refine congrArg (fun k => s 0 k + s 1 k) ?_
    show 160 * 0 + ((i 1).val % 320 - 160 * 0) % 160 = (i 1).val
    omega
  · show w 1 _ + w 3 _ = _
    rw [hw, hw]
    refine congrArg (fun k => s 0 k + s 1 k) ?_
    show 160 * 1 + ((i 1).val % 320 - 160 * 1) % 160 = (i 1).val
    omega

theorem dbetaOf_ideal (i : S1x320.Idx) : dbetaOf (F := Ideal) 1 X D G E v i = dbeta x ga be (fun n k p => D (ix3 n k p)) v (i 1).val :=
  row_two _ (fun n k => shareB (x n) ga be (fun k p => D (ix3 n k p)) v k) (betOf_ideal X D G E v x ga be hx hG hE) i
theorem dgammaOf_ideal (i : S1x320.Idx) : dgammaOf (F := Ideal) 1 X D G E v i = dgamma x ga be (fun n k p => D (ix3 n k p)) v (i 1).val :=
  row_two _ (fun n k => shareG (x n) ga be (fun k p => D (ix3 n k p)) v k) (gamOf_ideal X D G E v x ga be hx hG hE) i

end

end Cert.Proof.KernelIdeal

end
-- ==== Proof.Arrays.lean ====
/-
  The arrays of the kernel's region in terms of the arguments, when numbers are exact.
-/
module

public import proofs.«01_k».proof.Proof.Launched
public import proofs.«01_k».proof.Proof.Exact
public import Idealize.ShloMosaic.Lib.Claim
public import Idealize.ShloMosaic.Lib.IdealHost
public import Idealize.ShloMosaic.Lib.Pipeline.ValueKit
public import Idealize.ShloMosaic.Lib.Pipeline.ValueKit.Point

@[expose] public section

noncomputable section

namespace Cert.Proof.KernelIdeal

open Cert.KernelIdeal Cert.KernelIdeal.Gen
open Idealize.ShloMosaic Idealize.ShloMosaic.TcCoe Idealize.ShloMosaic.Tactic
open Cert.Proof.Plainly

variable (m : (ℓ : Loc nD τ sig) → Idealize.ShloMosaic.Buf (Elt Ideal) ℓ) (c : Dev nD)

/-- The index of a batch, a channel and a place; of a channel; and the only one of a scalar. -/
def argAt (n k p : ℕ) : S2x16384x320.Idx := fun a => ⟨(![n % 2, p % 16384, k % 320] : Fin 3 → ℕ) a, by
  fin_cases a
  · exact Nat.mod_lt _ (by decide)
  · exact Nat.mod_lt _ (by decide)
  · exact Nat.mod_lt _ (by decide)⟩
def rowAt (k : ℕ) : S320.Idx := fun a => ⟨(![k % 320] : Fin 1 → ℕ) a, by
  fin_cases a; exact Nat.mod_lt _ (by decide)⟩
def none_ : S_.Idx := fun a => a.elim0

theorem moved_apply {α : Type} (x : S2x16384x320.Idx → α) (h : S2x16384x320.Transposes [0, 2, 1] S2x320x16384) (n k p : ℕ) :
    transpose S2x320x16384 [0, 2, 1] x h (ix3 n k p) = x (argAt n k p) := by
  refine transpose_apply _ x h _ _ fun b => ?_
  match b with
  | ⟨0, _⟩ => rfl
  | ⟨1, _⟩ => rfl
  | ⟨2, _⟩ => rfl

theorem input_at (n k p : ℕ) : (V m c main_v0 : S2x320x16384.Idx → EReal) (ix3 n k p) = (m ((c : Thread nD τ).loc main_arg0) : S2x16384x320.Idx → EReal) (argAt n k p) := by
  entry_read
  exact moved_apply _ _ n k p

theorem codes_at (n k p : ℕ) : (V m c main_v1 : S2x320x16384.Idx → EReal) (ix3 n k p) = (m ((c : Thread nD τ).loc main_arg3) : S2x16384x320.Idx → EReal) (argAt n k p) := by
  entry_read
  exact moved_apply _ _ n k p

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem row_apply {α : Type} (x : S320.Idx → α) (h : S320.ShapeCasts S1x320) (k : ℕ) (j : S1x320.Idx) (hj : (j 1).val = k % 320) :
    shapeCast S1x320 x h j = x (rowAt k) := by
  have j0 : (j 0).val < 1 := (j 0).isLt
  refine shapeCast_apply x h _ _ ?_
  rw [Shape.rowMajor_val_one, Shape.rowMajor_val_two]
  show k % 320 = (j 0).val * 320 + (j 1).val
  omega

theorem gain_at (k : ℕ) : (gIn m c) (ix2 k) = (m ((c : Thread nD τ).loc main_arg1) : S320.Idx → EReal) (rowAt k) := by
  unfold gIn
  blk_simp [iblk, idx t0_0]
  entry_read
  refine row_apply _ _ k _ ?_
  blk_simp [idx t0_0]
  rfl

theorem offset_at (k : ℕ) : (eIn m c) (ix2 k) = (m ((c : Thread nD τ).loc main_arg2) : S320.Idx → EReal) (rowAt k) := by
  unfold eIn
  blk_simp [iblk, idx t0_0]
  entry_read
  refine row_apply _ _ k _ ?_
  blk_simp [idx t0_0]
  rfl

theorem scalar_apply {α : Type} (x : S_.Idx → α) (h : S_.ShapeCasts S1x1) (j : S1x1.Idx) : shapeCast S1x1 x h j = x none_ := by
  unfold shapeCast
  exact congrArg x (funext fun a => a.elim0)

theorem scale_at : vIn m c = (m ((c : Thread nD τ).loc main_arg4) : S_.Idx → EReal) none_ := by
  unfold vIn
  blk_simp [iblk, idx t0_0]
  entry_read
  exact scalar_apply _ _ _

theorem one_at : uIn m c = (1 : EReal) := by
  unfold uIn
  blk_simp [iblk, idx t0_0]
  entry_read
  exact Ideal.ofBits_one_bf16

section
variable (x : ℕ → ℕ → ℕ → ℝ) (ga be : ℕ → ℝ) (s : ℝ)
  (hx : ∀ n k p, (m ((c : Thread nD τ).loc main_arg0) : S2x16384x320.Idx → EReal) (argAt n k p) = ((x n k p : ℝ) : EReal))
  (hG : ∀ k, (m ((c : Thread nD τ).loc main_arg1) : S320.Idx → EReal) (rowAt k) = ((ga k : ℝ) : EReal))
  (hE : ∀ k, (m ((c : Thread nD τ).loc main_arg2) : S320.Idx → EReal) (rowAt k) = ((be k : ℝ) : EReal))
  (hS : (m ((c : Thread nD τ).loc main_arg4) : S_.Idx → EReal) none_ = ((s : ℝ) : EReal))

include hx hG hE hS

/-- The kernel's `dgamma`, from the arguments. -/
theorem dgammaAt_ideal : dgammaAt m c
    = fun i : S1x320.Idx => dgamma x ga be (fun n k p => (m ((c : Thread nD τ).loc main_arg3) : S2x16384x320.Idx → EReal) (argAt n k p)) ((s : ℝ) : EReal) (i 1).val := by
  funext i
  unfold dgammaAt
  rw [one_at, scale_at, hS]
  refine (dgammaOf_ideal _ _ _ _ _ x ga be (fun n k p => (input_at m c n k p).trans (hx n k p)) (fun k => (gain_at m c k).trans (hG k)) (fun k => (offset_at m c k).trans (hE k)) i).trans ?_
  exact congrArg (fun d => dgamma x ga be d ((s : ℝ) : EReal) (i 1).val) (funext fun n => funext fun k => funext fun p => codes_at m c n k p)

/-- The kernel's `dbeta`, from the arguments. -/
theorem dbetaAt_ideal : dbetaAt m c
    = fun i : S1x320.Idx => dbeta x ga be (fun n k p => (m ((c : Thread nD τ).loc main_arg3) : S2x16384x320.Idx → EReal) (argAt n k p)) ((s : ℝ) : EReal) (i 1).val := by
  funext i
  unfold dbetaAt
  rw [one_at, scale_at, hS]
  refine (dbetaOf_ideal _ _ _ _ _ x ga be (fun n k p => (input_at m c n k p).trans (hx n k p)) (fun k => (gain_at m c k).trans (hG k)) (fun k => (offset_at m c k).trans (hE k)) i).trans ?_
  exact congrArg (fun d => dbeta x ga be d ((s : ℝ) : EReal) (i 1).val) (funext fun n => funext fun k => funext fun p => codes_at m c n k p)

end

end Cert.Proof.KernelIdeal

end
-- ==== Proof.Referenced.lean ====
/-
  The reference's values when numbers are exact: they are the plain formulas too.
-/
module

public import proofs.«01_k».proof.Proof.Plainly
public import proofs.«01_k».proof.Proof.Gen.ReferenceIdeal
public import proofs.«01_k».proof.Proof.Gen.ReferenceIdeal.Skeleton
public import Idealize.ShloMosaic.Lib.Pointwise.Reduce
public import Idealize.ShloMosaic.Lib.Pipeline.Value

@[expose] public section

noncomputable section

namespace Cert.Proof.ReferenceIdeal

open Cert.ReferenceIdeal Cert.ReferenceIdeal.Gen
open Idealize.ShloMosaic
open Cert.Proof.Plainly

/-- The index of a batch, a channel and a place. -/
def at3 (n k p : ℕ) : S2x16384x320.Idx := fun a => ⟨(![n % 2, p % 16384, k % 320] : Fin 3 → ℕ) a, by
  fin_cases a
  · exact Nat.mod_lt _ (by decide)
  · exact Nat.mod_lt _ (by decide)
  · exact Nat.mod_lt _ (by decide)⟩
def at1 (k : ℕ) : S320.Idx := fun a => ⟨(![k % 320] : Fin 1 → ℕ) a, by
  fin_cases a; exact Nat.mod_lt _ (by decide)⟩

/-- The channel of a group's member. -/
abbrev chan (i : S2x16384x32x10.Idx) : ℕ := (i 3).val + 10 * (i 2).val

/-- An array with its channels in groups. -/
theorem grouped_apply {α : Type} (x : S2x16384x320.Idx → α) (h : S2x16384x320.ShapeCasts S2x16384x32x10) (i : S2x16384x32x10.Idx) :
    shapeCast S2x16384x32x10 x h i = x (at3 (i 0).val (chan i) (i 1).val) := by
  have i0 : (i 0).val < 2 := (i 0).isLt
  have i1 : (i 1).val < 16384 := (i 1).isLt
  have i2 : (i 2).val < 32 := (i 2).isLt
  have i3 : (i 3).val < 10 := (i 3).isLt
  refine shapeCast_apply x h i _ ?_
  rw [Shape.rowMajor_val_three, Shape.rowMajor_val_four]
  show (((i 0).val % 2) * 16384 + (i 1).val % 16384) * 320 + ((i 3).val + 10 * (i 2).val) % 320 = (((i 0).val * 16384 + (i 1).val) * 32 + (i 2).val) * 10 + (i 3).val
  omega

/-- A row of the channels on every batch and place. -/
theorem channels_apply {α : Type} (g : S320.Idx → α) (h1 : S320.ShapeCasts S32x10) (h2 : S32x10.ShapeCasts S1x1x32x10) (h3 : S1x1x32x10.Broadcasts S2x16384x32x10) (i : S2x16384x32x10.Idx) :
    broadcastTo S2x16384x32x10 (shapeCast S1x1x32x10 (shapeCast S32x10 g h1) h2) h3 i = g (at1 (chan i)) := by
  have i2 : (i 2).val < 32 := (i 2).isLt
  have i3 : (i 3).val < 10 := (i 3).isLt
  rw [broadcastTo_apply _ h3 i (fun a => match a with | ⟨0, _⟩ => ⟨0, Nat.one_pos⟩ | ⟨1, _⟩ => ⟨0, Nat.one_pos⟩ | ⟨2, _⟩ => ⟨(i 2).val, i2⟩ | ⟨3, _⟩ => ⟨(i 3).val, i3⟩) (by
    intro a
    match a with
    | ⟨0, _⟩ => rfl
    | ⟨1, _⟩ => rfl
    | ⟨2, _⟩ => rfl
    | ⟨3, _⟩ => rfl)]
  rw [shapeCast_apply _ h2 _ (fun a => match a with | ⟨0, _⟩ => ⟨(i 2).val, i2⟩ | ⟨1, _⟩ => ⟨(i 3).val, i3⟩) (by
    rw [Shape.rowMajor_val_two, Shape.rowMajor_val_four]
    show (i 2).val * 10 + (i 3).val = ((0 * 1 + 0) * 32 + (i 2).val) * 10 + (i 3).val
    omega)]
  refine shapeCast_apply g h1 _ _ ?_
  rw [Shape.rowMajor_val_one, Shape.rowMajor_val_two]
  show ((i 3).val + 10 * (i 2).val) % 320 = (i 2).val * 10 + (i 3).val
  omega

/-- A value of each batch and group on all its members. -/
theorem groups_apply {α : Type} (x : S2x1x32x1.Idx → α) (h : S2x1x32x1.Broadcasts S2x16384x32x10) (f : ℕ → ℕ → α) (hx : ∀ j, x j = f (j 0).val (j 2).val) (i : S2x16384x32x10.Idx) :
    broadcastTo S2x16384x32x10 x h i = f (i 0).val (i 2).val := by
  rw [broadcastTo_apply x h i (fun a => match a with | ⟨0, _⟩ => ⟨(i 0).val, (i 0).isLt⟩ | ⟨1, _⟩ => ⟨0, Nat.one_pos⟩ | ⟨2, _⟩ => ⟨(i 2).val, (i 2).isLt⟩ | ⟨3, _⟩ => ⟨0, Nat.one_pos⟩) (by
    intro a
    match a with
    | ⟨0, _⟩ => rfl
    | ⟨1, _⟩ => rfl
    | ⟨2, _⟩ => rfl
    | ⟨3, _⟩ => rfl)]
  exact hx _

/-- The same on the group's channels alone. -/
theorem members_apply {α : Type} (x : S2x1x32x1.Idx → α) (h1 : S2x1x32x1.ShapeCasts S2x32x1) (h : S2x32x1.Broadcasts S2x32x10) (f : ℕ → ℕ → α) (hx : ∀ j, x j = f (j 0).val (j 2).val) (i : S2x32x10.Idx) :
    broadcastTo S2x32x10 (shapeCast S2x32x1 x h1) h i = f (i 0).val (i 1).val := by
  rw [broadcastTo_apply _ h i (fun a => match a with | ⟨0, _⟩ => ⟨(i 0).val, (i 0).isLt⟩ | ⟨1, _⟩ => ⟨(i 1).val, (i 1).isLt⟩ | ⟨2, _⟩ => ⟨0, Nat.one_pos⟩) (by
    intro a
    match a with
    | ⟨0, _⟩ => rfl
    | ⟨1, _⟩ => rfl
    | ⟨2, _⟩ => rfl)]
  rw [shapeCast_apply x h1 _ (fun a => match a with | ⟨0, _⟩ => ⟨(i 0).val, (i 0).isLt⟩ | ⟨1, _⟩ => ⟨0, Nat.one_pos⟩ | ⟨2, _⟩ => ⟨(i 1).val, (i 1).isLt⟩ | ⟨3, _⟩ => ⟨0, Nat.one_pos⟩) (by
    rw [Shape.rowMajor_val_four, Shape.rowMajor_val_three]
    show (((i 0).val * 1 + 0) * 32 + (i 1).val) * 1 + 0 = ((i 0).val * 32 + (i 1).val) * 1 + 0
    omega)]
  exact hx _

/-- A sum over the places and over a group's channels, as a double sum. -/
theorem fiber_sum (v : S2x16384x32x10.Idx → EReal) (h : S2x16384x32x10.Reduces [1, 3] S2x32) (j : S2x32.Idx) :
    Ideal.reduceAdd h v j = ∑ k : Fin 10, ∑ p : Fin 16384, v (ix4 (j 0) p (j 1) k) := by
  have hfib : ∀ i : S2x16384x32x10.Idx, h.drop i = j ↔ ∃ k : Fin 10 × Fin 16384, ix4 (j 0) k.2 (j 1) k.1 = i := by
    intro i
    constructor
    · intro e
      refine ⟨(i 3, i 1), funext fun a => Fin.ext ?_⟩
      match a with
      | ⟨0, _⟩ => exact (congrArg Fin.val (congrFun e 0)).symm
      | ⟨1, _⟩ => rfl
      | ⟨2, _⟩ => exact (congrArg Fin.val (congrFun e 1)).symm
      | ⟨3, _⟩ => rfl
    · rintro ⟨k, rfl⟩
      refine funext fun b => Fin.ext ?_
      match b with
      | ⟨0, _⟩ => rfl
      | ⟨1, _⟩ => rfl
  have hinj : Function.Injective (fun k : Fin 10 × Fin 16384 => (ix4 (j 0) k.2 (j 1) k.1 : S2x16384x32x10.Idx)) := by
    intro k k' e
    have e3 : k.1 = k'.1 := congrFun e 3
    have e1 : k.2 = k'.2 := congrFun e 1
    exact Prod.ext e3 e1
  refine (Finset.sum_filter_eq_sum_of_fiber _ _ hinj hfib v).trans ?_
  exact Fintype.sum_prod_type _

theorem exact_sum {s t : Shape} {axes : List (Fin s.rank)} (v : FVec Ideal s .f32) (acc : BitVec FTy.f32.bits) (h : s.Reduces axes t) (hφ : FKind.Formats FTy.f32)
    (hacc : acc = FKind.add.neutral .f32 hφ) (j : t.Idx) : multiReduction .add axes t v acc h hφ hacc j = Ideal.reduceAdd h v j := rfl

/-- The sum over the places and over a group's channels. -/
theorem group_sum (v : FVec Ideal S2x16384x32x10 .f32) (h : S2x16384x32x10.Reduces [1, 3] S2x32) (h1 : S2x32.ShapeCasts S2x1x32x1)
    (f : ℕ → ℕ → ℕ → ℝ) (hv : ∀ i, v i = ((f (i 0).val (chan i) (i 1).val : ℝ) : EReal)) (j : S2x1x32x1.Idx) :
    shapeCast S2x1x32x1 (multiReduction .add [1, 3] S2x32 v 0x00000000#32 h (.inl rfl) rfl) h1 j = ((over (f (j 0).val) (j 2).val : ℝ) : EReal) := by
  have j0 : (j 0).val < 2 := (j 0).isLt
  have j1 : (j 1).val < 1 := (j 1).isLt
  have j2 : (j 2).val < 32 := (j 2).isLt
  have j3 : (j 3).val < 1 := (j 3).isLt
  let jj : S2x32.Idx := fun a => match a with | ⟨0, _⟩ => ⟨(j 0).val, j0⟩ | ⟨1, _⟩ => ⟨(j 2).val, j2⟩
  refine (shapeCast_apply _ h1 j jj (by
    rw [Shape.rowMajor_val_two, Shape.rowMajor_val_four]
    show (j 0).val * 32 + (j 2).val = (((j 0).val * 1 + (j 1).val) * 32 + (j 2).val) * 1 + (j 3).val
    omega)).trans ?_
  refine (exact_sum v _ h _ _ jj).trans ((fiber_sum v h jj).trans ?_)
  unfold over
  rw [coe_sum, ← Fin.sum_univ_eq_sum_range (fun k => ((∑ p ∈ Finset.range 16384, f (j 0).val (k + 10 * (j 2).val) p : ℝ) : EReal)) 10]
  refine Finset.sum_congr rfl fun k _ => ?_
  rw [coe_sum, ← Fin.sum_univ_eq_sum_range (fun p => ((f (j 0).val (k.val + 10 * (j 2).val) p : ℝ) : EReal)) 16384]
  exact Finset.sum_congr rfl fun p _ => hv _

/-- The sum over the places. -/
theorem place_sum (v : FVec Ideal S2x16384x32x10 .f32) (h : S2x16384x32x10.Reduces [1] S2x32x10)
    (f : ℕ → ℕ → ℕ → EReal) (hv : ∀ i, v i = f (i 0).val (chan i) (i 1).val) (j : S2x32x10.Idx) :
    multiReduction .add [1] S2x32x10 v 0x00000000#32 h (.inl rfl) rfl j = ∑ p ∈ Finset.range 16384, f (j 0).val ((j 2).val + 10 * (j 1).val) p := by
  refine (Ideal.multiReduction_add_single v _ h _ _ _).trans ?_
  rw [← Fin.sum_univ_eq_sum_range]
  exact Finset.sum_congr rfl fun p _ => hv _

/-- The sum over the batches, as a row of channels. -/
theorem batch_sum (v : FVec Ideal S2x32x10 .f32) (h : S2x32x10.Reduces [0] S32x10) (h1 : S32x10.ShapeCasts S1x320)
    (f : ℕ → ℕ → EReal) (hv : ∀ i, v i = f (i 0).val ((i 2).val + 10 * (i 1).val)) (y : S1x320.Idx) :
    shapeCast S1x320 (multiReduction .add [0] S32x10 v 0x00000000#32 h (.inl rfl) rfl) h1 y = f 0 (y 1).val + f 1 (y 1).val := by
  have y0 : (y 0).val < 1 := (y 0).isLt
  have y1 : (y 1).val < 320 := (y 1).isLt
  refine (shapeCast_apply _ h1 y (fun a => match a with | ⟨0, _⟩ => ⟨(y 1).val / 10, by show _ < 32; omega⟩ | ⟨1, _⟩ => ⟨(y 1).val % 10, by show _ < 10; omega⟩) (by
    rw [Shape.rowMajor_val_two, Shape.rowMajor_val_two]
    show (y 1).val / 10 * 10 + (y 1).val % 10 = (y 0).val * 320 + (y 1).val
    omega)).trans ?_
  refine (Ideal.multiReduction_add_single v _ h _ _ _).trans ?_
  show ∑ k : Fin 2, _ = _
  rw [Fin.sum_univ_two, hv, hv]
  refine congrArg (fun k => f 0 k + f 1 k) ?_
  show (y 1).val % 10 + 10 * ((y 1).val / 10) = (y 1).val
  omega

/-! ## The reference, operation by operation -/

section
variable (X : Vec Ideal S2x16384x320 .bf16) (D : Vec Ideal S2x16384x320 .fp8e5m2) (S : Vec Ideal S1x1 .f32) (G E : Vec Ideal S320 .f32)
  (x : ℕ → ℕ → ℕ → ℝ) (ga be : ℕ → ℝ) (s : ℝ)
  (hx : ∀ n k p, X (at3 n k p) = ((x n k p : ℝ) : EReal)) (hG : ∀ k, G (at1 k) = ((ga k : ℝ) : EReal)) (hE : ∀ k, E (at1 k) = ((be k : ℝ) : EReal))
  (hS : ∀ i, S i = ((s : ℝ) : EReal)) (hs : 0 ≤ s)

include hx

theorem input_ideal (i : S2x16384x32x10.Idx) : k0_pay5 (F := Ideal) X i = ((x (i 0).val (chan i) (i 1).val : ℝ) : EReal) :=
  (grouped_apply _ _ i).trans (hx _ _ _)

theorem mean_ideal (j : S2x1x32x1.Idx) : k0_pay6 (F := Ideal) X j = ((mean (x (j 0).val) (j 2).val : ℝ) : EReal) := by
  show Ideal.div (shapeCast S2x1x32x1 _ _ j) (Ideal.ofBits .f32 0x48200000#32) = _
  rw [group_sum (k0_pay5 (F := Ideal) X) _ _ x (input_ideal X x hx), count_coe, div_count]
  rfl

theorem centred_ideal (i : S2x16384x32x10.Idx) : k0_pay7 (F := Ideal) X i = ((x (i 0).val (chan i) (i 1).val - mean (x (i 0).val) (i 2).val : ℝ) : EReal) := by
  show k0_pay5 (F := Ideal) X i - broadcastTo S2x16384x32x10 (k0_pay6 (F := Ideal) X) _ i = _
  rw [groups_apply _ _ (fun n g => ((mean (x n) g : ℝ) : EReal)) (mean_ideal X x hx), input_ideal X x hx, EReal.coe_sub]

theorem rstd_ideal (j : S2x1x32x1.Idx) : k0_pay8 (F := Ideal) X j = ((rstd (x (j 0).val) (j 2).val : ℝ) : EReal) := by
  show Ideal.rsqrt (Ideal.div (shapeCast S2x1x32x1 _ _ j) (Ideal.ofBits .f32 0x48200000#32) + Ideal.ofBits .f32 0x3727C5AC#32) = _
  rw [group_sum (mulf (k0_pay7 (F := Ideal) X) (k0_pay7 (F := Ideal) X)) _ _
    (fun n k p => (x n k p - mean (x n) (k / 10)) * (x n k p - mean (x n) (k / 10))) (fun i => by
      have i3 : (i 3).val < 10 := (i 3).isLt
      show k0_pay7 (F := Ideal) X i * k0_pay7 (F := Ideal) X i = _
      rw [centred_ideal X x hx, ← EReal.coe_mul, show chan i / 10 = (i 2).val by show ((i 3).val + 10 * (i 2).val) / 10 = _; omega]), count_coe, eps_coe, div_count]
  refine Eq.trans ?_ (rstd_coe (x (j 0).val) (j 2).val)
  refine congrArg (fun r : ℝ => Ideal.rsqrt ((r : EReal) + ((eps : ℝ) : EReal))) (congrArg (· / count) ?_)
  refine Finset.sum_congr rfl fun q hq => Finset.sum_congr rfl fun p _ => ?_
  have := Finset.mem_range.1 hq
  beta_reduce
  rw [show (q + 10 * (j 2).val) / 10 = (j 2).val by omega]

include hG hE

theorem act_ideal (i : S2x16384x32x10.Idx) : k0_pay9 (F := Ideal) X G E i = ((act (x (i 0).val) ga be (chan i) (i 1).val : ℝ) : EReal) := by
  have i3 : (i 3).val < 10 := (i 3).isLt
  show k0_pay7 (F := Ideal) X i * broadcastTo S2x16384x32x10 (k0_pay8 (F := Ideal) X) _ i * broadcastTo S2x16384x32x10 (shapeCast S1x1x32x10 (shapeCast S32x10 G _) _) _ i
    + broadcastTo S2x16384x32x10 (shapeCast S1x1x32x10 (shapeCast S32x10 E _) _) _ i = _
  rw [groups_apply _ _ (fun n g => ((rstd (x n) g : ℝ) : EReal)) (rstd_ideal X x hx), centred_ideal X x hx, channels_apply, channels_apply, hG, hE, ← EReal.coe_mul, ← EReal.coe_mul, ← EReal.coe_add]
  unfold act
  rw [show chan i / 10 = (i 2).val by show ((i 3).val + 10 * (i 2).val) / 10 = _; omega]

theorem sigm_ideal (i : S2x16384x32x10.Idx) : k0_pay10 (F := Ideal) X G E i = ((sigm (act (x (i 0).val) ga be (chan i) (i 1).val) : ℝ) : EReal) := by
  show Ideal.logistic (k0_pay9 (F := Ideal) X G E i) = _
  rw [act_ideal X G E x ga be hx hG hE, logistic_coe]

theorem slope_ideal (i : S2x16384x32x10.Idx) : k0_pay12 (F := Ideal) X G E i
    = ((1 + act (x (i 0).val) ga be (chan i) (i 1).val * (1 - sigm (act (x (i 0).val) ga be (chan i) (i 1).val)) : ℝ) : EReal) := by
  show Ideal.ofBits .f32 0x3F800000#32 + k0_pay9 (F := Ideal) X G E i * (Ideal.ofBits .f32 0x3F800000#32 - k0_pay10 (F := Ideal) X G E i) = _
  rw [act_ideal X G E x ga be hx hG hE, sigm_ideal X G E x ga be hx hG hE, Ideal.ofBits_one_f32, ← EReal.coe_one, ← EReal.coe_sub, ← EReal.coe_mul, ← EReal.coe_add]

include hS

/-- The gradient before the normalisation. -/
theorem dh_ideal (i : S2x16384x32x10.Idx) : k0_pay1 (F := Ideal) (k0_pay11 (F := Ideal) X D S G E) (k0_pay12 (F := Ideal) X G E) i
    = (((silu' (act (x (i 0).val) ga be (chan i) (i 1).val) : ℝ) : EReal) * D (at3 (i 0).val (chan i) (i 1).val)) * ((s : ℝ) : EReal) := by
  show (shapeCast S2x16384x32x10 (mulf (F := Ideal) (s := S2x16384x320) (φ := .f32) D (broadcast S2x16384x320 (extractAt ![0, 0] S _))) _ i * k0_pay10 (F := Ideal) X G E i) * k0_pay12 (F := Ideal) X G E i = _
  rw [grouped_apply, slope_ideal X G E x ga be hx hG hE, sigm_ideal X G E x ga be hx hG hE]
  show (D (at3 (i 0).val (chan i) (i 1).val) * S _) * _ * _ = _
  rw [hS]
  unfold silu'
  rw [EReal.coe_mul]
  ac_rfl

include hs

theorem sum_ideal (j : S2x32x10.Idx) : k0_pay2 (F := Ideal) (k0_pay11 (F := Ideal) X D S G E) (k0_pay12 (F := Ideal) X G E) j
    = sumD (x (j 0).val) ga be (fun k p => D (at3 (j 0).val k p)) ((j 2).val + 10 * (j 1).val) * ((s : ℝ) : EReal) := by
  refine (place_sum (k0_pay1 (F := Ideal) (k0_pay11 (F := Ideal) X D S G E) (k0_pay12 (F := Ideal) X G E)) _
    (fun n k p => (((silu' (act (x n) ga be k p) : ℝ) : EReal) * D (at3 n k p)) * ((s : ℝ) : EReal)) (dh_ideal X D S G E x ga be s hx hG hE hS) j).trans ?_
  exact (sum_mul_nonneg _ _ hs).symm

/-- `dbeta`. -/
theorem dbeta_ideal (y : S1x320.Idx) : k0_pay4 (F := Ideal) (k0_pay11 (F := Ideal) X D S G E) (k0_pay12 (F := Ideal) X G E) y
    = dbeta x ga be (fun n k p => D (at3 n k p)) ((s : ℝ) : EReal) (y 1).val :=
  batch_sum _ _ _ (fun n k => shareB (x n) ga be (fun k p => D (at3 n k p)) ((s : ℝ) : EReal) k) (sum_ideal X D S G E x ga be s hx hG hE hS hs) y

/-- `dgamma`. -/
theorem dgamma_ideal (y : S1x320.Idx) : k0_pay3 (F := Ideal) (k0_pay5 (F := Ideal) X) (k0_pay6 (F := Ideal) X) (k0_pay8 (F := Ideal) X) (k0_pay11 (F := Ideal) X D S G E) (k0_pay12 (F := Ideal) X G E) y
    = dgamma x ga be (fun n k p => D (at3 n k p)) ((s : ℝ) : EReal) (y 1).val := by
  refine batch_sum _ _ _ (fun n k => shareG (x n) ga be (fun k p => D (at3 n k p)) ((s : ℝ) : EReal) k) (fun j => ?_) y
  have j2 : (j 2).val < 10 := (j 2).isLt
  show broadcastTo S2x32x10 (shapeCast S2x32x1 (k0_pay8 (F := Ideal) X) _) _ j
    * (multiReduction .add [1] S2x32x10 (mulf (k0_pay1 (F := Ideal) (k0_pay11 (F := Ideal) X D S G E) (k0_pay12 (F := Ideal) X G E)) (k0_pay5 (F := Ideal) X)) 0x00000000#32 _ _ _ j
      - broadcastTo S2x32x10 (shapeCast S2x32x1 (k0_pay6 (F := Ideal) X) _) _ j * k0_pay2 (F := Ideal) (k0_pay11 (F := Ideal) X D S G E) (k0_pay12 (F := Ideal) X G E) j) = _
  rw [members_apply _ _ _ (fun n g => ((rstd (x n) g : ℝ) : EReal)) (rstd_ideal X x hx), members_apply _ _ _ (fun n g => ((mean (x n) g : ℝ) : EReal)) (mean_ideal X x hx), sum_ideal X D S G E x ga be s hx hG hE hS hs,
    place_sum (mulf (k0_pay1 (F := Ideal) (k0_pay11 (F := Ideal) X D S G E) (k0_pay12 (F := Ideal) X G E)) (k0_pay5 (F := Ideal) X)) _
      (fun n k p => ((((silu' (act (x n) ga be k p) : ℝ) : EReal) * D (at3 n k p)) * ((x n k p : ℝ) : EReal)) * ((s : ℝ) : EReal)) (fun i => by
        show k0_pay1 (F := Ideal) (k0_pay11 (F := Ideal) X D S G E) (k0_pay12 (F := Ideal) X G E) i * k0_pay5 (F := Ideal) X i = _
        rw [dh_ideal X D S G E x ga be s hx hG hE hS, input_ideal X x hx]
        ac_rfl)]
  rw [← sum_mul_nonneg _ _ hs]
  unfold shareG
  rw [show ((j 2).val + 10 * (j 1).val) / 10 = (j 1).val by omega]
  rfl

end

end Cert.Proof.ReferenceIdeal

end
-- ==== Proof.ReferenceRun.lean ====
/-
  The reference's run when numbers are exact: what it leaves, in terms of the argument arrays.
-/
module

public import proofs.«01_k».proof.Proof.Referenced
public import proofs.«01_k».proof.Proof.Gen.ReferenceIdeal.Frame
public import proofs.«01_k».proof.Proof.Gen.ReferenceIdeal.Value
public import Idealize.ShloMosaic.Lib.Claim
public import Idealize.ShloMosaic.Lib.Pipeline.ValueKit
public import Idealize.ShloMosaic.Lib.Pipeline.ValueKit.Point

@[expose] public section

noncomputable section

namespace Cert.Proof.ReferenceIdeal

open Cert.ReferenceIdeal Cert.ReferenceIdeal.Gen
open Idealize.ShloMosaic Idealize.ShloMosaic.TcCoe Idealize.ShloMosaic.Tactic Idealize.SL.Sem
open Cert.Proof.Plainly

variable (m : (ℓ : Loc nD τ sig) → Buf (Elt Ideal) ℓ) (ρ : Dev nD → PrngReg) (c : Dev nD)

/-- Where the blocks lie: each is its whole array. -/
theorem idx : ∀ t : Fin cfg0.N, win0_0.index t = ![0, 0, 0] ∧ win0_1.index t = ![0] ∧ win0_2.index t = ![0] ∧ win0_3.index t = ![0, 0, 0] ∧ win0_4.index t = ![0, 0]
    ∧ win0_5.index t = ![0, 0] ∧ win0_6.index t = ![0, 0] := (by decide +kernel : ∀ t : Fin grid0.N, _)

theorem in0 (t : Fin cfg0.N) : (iblk m c 0 t : Vec Ideal S2x16384x320 .bf16) = m ((c : Thread nD τ).loc main_arg0) := by blk_ext! [iblk, V, idx t]
theorem in1 (t : Fin cfg0.N) : (iblk m c 1 t : Vec Ideal S320 .f32) = m ((c : Thread nD τ).loc main_arg1) := by blk_ext! [iblk, V, idx t]
theorem in2 (t : Fin cfg0.N) : (iblk m c 2 t : Vec Ideal S320 .f32) = m ((c : Thread nD τ).loc main_arg2) := by blk_ext! [iblk, V, idx t]
theorem in3 (t : Fin cfg0.N) : (iblk m c 3 t : Vec Ideal S2x16384x320 .fp8e5m2) = m ((c : Thread nD τ).loc main_arg3) := by blk_ext! [iblk, V, idx t]

def none_ : S_.Idx := fun a => a.elim0

theorem scalar_apply {α : Type} (x : S_.Idx → α) (h : S_.ShapeCasts S1x1) (j : S1x1.Idx) : shapeCast S1x1 x h j = x none_ := by
  unfold shapeCast
  exact congrArg x (funext fun a => a.elim0)

theorem in4 (t : Fin cfg0.N) (i : S1x1.Idx) : (iblk m c 4 t : Vec Ideal S1x1 .f32) i = (m ((c : Thread nD τ).loc main_arg4) : Vec Ideal S_ .f32) none_ := by
  blk_simp [iblk, idx t]
  entry_read
  exact scalar_apply _ _ _

theorem zeros3 : (![0, 0, 0] : Fin 3 → ℕ) = fun _ => 0 := by decide
theorem zeros2 : (![0, 0] : Fin 2 → ℕ) = fun _ => 0 := by decide
theorem zeros1 : (![0] : Fin 1 → ℕ) = fun _ => 0 := by decide

theorem ld0 {φ : EltTy} (x : S2x16384x320.Idx → Elt Ideal φ) : View.ld x r0_0 = x := View.ld_unit_zero (S := S2x16384x320) zeros3 _ x
theorem ld1 {φ : EltTy} (x : S1x1.Idx → Elt Ideal φ) : View.ld x r0_1 = x := View.ld_unit_zero (S := S1x1) zeros2 _ x
theorem ld2 {φ : EltTy} (x : S320.Idx → Elt Ideal φ) : View.ld x r0_2 = x := View.ld_unit_zero (S := S320) zeros1 _ x

theorem pay13_eq (x0 : Vec Ideal S2x16384x320 .bf16) (x1 x2 : Vec Ideal S320 .f32) (x3 : Vec Ideal S2x16384x320 .fp8e5m2) (x4 : Vec Ideal S1x1 .f32) :
    k0_pay13 x0 x1 x2 x3 x4 = k0_pay11 x0 x3 x4 x1 x2 := by
  unfold k0_pay13
  rw [ld0, ld0, ld1, ld2, ld2]
theorem pay14_eq (x0 : Vec Ideal S2x16384x320 .bf16) (x1 x2 : Vec Ideal S320 .f32) (x3 : Vec Ideal S2x16384x320 .fp8e5m2) (x4 : Vec Ideal S1x1 .f32) :
    k0_pay14 x0 x1 x2 x3 x4 = k0_pay12 x0 x1 x2 := by
  unfold k0_pay14
  rw [ld0, ld2, ld2]

/-- The row `dgamma` that the run leaves. -/
theorem last5 (t : Fin cfg0.N) : out0_5 (F := Ideal) (iblk m c 0 t) (iblk m c 1 t) (iblk m c 2 t) (iblk m c 3 t) (iblk m c 4 t)
    = k0_pay3 (F := Ideal) (k0_pay5 (iblk m c 0 t)) (k0_pay6 (iblk m c 0 t)) (k0_pay8 (iblk m c 0 t))
        (k0_pay11 (iblk m c 0 t) (iblk m c 3 t) (iblk m c 4 t) (iblk m c 1 t) (iblk m c 2 t)) (k0_pay12 (iblk m c 0 t) (iblk m c 1 t) (iblk m c 2 t)) := by
  frame_out
  rw [pay13_eq, pay14_eq]

/-- The row `dbeta` that the run leaves. -/
theorem last6 (t : Fin cfg0.N) : out0_6 (F := Ideal) (iblk m c 0 t) (iblk m c 1 t) (iblk m c 2 t) (iblk m c 3 t) (iblk m c 4 t)
    = k0_pay4 (F := Ideal) (k0_pay11 (iblk m c 0 t) (iblk m c 3 t) (iblk m c 4 t) (iblk m c 1 t) (iblk m c 2 t)) (k0_pay12 (iblk m c 0 t) (iblk m c 1 t) (iblk m c 2 t)) := by
  frame_out
  rw [pay13_eq, pay14_eq]

section
variable (x : ℕ → ℕ → ℕ → ℝ) (ga be : ℕ → ℝ) (s : ℝ)
  (hx : ∀ n k p, (m ((c : Thread nD τ).loc main_arg0) : S2x16384x320.Idx → EReal) (at3 n k p) = ((x n k p : ℝ) : EReal))
  (hG : ∀ k, (m ((c : Thread nD τ).loc main_arg1) : S320.Idx → EReal) (at1 k) = ((ga k : ℝ) : EReal))
  (hE : ∀ k, (m ((c : Thread nD τ).loc main_arg2) : S320.Idx → EReal) (at1 k) = ((be k : ℝ) : EReal))
  (hS : (m ((c : Thread nD τ).loc main_arg4) : S_.Idx → EReal) none_ = ((s : ℝ) : EReal)) (hs : 0 ≤ s)

include hx hG hE hS hs

theorem final5 : (dats m 0 c).arrAt 5 cfg0.N
    = fun i : S1x320.Idx => dgamma x ga be (fun n k p => (m ((c : Thread nD τ).loc main_arg3) : S2x16384x320.Idx → EReal) (at3 n k p)) ((s : ℝ) : EReal) (i 1).val := by
  refine (dats m 0 c).arrAt_eq_of_after_last 5 t0_0 (by decide +kernel) _ fun j => ?_
  blk_simp [idx t0_0]
  rw [after0_5, last5]
  refine (dgamma_ideal (iblk m c 0 t0_0) (iblk m c 3 t0_0) (iblk m c 4 t0_0) (iblk m c 1 t0_0) (iblk m c 2 t0_0) x ga be s
    (fun n k p => (congrFun (in0 m c t0_0) _).trans (hx n k p)) (fun k => (congrFun (in1 m c t0_0) _).trans (hG k)) (fun k => (congrFun (in2 m c t0_0) _).trans (hE k))
    (fun i => (in4 m c t0_0 i).trans hS) hs j).trans ?_
  rw [in3]

theorem final6 : (dats m 0 c).arrAt 6 cfg0.N
    = fun i : S1x320.Idx => dbeta x ga be (fun n k p => (m ((c : Thread nD τ).loc main_arg3) : S2x16384x320.Idx → EReal) (at3 n k p)) ((s : ℝ) : EReal) (i 1).val := by
  refine (dats m 0 c).arrAt_eq_of_after_last 6 t0_0 (by decide +kernel) _ fun j => ?_
  blk_simp [idx t0_0]
  rw [after0_6, last6]
  refine (dbeta_ideal (iblk m c 0 t0_0) (iblk m c 3 t0_0) (iblk m c 4 t0_0) (iblk m c 1 t0_0) (iblk m c 2 t0_0) x ga be s
    (fun n k p => (congrFun (in0 m c t0_0) _).trans (hx n k p)) (fun k => (congrFun (in1 m c t0_0) _).trans (hG k)) (fun k => (congrFun (in2 m c t0_0) _).trans (hE k))
    (fun i => (in4 m c t0_0 i).trans hS) hs j).trans ?_
  rw [in3]

end

end Cert.Proof.ReferenceIdeal

end
-- ==== Proof.Tame.lean ====
/-
  The precondition, read at the arguments' elements: the input, the two rows and the scale are finite, the scale not negative.
-/
module

public import proofs.«01_k».proof.Pre_tame
public import proofs.«01_k».proof.Proof.Gen.Pre_tame
public import Idealize.ShloMosaic.PureOps.Ideal
public import Idealize.ShloMosaic.Lib.IdealHost
public import Idealize.ShloMosaic.Lib.ReduceAll

@[expose] public section

noncomputable section

namespace Cert.Proof.Tame

open Idealize.ShloMosaic
open Cert.Pre_tame

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

/-- A comparison that answers one. -/
theorem lt_of_cmp {x y : EReal} (h : Ideal.cmp .olt x y = 1#1) : x < y := by
  by_contra hn
  simp [Ideal.cmp, hn] at h
theorem le_of_cmp {x y : EReal} (h : Ideal.cmp .oge x y = 1#1) : y ≤ x := by
  by_contra hn
  simp [Ideal.cmp, hn] at h

/-- A value of absolute value below infinity is a real number. -/
theorem real_of_abs {x : EReal} (h : max x (-x) < ⊤) : x = ((x.toReal : ℝ) : EReal) := by
  refine (EReal.coe_toReal (fun e => ?_) (fun e => ?_)).symm
  · rw [e] at h; simp at h
  · rw [e] at h; simp at h

theorem both {a b : BitVec 1} (h : IntOp.andi a b = 1#1) : a = 1#1 ∧ b = 1#1 := by
  revert h; revert a b; decide

def none_ : S_.Idx := fun a => a.elim0

variable (x : FVec Ideal S2x16384x320 .bf16) (ga be : FVec Ideal S320 .f32) (d : FVec Ideal S2x16384x320 .fp8e5m2) (s : FVec Ideal S_ .f32)

theorem reads (h : fn (F := Ideal) x ga be d s = fun _ => 1#1) :
    (∀ i, x i = (((x i).toReal : ℝ) : EReal)) ∧ (∀ i, ga i = (((ga i).toReal : ℝ) : EReal)) ∧ (∀ i, be i = (((be i).toReal : ℝ) : EReal))
      ∧ s none_ = (((s none_).toReal : ℝ) : EReal) ∧ 0 ≤ (s none_).toReal := by
  have : Subsingleton S_.Idx := ⟨fun a b => funext fun k => k.elim0⟩
  have e := congrFun h none_
  obtain ⟨e, e5⟩ := both e
  obtain ⟨e, e4⟩ := both e
  obtain ⟨e, e3⟩ := both e
  obtain ⟨e1, e2⟩ := both e
  have hs : s none_ < ⊤ := by
    have := lt_of_cmp e5
    rwa [show (constant S_ .f32 0x7F800000#32 : FVec Ideal S_ .f32) none_ = ⊤ from top_f32] at this
  have h0 : 0 ≤ s none_ := by
    have := le_of_cmp e4
    rwa [show (constant S_ .f32 0x00000000#32 : FVec Ideal S_ .f32) none_ = 0 from Ideal.ofBits_zero_f32] at this
  refine ⟨fun i => real_of_abs ?_, fun i => real_of_abs ?_, fun i => real_of_abs ?_, ?_, EReal.toReal_nonneg h0⟩
  · have := lt_of_cmp (Host.reduce_andi_all _ _ _ _ none_ e1 i)
    exact lt_of_lt_of_eq this top_bf16
  · have := lt_of_cmp (Host.reduce_andi_all _ _ _ _ none_ e2 i)
    exact lt_of_lt_of_eq this top_f32
  · have := lt_of_cmp (Host.reduce_andi_all _ _ _ _ none_ e3 i)
    exact lt_of_lt_of_eq this top_f32
  · exact (EReal.coe_toReal hs.ne (fun e => by rw [e] at h0; simp at h0)).symm

end Cert.Proof.Tame

end
-- ==== Proof.lean ====
/- The claims, from the runs proved in the modules under Proof/. -/
module

public import proofs.«01_k».proof.Defs
public import proofs.«01_k».proof.Proof.Gen.Kernel
public import proofs.«01_k».proof.Proof.Gen.Kernel.Skeleton
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Frame
public import proofs.«01_k».proof.Proof.Gen.Pre_tame
public import proofs.«01_k».proof.Proof.Gen.ReferenceIdeal
public import proofs.«01_k».proof.Proof.Gen.ReferenceIdeal.Frame
public import proofs.«01_k».proof.Proof.Gen.ReferenceIdeal.Value
public import proofs.«01_k».proof.Proof.Plain
public import proofs.«01_k».proof.Proof.Arrays
public import proofs.«01_k».proof.Proof.ReferenceRun
public import proofs.«01_k».proof.Proof.Tame

@[expose] public section

noncomputable section

namespace Cert.Proof

open Idealize.ShloMosaic Idealize.ShloMosaic.TcCoe Idealize.SL.Sem

theorem frame_ideal : Cert.quiescent_KernelIdeal (hKernelIdeal := Cert.KernelIdeal.Gen.facts) := fun m g _ =>
  (θ_run _ _ _).mono (fun _ h => ⟨fun c => ((h.1 c).2).2, h.2⟩) (KernelIdeal.run_values (F := Ideal) m g)

theorem frame_reference : Cert.quiescent_ReferenceIdeal (hReferenceIdeal := Cert.ReferenceIdeal.Gen.facts) := fun m g _ =>
  Cert.ReferenceIdeal.Gen.frame (F := Ideal) m g

theorem preserves : Cert.preserves_Kernel_KernelIdeal :=
  IdealRules.named_const.statement _ "inv_n" .f32 0x36CCCCCD#32 ((1 / 163840 : ℝ) : EReal) rfl

theorem frame_ideal_tame : Cert.quiescent_KernelIdeal_pre_tame (hKernelIdeal := Cert.KernelIdeal.Gen.facts) (hPre_tame := Cert.Pre_tame.Gen.facts) := fun m g _ =>
  frame_ideal m g trivial

theorem frame_reference_tame : Cert.quiescent_ReferenceIdeal_pre_tame (hReferenceIdeal := Cert.ReferenceIdeal.Gen.facts) (hPre_tame := Cert.Pre_tame.Gen.facts) := fun m g _ =>
  frame_reference m g trivial

/-- Kernel and reference leave the same two rows: both are the plain formulas of the arguments. -/
theorem algebraic : Cert.algebraic_KernelIdeal_ReferenceIdeal_pre_tame (hKernelIdeal := Cert.KernelIdeal.Gen.facts) (hReferenceIdeal := Cert.ReferenceIdeal.Gen.facts)
    (hPre_tame := Cert.Pre_tame.Gen.facts) := by
  intro m g m' g' hpre heq
  refine ⟨fun c => KernelIdeal.dgammaAt m c, fun c => KernelIdeal.dbetaAt m c,
    (θ_run _ _ _).mono (fun _ h => h.1) (KernelIdeal.run_values (F := Ideal) m g), ?_⟩
  refine (θ_run _ _ _).mono (fun r h c => ?_) (Cert.ReferenceIdeal.Value.run_blocks (F := Ideal) m' g')
  obtain ⟨h5, h6, h0, h1, h2, h3, h4⟩ := h c
  obtain ⟨e0, e1, e2, e3, e4⟩ := heq c
  obtain ⟨rx, rg, rb, rs, hs⟩ := Tame.reads _ _ _ _ _ (hpre c)
  refine ⟨h5.trans ?_, h6.trans ?_, h0, h1, h2, h3, h4⟩
  · refine (ReferenceIdeal.final5 m' c _ _ _ _ (fun n k p => (congrFun e0 _).trans (rx (KernelIdeal.argAt n k p))) (fun k => (congrFun e1 _).trans (rg (KernelIdeal.rowAt k)))
      (fun k => (congrFun e2 _).trans (rb (KernelIdeal.rowAt k))) ((congrFun e4 _).trans rs) hs).trans ?_
    refine Eq.trans ?_ (KernelIdeal.dgammaAt_ideal m c _ _ _ _ (fun n k p => rx (KernelIdeal.argAt n k p)) (fun k => rg (KernelIdeal.rowAt k)) (fun k => rb (KernelIdeal.rowAt k)) rs).symm
    rw [e3]
    rfl
  · refine (ReferenceIdeal.final6 m' c _ _ _ _ (fun n k p => (congrFun e0 _).trans (rx (KernelIdeal.argAt n k p))) (fun k => (congrFun e1 _).trans (rg (KernelIdeal.rowAt k)))
      (fun k => (congrFun e2 _).trans (rb (KernelIdeal.rowAt k))) ((congrFun e4 _).trans rs) hs).trans ?_
    refine Eq.trans ?_ (KernelIdeal.dbetaAt_ideal m c _ _ _ _ (fun n k p => rx (KernelIdeal.argAt n k p)) (fun k => rg (KernelIdeal.rowAt k)) (fun k => rb (KernelIdeal.rowAt k)) rs).symm
    rw [e3]
    rfl

theorem claim : Cert.Claim :=
  ⟨Cert.Kernel.Gen.facts, Cert.KernelIdeal.Gen.facts, Cert.ReferenceIdeal.Gen.facts, Cert.Pre_tame.Gen.facts, KernelIdeal.frame_plain, frame_ideal, frame_ideal_tame,
    frame_reference, frame_reference_tame, preserves, algebraic⟩

end Cert.Proof

end
